-- ==== Defs.lean ====
def Pre_Kernel [hPre_labels : Cert.Pre_labels.Facts] (m : (ℓ : Loc Cert.Kernel.nD Cert.Kernel.τ Cert.Kernel.sig) → Buf (Elt Bits) ℓ) : Prop :=
  ∀ c : Dev Cert.Kernel.nD,
    (Cert.Pre_labels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels : Cert.Pre_labels.Facts] (m : (ℓ : Loc Cert.KernelIdeal.nD Cert.KernelIdeal.τ Cert.KernelIdeal.sig) → Buf (Elt Ideal) ℓ) : Prop :=
  ∀ c : Dev Cert.KernelIdeal.nD,
    (Cert.Pre_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels : Cert.Pre_labels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels : Cert.Pre_labels.Facts) (hPre_drawn : Cert.Pre_drawn.Facts),
    quiescent_Kernel (hKernel := hKernel) (hPre_labels := hPre_labels)
    ∧ quiescent_KernelIdeal (hKernelIdeal := hKernelIdeal) (hPre_labels := hPre_labels)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 1 := constantI S_ 1 1#1
  let main_v6 : IVec S_ 1 := (fun x v => Host.reduce IntOp.andi x v reducesTo_S8x512x512_S_d0_1_2 h_S_) main_v5 main_c_1
  let main_c_2 : IVec S_ 32 := constantI S_ 32 19#32
  let main_v7 : IVec S8x512x512 32 := broadcastInDim S8x512x512 ![] bcast_S_S8x512x512 main_c_2
  let main_v8 : IVec S8x512x512 1 := cmpi .slt main_arg1 main_v7
  let main_c_3 : IVec S_ 1 := constantI S_ 1 1#1
  let main_v9 : IVec S_ 1 := (fun x v => Host.reduce IntOp.andi x v reducesTo_S8x512x512_S_d0_1_2 h_S_) main_v8 main_c_3
  let main_v10 : IVec S_ 1 := andi main_v6 main_v9
  let main_v11 : IVec S_ 1 := andi main_v3 main_v10
  main_v11
-- ==== Pre_labels.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x19x512x512 .f32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 1 := constantI S_ 1 1#1
  let main_v2 : IVec S_ 1 := (fun x v => Host.reduce IntOp.andi x v reducesTo_S8x512x512_S_d0_1_2 h_S_) main_v1 main_c_0
  let main_c_1 : IVec S_ 32 := constantI S_ 32 19#32
  let main_v3 : IVec S8x512x512 32 := broadcastInDim S8x512x512 ![] bcast_S_S8x512x512 main_c_1
  let main_v4 : IVec S8x512x512 1 := cmpi .slt main_arg1 main_v3
  let main_c_2 : IVec S_ 1 := constantI S_ 1 1#1
  let main_v5 : IVec S_ 1 := (fun x v => Host.reduce IntOp.andi x v reducesTo_S8x512x512_S_d0_1_2 h_S_) main_v4 main_c_2
  let main_v6 : IVec S_ 1 := andi main_v2 main_v5
  main_v6
-- ==== Kernel.lean ====
abbrev S8x19x512x512 : Shape := ⟨4, ![8, 19, 512, 512]⟩
abbrev S8x512x512 : Shape := ⟨3, ![8, 512, 512]⟩
abbrev S19x5904 : Shape := ⟨2, ![19, 5904]⟩
abbrev S4x512x512 : Shape := ⟨3, ![4, 512, 512]⟩
abbrev S1x256x512 : Shape := ⟨3, ![1, 256, 512]⟩
abbrev S1x19x256x512 : Shape := ⟨4, ![1, 19, 256, 512]⟩
abbrev S19x256x512 : Shape := ⟨3, ![19, 256, 512]⟩
abbrev S256x512 : Shape := ⟨2, ![256, 512]⟩
abbrev S32x5904 : Shape := ⟨2, ![32, 5904]⟩
abbrev S64x512 : Shape := ⟨2, ![64, 512]⟩
abbrev S5904 : Shape := ⟨1, ![5904]⟩
abbrev S_ : Shape := ⟨0, ![]⟩
abbrev S16 : Shape := ⟨1, ![16]⟩
abbrev S1x64x512 : Shape := ⟨3, ![1, 64, 512]⟩
abbrev S1x16 : Shape := ⟨2, ![1, 16]⟩
abbrev S1x5904 : Shape := ⟨2, ![1, 5904]⟩
abbrev S1x1 : Shape := ⟨2, ![1, 1]⟩
abbrev S19 : Shape := ⟨1, ![19]⟩
abbrev S1x19 : Shape := ⟨2, ![1, 19]⟩
abbrev S1 : Shape := ⟨1, ![1]⟩

abbrev nBuf : Table → Nat
  | .hbm => 29
  | .local .tc .vmem => 18
  | .local .scVector .vmem => 10
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S19x5904, .i32⟩
  | .hbm, ⟨3, _⟩ => ⟨S19x5904, .i32⟩
  | .hbm, ⟨4, _⟩ => ⟨S19x5904, .i32⟩
  | .hbm, ⟨5, _⟩ => ⟨S19x5904, .i32⟩
  | .hbm, ⟨6, _⟩ => ⟨S19x5904, .i32⟩
  | .hbm, ⟨7, _⟩ => ⟨S19x5904, .i32⟩
  | .hbm, ⟨8, _⟩ => ⟨S19x5904, .i32⟩
  | .hbm, ⟨9, _⟩ => ⟨S19x5904, .i32⟩
  | .hbm, ⟨10, _⟩ => ⟨S19x5904, .i32⟩
  | .hbm, ⟨11, _⟩ => ⟨S19x5904, .i1⟩
  | .hbm, ⟨12, _⟩ => ⟨S19x5904, .i32⟩
  | .hbm, ⟨13, _⟩ => ⟨S19x5904, .i1⟩
  | .hbm, ⟨14, _⟩ => ⟨S19x5904, .i1⟩
  | .hbm, ⟨15, _⟩ => ⟨S19x5904, .f32⟩
  | .hbm, ⟨16, _⟩ => ⟨S19x5904, .i1⟩
  | .hbm, ⟨17, _⟩ => ⟨S19x5904, .i1⟩
  | .hbm, ⟨18, _⟩ => ⟨S19x5904, .f32⟩
  | .hbm, ⟨19, _⟩ => ⟨S19x5904, .i32⟩
  | .hbm, ⟨20, _⟩ => ⟨S19x5904, .i1⟩
  | .hbm, ⟨21, _⟩ => ⟨S19x5904, .i1⟩
  | .hbm, ⟨22, _⟩ => ⟨S19x5904, .f32⟩
  | .hbm, ⟨23, _⟩ => ⟨S4x512x512, .i32⟩
  | .hbm, ⟨24, _⟩ => ⟨S32x5904, .f32⟩
  | .hbm, ⟨25, _⟩ => ⟨S4x512x512, .i32⟩
  | .hbm, ⟨26, _⟩ => ⟨S32x5904, .f32⟩
  | .hbm, ⟨27, _⟩ => ⟨S1x1, .f32⟩
  | .hbm, ⟨28, _⟩ => ⟨S_, .f32⟩
  | .local .tc .vmem, ⟨0, _⟩ => ⟨S1x256x512, .i32⟩
  | .local .tc .vmem, ⟨1, _⟩ => ⟨S1x256x512, .i32⟩
  | .local .tc .vmem, ⟨2, _⟩ => ⟨S1x19x256x512, .f32⟩
  | .local .tc .vmem, ⟨3, _⟩ => ⟨S1x19x256x512, .f32⟩
  | .local .tc .vmem, ⟨4, _⟩ => ⟨S1x256x512, .i32⟩
  | .local .tc .vmem, ⟨5, _⟩ => ⟨S1x256x512, .i32⟩
  | .local .tc .vmem, ⟨6, _⟩ => ⟨S1x256x512, .i32⟩
  | .local .tc .vmem, ⟨7, _⟩ => ⟨S1x256x512, .i32⟩
  | .local .tc .vmem, ⟨8, _⟩ => ⟨S1x19x256x512, .f32⟩
  | .local .tc .vmem, ⟨9, _⟩ => ⟨S1x19x256x512, .f32⟩
  | .local .tc .vmem, ⟨10, _⟩ => ⟨S1x256x512, .i32⟩
  | .local .tc .vmem, ⟨11, _⟩ => ⟨S1x256x512, .i32⟩
  | .local .tc .vmem, ⟨12, _⟩ => ⟨S32x5904, .f32⟩
  | .local .tc .vmem, ⟨13, _⟩ => ⟨S32x5904, .f32⟩
  | .local .tc .vmem, ⟨14, _⟩ => ⟨S19x5904, .f32⟩
  | .local .tc .vmem, ⟨15, _⟩ => ⟨S19x5904, .f32⟩
  | .local .tc .vmem, ⟨16, _⟩ => ⟨S19x5904, .f32⟩
  | .local .tc .vmem, ⟨17, _⟩ => ⟨S1x1, .f32⟩
  | .local .scVector .vmem, ⟨0, _⟩ => ⟨S64x512, .i32⟩
  | .local .scVector .vmem, ⟨1, _⟩ => ⟨S5904, .f32⟩
  | .local .scVector .vmem, ⟨2, _⟩ => ⟨S5904, .f32⟩
  | .local .scVector .vmem, ⟨3, _⟩ => ⟨S5904, .f32⟩
  | .local .scVector .vmem, ⟨4, _⟩ => ⟨S5904, .f32⟩
  | .local .scVector .vmem, ⟨5, _⟩ => ⟨S64x512, .i32⟩
  | .local .scVector .vmem, ⟨6, _⟩ => ⟨S5904, .f32⟩
  | .local .scVector .vmem, ⟨7, _⟩ => ⟨S5904, .f32⟩
  | .local .scVector .vmem, ⟨8, _⟩ => ⟨S5904, .f32⟩
  | .local .scVector .vmem, ⟨9, _⟩ => ⟨S5904, .f32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v16_scv : Ref sig .scVector := ⟨.hbm, 23, rfl⟩
abbrev main_v17_scv : Ref sig .scVector := ⟨.hbm, 24, rfl⟩
abbrev main_v18_scv : Ref sig .scVector := ⟨.hbm, 25, rfl⟩
abbrev main_v19_scv : Ref sig .scVector := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc4_stg3_0 : Ref sig .tc := ⟨.vmem, 15, rfl⟩
abbrev cc4_stg4_0 : Ref sig .tc := ⟨.vmem, 16, rfl⟩
abbrev cc4_stg5_0 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc4_sem0_0 : DmaSem sig := 16
abbrev cc4_sem1_0 : DmaSem sig := 17
abbrev cc4_sem2_0 : DmaSem sig := 18
abbrev cc4_sem3_0 : DmaSem sig := 19
abbrev cc4_sem4_0 : DmaSem sig := 20
abbrev cc4_sem5_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  let c0_i32_11 : BitVec 32 := 0#32
  ![v18.toNat, v29.toNat, 0]
@[reducible] def k1_t1_loop : Scf.Loop 32 :=
  let c0_i32_13 : BitVec 32 := 0#32
  let c369_i32_14 : BitVec 32 := 369#32
  let v39 : BitVec 32 := Scalar.addi c0_i32_13 c369_i32_14
  let c1_i32_15 : BitVec 32 := 1#32
  ⟨c0_i32_13, v39, c1_i32_15⟩
def k1_off2 (k1_t1 : Fin k1_t1_loop.trips) : Fin 1 → Nat :=
  let c0_i32_27 : BitVec 32 := 0#32
  let c0_i32_13 : BitVec 32 := 0#32
  let c1_i32_15 : BitVec 32 := 1#32
  let arg10 : BitVec 32 := Scf.iv c0_i32_13 c1_i32_15 k1_t1
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v49 : Index := Scalar.indexCast v48
  ![v49.toNat]
@[reducible] def k1_t2_loop : Scf.Loop 32 :=
  let c0_i32_19 : BitVec 32 := 0#32
  let c32_i32 : BitVec 32 := 32#32
  let v44 : BitVec 32 := Scalar.addi c0_i32_19 c32_i32
  let c1_i32_20 : BitVec 32 := 1#32
  ⟨c0_i32_19, v44, c1_i32_20⟩
def k1_off3 (k1_t2 : Fin k1_t2_loop.trips) : Fin 2 → Nat :=
  let c0_i32_28 : BitVec 32 := 0#32
  let v49 : Index := Scalar.indexCast c0_i32_28
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v50 : Index := Scalar.indexCast v48
  ![0, v50.toNat]

def k1_chk1 (v52 : IVec S16 32) : Prop :=
  (∀ a x, ((![v52] : Fin 1 → IVec S16 32) a x).toNat < S5904.size a)
theorem k1_idx1_inb : ∀ (v52 : IVec S16 32) (k1_hw1 : k1_chk1 v52), ∀ a x, ((![v52] : Fin 1 → IVec S16 32) a x).toNat < S5904.size a := fun v52 k1_hw1 => k1_hw1
def k1_off4 (k1_t2 : Fin k1_t2_loop.trips) : Fin 2 → Nat :=
  let c1_i32_29 : BitVec 32 := 1#32
  let v53 : Index := Scalar.indexCast c1_i32_29
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v54 : Index := Scalar.indexCast v48
  ![1, v54.toNat]

def k1_chk2 (v56 : IVec S16 32) : Prop :=
  (∀ a x, ((![v56] : Fin 1 → IVec S16 32) a x).toNat < S5904.size a)
theorem k1_idx2_inb : ∀ (v56 : IVec S16 32) (k1_hw2 : k1_chk2 v56), ∀ a x, ((![v56] : Fin 1 → IVec S16 32) a x).toNat < S5904.size a := fun v56 k1_hw2 => k1_hw2
def k1_off5 (k1_t2 : Fin k1_t2_loop.trips) : Fin 2 → Nat :=
  let c2_i32_30 : BitVec 32 := 2#32
  let v57 : Index := Scalar.indexCast c2_i32_30
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v58 : Index := Scalar.indexCast v48
  ![2, v58.toNat]

def k1_chk3 (v60 : IVec S16 32) : Prop :=
  (∀ a x, ((![v60] : Fin 1 → IVec S16 32) a x).toNat < S5904.size a)
theorem k1_idx3_inb : ∀ (v60 : IVec S16 32) (k1_hw3 : k1_chk3 v60), ∀ a x, ((![v60] : Fin 1 → IVec S16 32) a x).toNat < S5904.size a := fun v60 k1_hw3 => k1_hw3
def k1_off6 (k1_t2 : Fin k1_t2_loop.trips) : Fin 2 → Nat :=
  let c3_i32 : BitVec 32 := 3#32
  let v61 : Index := Scalar.indexCast c3_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v62 : Index := Scalar.indexCast v48
  ![3, v62.toNat]

def k1_chk4 (v64 : IVec S16 32) : Prop :=
  (∀ a x, ((![v64] : Fin 1 → IVec S16 32) a x).toNat < S5904.size a)
theorem k1_idx4_inb : ∀ (v64 : IVec S16 32) (k1_hw4 : k1_chk4 v64), ∀ a x, ((![v64] : Fin 1 → IVec S16 32) a x).toNat < S5904.size a := fun v64 k1_hw4 => k1_hw4
def k1_off7 (k1_t2 : Fin k1_t2_loop.trips) : Fin 2 → Nat :=
  let c4_i32 : BitVec 32 := 4#32
  let v65 : Index := Scalar.indexCast c4_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v66 : Index := Scalar.indexCast v48
  ![4, v66.toNat]

def k1_chk5 (v68 : IVec S16 32) : Prop :=
  (∀ a x, ((![v68] : Fin 1 → IVec S16 32) a x).toNat < S5904.size a)
theorem k1_idx5_inb : ∀ (v68 : IVec S16 32) (k1_hw5 : k1_chk5 v68), ∀ a x, ((![v68] : Fin 1 → IVec S16 32) a x).toNat < S5904.size a := fun v68 k1_hw5 => k1_hw5
def k1_off8 (k1_t2 : Fin k1_t2_loop.trips) : Fin 2 → Nat :=
  let c5_i32 : BitVec 32 := 5#32
  let v69 : Index := Scalar.indexCast c5_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v70 : Index := Scalar.indexCast v48
  ![5, v70.toNat]

def k1_chk6 (v72 : IVec S16 32) : Prop :=
  (∀ a x, ((![v72] : Fin 1 → IVec S16 32) a x).toNat < S5904.size a)
theorem k1_idx6_inb : ∀ (v72 : IVec S16 32) (k1_hw6 : k1_chk6 v72), ∀ a x, ((![v72] : Fin 1 → IVec S16 32) a x).toNat < S5904.size a := fun v72 k1_hw6 => k1_hw6
def k1_off9 (k1_t2 : Fin k1_t2_loop.trips) : Fin 2 → Nat :=
  let c6_i32 : BitVec 32 := 6#32
  let v73 : Index := Scalar.indexCast c6_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v74 : Index := Scalar.indexCast v48
  ![6, v74.toNat]

def k1_chk7 (v76 : IVec S16 32) : Prop :=
  (∀ a x, ((![v76] : Fin 1 → IVec S16 32) a x).toNat < S5904.size a)
theorem k1_idx7_inb : ∀ (v76 : IVec S16 32) (k1_hw7 : k1_chk7 v76), ∀ a x, ((![v76] : Fin 1 → IVec S16 32) a x).toNat < S5904.size a := fun v76 k1_hw7 => k1_hw7
def k1_off10 (k1_t2 : Fin k1_t2_loop.trips) : Fin 2 → Nat :=
  let c7_i32 : BitVec 32 := 7#32
  let v77 : Index := Scalar.indexCast c7_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v78 : Index := Scalar.indexCast v48
  ![7, v78.toNat]

def k1_chk8 (v80 : IVec S16 32) : Prop :=
  (∀ a x, ((![v80] : Fin 1 → IVec S16 32) a x).toNat < S5904.size a)
theorem k1_idx8_inb : ∀ (v80 : IVec S16 32) (k1_hw8 : k1_chk8 v80), ∀ a x, ((![v80] : Fin 1 → IVec S16 32) a x).toNat < S5904.size a := fun v80 k1_hw8 => k1_hw8
def k1_off11 (k1_t2 : Fin k1_t2_loop.trips) : Fin 2 → Nat :=
  let c8_i32_31 : BitVec 32 := 8#32
  let v81 : Index := Scalar.indexCast c8_i32_31
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v82 : Index := Scalar.indexCast v48
  ![8, v82.toNat]

def k1_chk9 (v84 : IVec S16 32) : Prop :=
  (∀ a x, ((![v84] : Fin 1 → IVec S16 32) a x).toNat < S5904.size a)
theorem k1_idx9_inb : ∀ (v84 : IVec S16 32) (k1_hw9 : k1_chk9 v84), ∀ a x, ((![v84] : Fin 1 → IVec S16 32) a x).toNat < S5904.size a := fun v84 k1_hw9 => k1_hw9
def k1_off12 (k1_t2 : Fin k1_t2_loop.trips) : Fin 2 → Nat :=
  let c9_i32 : BitVec 32 := 9#32
  let v85 : Index := Scalar.indexCast c9_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v86 : Index := Scalar.indexCast v48
  ![9, v86.toNat]

def k1_chk10 (v88 : IVec S16 32) : Prop :=
  (∀ a x, ((![v88] : Fin 1 → IVec S16 32) a x).toNat < S5904.size a)
theorem k1_idx10_inb : ∀ (v88 : IVec S16 32) (k1_hw10 : k1_chk10 v88), ∀ a x, ((![v88] : Fin 1 → IVec S16 32) a x).toNat < S5904.size a := fun v88 k1_hw10 => k1_hw10
def k1_off13 (k1_t2 : Fin k1_t2_loop.trips) : Fin 2 → Nat :=
  let c10_i32 : BitVec 32 := 10#32
  let v89 : Index := Scalar.indexCast c10_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v90 : Index := Scalar.indexCast v48
  ![10, v90.toNat]

def k1_chk11 (v92 : IVec S16 32) : Prop :=
  (∀ a x, ((![v92] : Fin 1 → IVec S16 32) a x).toNat < S5904.size a)
theorem k1_idx11_inb : ∀ (v92 : IVec S16 32) (k1_hw11 : k1_chk11 v92), ∀ a x, ((![v92] : Fin 1 → IVec S16 32) a x).toNat < S5904.size a := fun v92 k1_hw11 => k1_hw11
def k1_off14 (k1_t2 : Fin k1_t2_loop.trips) : Fin 2 → Nat :=
  let c11_i32 : BitVec 32 := 11#32
  let v93 : Index := Scalar.indexCast c11_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v94 : Index := Scalar.indexCast v48
  ![11, v94.toNat]

def k1_chk12 (v96 : IVec S16 32) : Prop :=
  (∀ a x, ((![v96] : Fin 1 → IVec S16 32) a x).toNat < S5904.size a)
theorem k1_idx12_inb : ∀ (v96 : IVec S16 32) (k1_hw12 : k1_chk12 v96), ∀ a x, ((![v96] : Fin 1 → IVec S16 32) a x).toNat < S5904.size a := fun v96 k1_hw12 => k1_hw12
def k1_off15 (k1_t2 : Fin k1_t2_loop.trips) : Fin 2 → Nat :=
  let c12_i32 : BitVec 32 := 12#32
  let v97 : Index := Scalar.indexCast c12_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v98 : Index := Scalar.indexCast v48
  ![12, v98.toNat]

def k1_chk13 (v100 : IVec S16 32) : Prop :=
  (∀ a x, ((![v100] : Fin 1 → IVec S16 32) a x).toNat < S5904.size a)
theorem k1_idx13_inb : ∀ (v100 : IVec S16 32) (k1_hw13 : k1_chk13 v100), ∀ a x, ((![v100] : Fin 1 → IVec S16 32) a x).toNat < S5904.size a := fun v100 k1_hw13 => k1_hw13
def k1_off16 (k1_t2 : Fin k1_t2_loop.trips) : Fin 2 → Nat :=
  let c13_i32 : BitVec 32 := 13#32
  let v101 : Index := Scalar.indexCast c13_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v102 : Index := Scalar.indexCast v48
  ![13, v102.toNat]

def k1_chk14 (v104 : IVec S16 32) : Prop :=
  (∀ a x, ((![v104] : Fin 1 → IVec S16 32) a x).toNat < S5904.size a)
theorem k1_idx14_inb : ∀ (v104 : IVec S16 32) (k1_hw14 : k1_chk14 v104), ∀ a x, ((![v104] : Fin 1 → IVec S16 32) a x).toNat < S5904.size a := fun v104 k1_hw14 => k1_hw14
def k1_off17 (k1_t2 : Fin k1_t2_loop.trips) : Fin 2 → Nat :=
  let c14_i32 : BitVec 32 := 14#32
  let v105 : Index := Scalar.indexCast c14_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v106 : Index := Scalar.indexCast v48
  ![14, v106.toNat]

def k1_chk15 (v108 : IVec S16 32) : Prop :=
  (∀ a x, ((![v108] : Fin 1 → IVec S16 32) a x).toNat < S5904.size a)
theorem k1_idx15_inb : ∀ (v108 : IVec S16 32) (k1_hw15 : k1_chk15 v108), ∀ a x, ((![v108] : Fin 1 → IVec S16 32) a x).toNat < S5904.size a := fun v108 k1_hw15 => k1_hw15
def k1_off18 (k1_t2 : Fin k1_t2_loop.trips) : Fin 2 → Nat :=
  let c15_i32 : BitVec 32 := 15#32
  let v109 : Index := Scalar.indexCast c15_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v110 : Index := Scalar.indexCast v48
  ![15, v110.toNat]

def k1_chk16 (v112 : IVec S16 32) : Prop :=
  (∀ a x, ((![v112] : Fin 1 → IVec S16 32) a x).toNat < S5904.size a)
theorem k1_idx16_inb : ∀ (v112 : IVec S16 32) (k1_hw16 : k1_chk16 v112), ∀ a x, ((![v112] : Fin 1 → IVec S16 32) a x).toNat < S5904.size a := fun v112 k1_hw16 => k1_hw16
def k1_off19 (k1_t2 : Fin k1_t2_loop.trips) : Fin 2 → Nat :=
  let c16_i32_32 : BitVec 32 := 16#32
  let v113 : Index := Scalar.indexCast c16_i32_32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v114 : Index := Scalar.indexCast v48
  ![16, v114.toNat]

def k1_chk17 (v116 : IVec S16 32) : Prop :=
  (∀ a x, ((![v116] : Fin 1 → IVec S16 32) a x).toNat < S5904.size a)
theorem k1_idx17_inb : ∀ (v116 : IVec S16 32) (k1_hw17 : k1_chk17 v116), ∀ a x, ((![v116] : Fin 1 → IVec S16 32) a x).toNat < S5904.size a := fun v116 k1_hw17 => k1_hw17
def k1_off20 (k1_t2 : Fin k1_t2_loop.trips) : Fin 2 → Nat :=
  let c17_i32 : BitVec 32 := 17#32
  let v117 : Index := Scalar.indexCast c17_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v118 : Index := Scalar.indexCast v48
  ![17, v118.toNat]

def k1_chk18 (v120 : IVec S16 32) : Prop :=
  (∀ a x, ((![v120] : Fin 1 → IVec S16 32) a x).toNat < S5904.size a)
theorem k1_idx18_inb : ∀ (v120 : IVec S16 32) (k1_hw18 : k1_chk18 v120), ∀ a x, ((![v120] : Fin 1 → IVec S16 32) a x).toNat < S5904.size a := fun v120 k1_hw18 => k1_hw18
def k1_off21 (k1_t2 : Fin k1_t2_loop.trips) : Fin 2 → Nat :=
  let c18_i32 : BitVec 32 := 18#32
  let v121 : Index := Scalar.indexCast c18_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v122 : Index := Scalar.indexCast v48
  ![18, v122.toNat]

def k1_chk19 (v124 : IVec S16 32) : Prop :=
  (∀ a x, ((![v124] : Fin 1 → IVec S16 32) a x).toNat < S5904.size a)
theorem k1_idx19_inb : ∀ (v124 : IVec S16 32) (k1_hw19 : k1_chk19 v124), ∀ a x, ((![v124] : Fin 1 → IVec S16 32) a x).toNat < S5904.size a := fun v124 k1_hw19 => k1_hw19
def k1_off22 (k1_t2 : Fin k1_t2_loop.trips) : Fin 2 → Nat :=
  let c19_i32 : BitVec 32 := 19#32
  let v125 : Index := Scalar.indexCast c19_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v126 : Index := Scalar.indexCast v48
  ![19, v126.toNat]

def k1_chk20 (v128 : IVec S16 32) : Prop :=
  (∀ a x, ((![v128] : Fin 1 → IVec S16 32) a x).toNat < S5904.size a)
theorem k1_idx20_inb : ∀ (v128 : IVec S16 32) (k1_hw20 : k1_chk20 v128), ∀ a x, ((![v128] : Fin 1 → IVec S16 32) a x).toNat < S5904.size a := fun v128 k1_hw20 => k1_hw20
def k1_off23 (k1_t2 : Fin k1_t2_loop.trips) : Fin 2 → Nat :=
  let c20_i32 : BitVec 32 := 20#32
  let v129 : Index := Scalar.indexCast c20_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v130 : Index := Scalar.indexCast v48
  ![20, v130.toNat]

def k1_chk21 (v132 : IVec S16 32) : Prop :=
  (∀ a x, ((![v132] : Fin 1 → IVec S16 32) a x).toNat < S5904.size a)
theorem k1_idx21_inb : ∀ (v132 : IVec S16 32) (k1_hw21 : k1_chk21 v132), ∀ a x, ((![v132] : Fin 1 → IVec S16 32) a x).toNat < S5904.size a := fun v132 k1_hw21 => k1_hw21
def k1_off24 (k1_t2 : Fin k1_t2_loop.trips) : Fin 2 → Nat :=
  let c21_i32 : BitVec 32 := 21#32
  let v133 : Index := Scalar.indexCast c21_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v134 : Index := Scalar.indexCast v48
  ![21, v134.toNat]

def k1_chk22 (v136 : IVec S16 32) : Prop :=
  (∀ a x, ((![v136] : Fin 1 → IVec S16 32) a x).toNat < S5904.size a)
theorem k1_idx22_inb : ∀ (v136 : IVec S16 32) (k1_hw22 : k1_chk22 v136), ∀ a x, ((![v136] : Fin 1 → IVec S16 32) a x).toNat < S5904.size a := fun v136 k1_hw22 => k1_hw22
def k1_off25 (k1_t2 : Fin k1_t2_loop.trips) : Fin 2 → Nat :=
  let c22_i32 : BitVec 32 := 22#32
  let v137 : Index := Scalar.indexCast c22_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v138 : Index := Scalar.indexCast v48
  ![22, v138.toNat]

def k1_chk23 (v140 : IVec S16 32) : Prop :=
  (∀ a x, ((![v140] : Fin 1 → IVec S16 32) a x).toNat < S5904.size a)
theorem k1_idx23_inb : ∀ (v140 : IVec S16 32) (k1_hw23 : k1_chk23 v140), ∀ a x, ((![v140] : Fin 1 → IVec S16 32) a x).toNat < S5904.size a := fun v140 k1_hw23 => k1_hw23
def k1_off26 (k1_t2 : Fin k1_t2_loop.trips) : Fin 2 → Nat :=
  let c23_i32 : BitVec 32 := 23#32
  let v141 : Index := Scalar.indexCast c23_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v142 : Index := Scalar.indexCast v48
  ![23, v142.toNat]

def k1_chk24 (v144 : IVec S16 32) : Prop :=
  (∀ a x, ((![v144] : Fin 1 → IVec S16 32) a x).toNat < S5904.size a)
theorem k1_idx24_inb : ∀ (v144 : IVec S16 32) (k1_hw24 : k1_chk24 v144), ∀ a x, ((![v144] : Fin 1 → IVec S16 32) a x).toNat < S5904.size a := fun v144 k1_hw24 => k1_hw24
def k1_off27 (k1_t2 : Fin k1_t2_loop.trips) : Fin 2 → Nat :=
  let c24_i32 : BitVec 32 := 24#32
  let v145 : Index := Scalar.indexCast c24_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v146 : Index := Scalar.indexCast v48
  ![24, v146.toNat]

def k1_chk25 (v148 : IVec S16 32) : Prop :=
  (∀ a x, ((![v148] : Fin 1 → IVec S16 32) a x).toNat < S5904.size a)
theorem k1_idx25_inb : ∀ (v148 : IVec S16 32) (k1_hw25 : k1_chk25 v148), ∀ a x, ((![v148] : Fin 1 → IVec S16 32) a x).toNat < S5904.size a := fun v148 k1_hw25 => k1_hw25
def k1_off28 (k1_t2 : Fin k1_t2_loop.trips) : Fin 2 → Nat :=
  let c25_i32 : BitVec 32 := 25#32
  let v149 : Index := Scalar.indexCast c25_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v150 : Index := Scalar.indexCast v48
  ![25, v150.toNat]

def k1_chk26 (v152 : IVec S16 32) : Prop :=
  (∀ a x, ((![v152] : Fin 1 → IVec S16 32) a x).toNat < S5904.size a)
theorem k1_idx26_inb : ∀ (v152 : IVec S16 32) (k1_hw26 : k1_chk26 v152), ∀ a x, ((![v152] : Fin 1 → IVec S16 32) a x).toNat < S5904.size a := fun v152 k1_hw26 => k1_hw26
def k1_off29 (k1_t2 : Fin k1_t2_loop.trips) : Fin 2 → Nat :=
  let c26_i32 : BitVec 32 := 26#32
  let v153 : Index := Scalar.indexCast c26_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v154 : Index := Scalar.indexCast v48
  ![26, v154.toNat]

def k1_chk27 (v156 : IVec S16 32) : Prop :=
  (∀ a x, ((![v156] : Fin 1 → IVec S16 32) a x).toNat < S5904.size a)
theorem k1_idx27_inb : ∀ (v156 : IVec S16 32) (k1_hw27 : k1_chk27 v156), ∀ a x, ((![v156] : Fin 1 → IVec S16 32) a x).toNat < S5904.size a := fun v156 k1_hw27 => k1_hw27
def k1_off30 (k1_t2 : Fin k1_t2_loop.trips) : Fin 2 → Nat :=
  let c27_i32 : BitVec 32 := 27#32
  let v157 : Index := Scalar.indexCast c27_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v158 : Index := Scalar.indexCast v48
  ![27, v158.toNat]

def k1_chk28 (v160 : IVec S16 32) : Prop :=
  (∀ a x, ((![v160] : Fin 1 → IVec S16 32) a x).toNat < S5904.size a)
theorem k1_idx28_inb : ∀ (v160 : IVec S16 32) (k1_hw28 : k1_chk28 v160), ∀ a x, ((![v160] : Fin 1 → IVec S16 32) a x).toNat < S5904.size a := fun v160 k1_hw28 => k1_hw28
def k1_off31 (k1_t2 : Fin k1_t2_loop.trips) : Fin 2 → Nat :=
  let c28_i32 : BitVec 32 := 28#32
  let v161 : Index := Scalar.indexCast c28_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v162 : Index := Scalar.indexCast v48
  ![28, v162.toNat]

def k1_chk29 (v164 : IVec S16 32) : Prop :=
  (∀ a x, ((![v164] : Fin 1 → IVec S16 32) a x).toNat < S5904.size a)
theorem k1_idx29_inb : ∀ (v164 : IVec S16 32) (k1_hw29 : k1_chk29 v164), ∀ a x, ((![v164] : Fin 1 → IVec S16 32) a x).toNat < S5904.size a := fun v164 k1_hw29 => k1_hw29
def k1_off32 (k1_t2 : Fin k1_t2_loop.trips) : Fin 2 → Nat :=
  let c29_i32 : BitVec 32 := 29#32
  let v165 : Index := Scalar.indexCast c29_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v166 : Index := Scalar.indexCast v48
  ![29, v166.toNat]

def k1_chk30 (v168 : IVec S16 32) : Prop :=
  (∀ a x, ((![v168] : Fin 1 → IVec S16 32) a x).toNat < S5904.size a)
theorem k1_idx30_inb : ∀ (v168 : IVec S16 32) (k1_hw30 : k1_chk30 v168), ∀ a x, ((![v168] : Fin 1 → IVec S16 32) a x).toNat < S5904.size a := fun v168 k1_hw30 => k1_hw30
def k1_off33 (k1_t2 : Fin k1_t2_loop.trips) : Fin 2 → Nat :=
  let c30_i32 : BitVec 32 := 30#32
  let v169 : Index := Scalar.indexCast c30_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v170 : Index := Scalar.indexCast v48
  ![30, v170.toNat]

def k1_chk31 (v172 : IVec S16 32) : Prop :=
  (∀ a x, ((![v172] : Fin 1 → IVec S16 32) a x).toNat < S5904.size a)
theorem k1_idx31_inb : ∀ (v172 : IVec S16 32) (k1_hw31 : k1_chk31 v172), ∀ a x, ((![v172] : Fin 1 → IVec S16 32) a x).toNat < S5904.size a := fun v172 k1_hw31 => k1_hw31
def k1_off34 (k1_t2 : Fin k1_t2_loop.trips) : Fin 2 → Nat :=
  let c31_i32 : BitVec 32 := 31#32
  let v173 : Index := Scalar.indexCast c31_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v174 : Index := Scalar.indexCast v48
  ![31, v174.toNat]

def k1_chk32 (v176 : IVec S16 32) : Prop :=
  (∀ a x, ((![v176] : Fin 1 → IVec S16 32) a x).toNat < S5904.size a)
theorem k1_idx32_inb : ∀ (v176 : IVec S16 32) (k1_hw32 : k1_chk32 v176), ∀ a x, ((![v176] : Fin 1 → IVec S16 32) a x).toNat < S5904.size a := fun v176 k1_hw32 => k1_hw32
def k1_off35 (k1_t2 : Fin k1_t2_loop.trips) : Fin 2 → Nat :=
  let c32_i32_33 : BitVec 32 := 32#32
  let v177 : Index := Scalar.indexCast c32_i32_33
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v178 : Index := Scalar.indexCast v48
  ![32, v178.toNat]

def k1_chk33 (v180 : IVec S16 32) : Prop :=
  (∀ a x, ((![v180] : Fin 1 → IVec S16 32) a x).toNat < S5904.size a)
theorem k1_idx33_inb : ∀ (v180 : IVec S16 32) (k1_hw33 : k1_chk33 v180), ∀ a x, ((![v180] : Fin 1 → IVec S16 32) a x).toNat < S5904.size a := fun v180 k1_hw33 => k1_hw33
def k1_off36 (k1_t2 : Fin k1_t2_loop.trips) : Fin 2 → Nat :=
  let c33_i32 : BitVec 32 := 33#32
  let v181 : Index := Scalar.indexCast c33_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v182 : Index := Scalar.indexCast v48
  ![33, v182.toNat]

def k1_chk34 (v184 : IVec S16 32) : Prop :=
  (∀ a x, ((![v184] : Fin 1 → IVec S16 32) a x).toNat < S5904.size a)
theorem k1_idx34_inb : ∀ (v184 : IVec S16 32) (k1_hw34 : k1_chk34 v184), ∀ a x, ((![v184] : Fin 1 → IVec S16 32) a x).toNat < S5904.size a := fun v184 k1_hw34 => k1_hw34
def k1_off37 (k1_t2 : Fin k1_t2_loop.trips) : Fin 2 → Nat :=
  let c34_i32 : BitVec 32 := 34#32
  let v185 : Index := Scalar.indexCast c34_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v186 : Index := Scalar.indexCast v48
  ![34, v186.toNat]

def k1_chk35 (v188 : IVec S16 32) : Prop :=
  (∀ a x, ((![v188] : Fin 1 → IVec S16 32) a x).toNat < S5904.size a)
theorem k1_idx35_inb : ∀ (v188 : IVec S16 32) (k1_hw35 : k1_chk35 v188), ∀ a x, ((![v188] : Fin 1 → IVec S16 32) a x).toNat < S5904.size a := fun v188 k1_hw35 => k1_hw35
def k1_off38 (k1_t2 : Fin k1_t2_loop.trips) : Fin 2 → Nat :=
  let c35_i32 : BitVec 32 := 35#32
  let v189 : Index := Scalar.indexCast c35_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v190 : Index := Scalar.indexCast v48
  ![35, v190.toNat]

def k1_chk36 (v192 : IVec S16 32) : Prop :=
  (∀ a x, ((![v192] : Fin 1 → IVec S16 32) a x).toNat < S5904.size a)
theorem k1_idx36_inb : ∀ (v192 : IVec S16 32) (k1_hw36 : k1_chk36 v192), ∀ a x, ((![v192] : Fin 1 → IVec S16 32) a x).toNat < S5904.size a := fun v192 k1_hw36 => k1_hw36
def k1_off39 (k1_t2 : Fin k1_t2_loop.trips) : Fin 2 → Nat :=
  let c36_i32 : BitVec 32 := 36#32
  let v193 : Index := Scalar.indexCast c36_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v194 : Index := Scalar.indexCast v48
  ![36, v194.toNat]

def k1_chk37 (v196 : IVec S16 32) : Prop :=
  (∀ a x, ((![v196] : Fin 1 → IVec S16 32) a x).toNat < S5904.size a)
theorem k1_idx37_inb : ∀ (v196 : IVec S16 32) (k1_hw37 : k1_chk37 v196), ∀ a x, ((![v196] : Fin 1 → IVec S16 32) a x).toNat < S5904.size a := fun v196 k1_hw37 => k1_hw37
def k1_off40 (k1_t2 : Fin k1_t2_loop.trips) : Fin 2 → Nat :=
  let c37_i32 : BitVec 32 := 37#32
  let v197 : Index := Scalar.indexCast c37_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v198 : Index := Scalar.indexCast v48
  ![37, v198.toNat]

def k1_chk38 (v200 : IVec S16 32) : Prop :=
  (∀ a x, ((![v200] : Fin 1 → IVec S16 32) a x).toNat < S5904.size a)
theorem k1_idx38_inb : ∀ (v200 : IVec S16 32) (k1_hw38 : k1_chk38 v200), ∀ a x, ((![v200] : Fin 1 → IVec S16 32) a x).toNat < S5904.size a := fun v200 k1_hw38 => k1_hw38
def k1_off41 (k1_t2 : Fin k1_t2_loop.trips) : Fin 2 → Nat :=
  let c38_i32 : BitVec 32 := 38#32
  let v201 : Index := Scalar.indexCast c38_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v202 : Index := Scalar.indexCast v48
  ![38, v202.toNat]

def k1_chk39 (v204 : IVec S16 32) : Prop :=
  (∀ a x, ((![v204] : Fin 1 → IVec S16 32) a x).toNat < S5904.size a)
theorem k1_idx39_inb : ∀ (v204 : IVec S16 32) (k1_hw39 : k1_chk39 v204), ∀ a x, ((![v204] : Fin 1 → IVec S16 32) a x).toNat < S5904.size a := fun v204 k1_hw39 => k1_hw39
def k1_off42 (k1_t2 : Fin k1_t2_loop.trips) : Fin 2 → Nat :=
  let c39_i32 : BitVec 32 := 39#32
  let v205 : Index := Scalar.indexCast c39_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v206 : Index := Scalar.indexCast v48
  ![39, v206.toNat]

def k1_chk40 (v208 : IVec S16 32) : Prop :=
  (∀ a x, ((![v208] : Fin 1 → IVec S16 32) a x).toNat < S5904.size a)
theorem k1_idx40_inb : ∀ (v208 : IVec S16 32) (k1_hw40 : k1_chk40 v208), ∀ a x, ((![v208] : Fin 1 → IVec S16 32) a x).toNat < S5904.size a := fun v208 k1_hw40 => k1_hw40
def k1_off43 (k1_t2 : Fin k1_t2_loop.trips) : Fin 2 → Nat :=
  let c40_i32 : BitVec 32 := 40#32
  let v209 : Index := Scalar.indexCast c40_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v210 : Index := Scalar.indexCast v48
  ![40, v210.toNat]

def k1_chk41 (v212 : IVec S16 32) : Prop :=
  (∀ a x, ((![v212] : Fin 1 → IVec S16 32) a x).toNat < S5904.size a)
theorem k1_idx41_inb : ∀ (v212 : IVec S16 32) (k1_hw41 : k1_chk41 v212), ∀ a x, ((![v212] : Fin 1 → IVec S16 32) a x).toNat < S5904.size a := fun v212 k1_hw41 => k1_hw41
def k1_off44 (k1_t2 : Fin k1_t2_loop.trips) : Fin 2 → Nat :=
  let c41_i32 : BitVec 32 := 41#32
  let v213 : Index := Scalar.indexCast c41_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v214 : Index := Scalar.indexCast v48
  ![41, v214.toNat]

def k1_chk42 (v216 : IVec S16 32) : Prop :=
  (∀ a x, ((![v216] : Fin 1 → IVec S16 32) a x).toNat < S5904.size a)
theorem k1_idx42_inb : ∀ (v216 : IVec S16 32) (k1_hw42 : k1_chk42 v216), ∀ a x, ((![v216] : Fin 1 → IVec S16 32) a x).toNat < S5904.size a := fun v216 k1_hw42 => k1_hw42
def k1_off45 (k1_t2 : Fin k1_t2_loop.trips) : Fin 2 → Nat :=
  let c42_i32 : BitVec 32 := 42#32
  let v217 : Index := Scalar.indexCast c42_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v218 : Index := Scalar.indexCast v48
  ![42, v218.toNat]

def k1_chk43 (v220 : IVec S16 32) : Prop :=
  (∀ a x, ((![v220] : Fin 1 → IVec S16 32) a x).toNat < S5904.size a)
theorem k1_idx43_inb : ∀ (v220 : IVec S16 32) (k1_hw43 : k1_chk43 v220), ∀ a x, ((![v220] : Fin 1 → IVec S16 32) a x).toNat < S5904.size a := fun v220 k1_hw43 => k1_hw43
def k1_off46 (k1_t2 : Fin k1_t2_loop.trips) : Fin 2 → Nat :=
  let c43_i32 : BitVec 32 := 43#32
  let v221 : Index := Scalar.indexCast c43_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v222 : Index := Scalar.indexCast v48
  ![43, v222.toNat]

def k1_chk44 (v224 : IVec S16 32) : Prop :=
  (∀ a x, ((![v224] : Fin 1 → IVec S16 32) a x).toNat < S5904.size a)
theorem k1_idx44_inb : ∀ (v224 : IVec S16 32) (k1_hw44 : k1_chk44 v224), ∀ a x, ((![v224] : Fin 1 → IVec S16 32) a x).toNat < S5904.size a := fun v224 k1_hw44 => k1_hw44
def k1_off47 (k1_t2 : Fin k1_t2_loop.trips) : Fin 2 → Nat :=
  let c44_i32 : BitVec 32 := 44#32
  let v225 : Index := Scalar.indexCast c44_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v226 : Index := Scalar.indexCast v48
  ![44, v226.toNat]

def k1_chk45 (v228 : IVec S16 32) : Prop :=
  (∀ a x, ((![v228] : Fin 1 → IVec S16 32) a x).toNat < S5904.size a)
theorem k1_idx45_inb : ∀ (v228 : IVec S16 32) (k1_hw45 : k1_chk45 v228), ∀ a x, ((![v228] : Fin 1 → IVec S16 32) a x).toNat < S5904.size a := fun v228 k1_hw45 => k1_hw45
def k1_off48 (k1_t2 : Fin k1_t2_loop.trips) : Fin 2 → Nat :=
  let c45_i32 : BitVec 32 := 45#32
  let v229 : Index := Scalar.indexCast c45_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v230 : Index := Scalar.indexCast v48
  ![45, v230.toNat]

def k1_chk46 (v232 : IVec S16 32) : Prop :=
  (∀ a x, ((![v232] : Fin 1 → IVec S16 32) a x).toNat < S5904.size a)
theorem k1_idx46_inb : ∀ (v232 : IVec S16 32) (k1_hw46 : k1_chk46 v232), ∀ a x, ((![v232] : Fin 1 → IVec S16 32) a x).toNat < S5904.size a := fun v232 k1_hw46 => k1_hw46
def k1_off49 (k1_t2 : Fin k1_t2_loop.trips) : Fin 2 → Nat :=
  let c46_i32 : BitVec 32 := 46#32
  let v233 : Index := Scalar.indexCast c46_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v234 : Index := Scalar.indexCast v48
  ![46, v234.toNat]

def k1_chk47 (v236 : IVec S16 32) : Prop :=
  (∀ a x, ((![v236] : Fin 1 → IVec S16 32) a x).toNat < S5904.size a)
theorem k1_idx47_inb : ∀ (v236 : IVec S16 32) (k1_hw47 : k1_chk47 v236), ∀ a x, ((![v236] : Fin 1 → IVec S16 32) a x).toNat < S5904.size a := fun v236 k1_hw47 => k1_hw47
def k1_off50 (k1_t2 : Fin k1_t2_loop.trips) : Fin 2 → Nat :=
  let c47_i32 : BitVec 32 := 47#32
  let v237 : Index := Scalar.indexCast c47_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v238 : Index := Scalar.indexCast v48
  ![47, v238.toNat]

def k1_chk48 (v240 : IVec S16 32) : Prop :=
  (∀ a x, ((![v240] : Fin 1 → IVec S16 32) a x).toNat < S5904.size a)
theorem k1_idx48_inb : ∀ (v240 : IVec S16 32) (k1_hw48 : k1_chk48 v240), ∀ a x, ((![v240] : Fin 1 → IVec S16 32) a x).toNat < S5904.size a := fun v240 k1_hw48 => k1_hw48
def k1_off51 (k1_t2 : Fin k1_t2_loop.trips) : Fin 2 → Nat :=
  let c48_i32 : BitVec 32 := 48#32
  let v241 : Index := Scalar.indexCast c48_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v242 : Index := Scalar.indexCast v48
  ![48, v242.toNat]

def k1_chk49 (v244 : IVec S16 32) : Prop :=
  (∀ a x, ((![v244] : Fin 1 → IVec S16 32) a x).toNat < S5904.size a)
theorem k1_idx49_inb : ∀ (v244 : IVec S16 32) (k1_hw49 : k1_chk49 v244), ∀ a x, ((![v244] : Fin 1 → IVec S16 32) a x).toNat < S5904.size a := fun v244 k1_hw49 => k1_hw49
def k1_off52 (k1_t2 : Fin k1_t2_loop.trips) : Fin 2 → Nat :=
  let c49_i32 : BitVec 32 := 49#32
  let v245 : Index := Scalar.indexCast c49_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v246 : Index := Scalar.indexCast v48
  ![49, v246.toNat]

def k1_chk50 (v248 : IVec S16 32) : Prop :=
  (∀ a x, ((![v248] : Fin 1 → IVec S16 32) a x).toNat < S5904.size a)
theorem k1_idx50_inb : ∀ (v248 : IVec S16 32) (k1_hw50 : k1_chk50 v248), ∀ a x, ((![v248] : Fin 1 → IVec S16 32) a x).toNat < S5904.size a := fun v248 k1_hw50 => k1_hw50
def k1_off53 (k1_t2 : Fin k1_t2_loop.trips) : Fin 2 → Nat :=
  let c50_i32 : BitVec 32 := 50#32
  let v249 : Index := Scalar.indexCast c50_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v250 : Index := Scalar.indexCast v48
  ![50, v250.toNat]

def k1_chk51 (v252 : IVec S16 32) : Prop :=
  (∀ a x, ((![v252] : Fin 1 → IVec S16 32) a x).toNat < S5904.size a)
theorem k1_idx51_inb : ∀ (v252 : IVec S16 32) (k1_hw51 : k1_chk51 v252), ∀ a x, ((![v252] : Fin 1 → IVec S16 32) a x).toNat < S5904.size a := fun v252 k1_hw51 => k1_hw51
def k1_off54 (k1_t2 : Fin k1_t2_loop.trips) : Fin 2 → Nat :=
  let c51_i32 : BitVec 32 := 51#32
  let v253 : Index := Scalar.indexCast c51_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v254 : Index := Scalar.indexCast v48
  ![51, v254.toNat]

def k1_chk52 (v256 : IVec S16 32) : Prop :=
  (∀ a x, ((![v256] : Fin 1 → IVec S16 32) a x).toNat < S5904.size a)
theorem k1_idx52_inb : ∀ (v256 : IVec S16 32) (k1_hw52 : k1_chk52 v256), ∀ a x, ((![v256] : Fin 1 → IVec S16 32) a x).toNat < S5904.size a := fun v256 k1_hw52 => k1_hw52
def k1_off55 (k1_t2 : Fin k1_t2_loop.trips) : Fin 2 → Nat :=
  let c52_i32 : BitVec 32 := 52#32
  let v257 : Index := Scalar.indexCast c52_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v258 : Index := Scalar.indexCast v48
  ![52, v258.toNat]

def k1_chk53 (v260 : IVec S16 32) : Prop :=
  (∀ a x, ((![v260] : Fin 1 → IVec S16 32) a x).toNat < S5904.size a)
theorem k1_idx53_inb : ∀ (v260 : IVec S16 32) (k1_hw53 : k1_chk53 v260), ∀ a x, ((![v260] : Fin 1 → IVec S16 32) a x).toNat < S5904.size a := fun v260 k1_hw53 => k1_hw53
def k1_off56 (k1_t2 : Fin k1_t2_loop.trips) : Fin 2 → Nat :=
  let c53_i32 : BitVec 32 := 53#32
  let v261 : Index := Scalar.indexCast c53_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v262 : Index := Scalar.indexCast v48
  ![53, v262.toNat]

def k1_chk54 (v264 : IVec S16 32) : Prop :=
  (∀ a x, ((![v264] : Fin 1 → IVec S16 32) a x).toNat < S5904.size a)
theorem k1_idx54_inb : ∀ (v264 : IVec S16 32) (k1_hw54 : k1_chk54 v264), ∀ a x, ((![v264] : Fin 1 → IVec S16 32) a x).toNat < S5904.size a := fun v264 k1_hw54 => k1_hw54
def k1_off57 (k1_t2 : Fin k1_t2_loop.trips) : Fin 2 → Nat :=
  let c54_i32 : BitVec 32 := 54#32
  let v265 : Index := Scalar.indexCast c54_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v266 : Index := Scalar.indexCast v48
  ![54, v266.toNat]

def k1_chk55 (v268 : IVec S16 32) : Prop :=
  (∀ a x, ((![v268] : Fin 1 → IVec S16 32) a x).toNat < S5904.size a)
theorem k1_idx55_inb : ∀ (v268 : IVec S16 32) (k1_hw55 : k1_chk55 v268), ∀ a x, ((![v268] : Fin 1 → IVec S16 32) a x).toNat < S5904.size a := fun v268 k1_hw55 => k1_hw55
def k1_off58 (k1_t2 : Fin k1_t2_loop.trips) : Fin 2 → Nat :=
  let c55_i32 : BitVec 32 := 55#32
  let v269 : Index := Scalar.indexCast c55_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v270 : Index := Scalar.indexCast v48
  ![55, v270.toNat]

def k1_chk56 (v272 : IVec S16 32) : Prop :=
  (∀ a x, ((![v272] : Fin 1 → IVec S16 32) a x).toNat < S5904.size a)
theorem k1_idx56_inb : ∀ (v272 : IVec S16 32) (k1_hw56 : k1_chk56 v272), ∀ a x, ((![v272] : Fin 1 → IVec S16 32) a x).toNat < S5904.size a := fun v272 k1_hw56 => k1_hw56
def k1_off59 (k1_t2 : Fin k1_t2_loop.trips) : Fin 2 → Nat :=
  let c56_i32 : BitVec 32 := 56#32
  let v273 : Index := Scalar.indexCast c56_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v274 : Index := Scalar.indexCast v48
  ![56, v274.toNat]

def k1_chk57 (v276 : IVec S16 32) : Prop :=
  (∀ a x, ((![v276] : Fin 1 → IVec S16 32) a x).toNat < S5904.size a)
theorem k1_idx57_inb : ∀ (v276 : IVec S16 32) (k1_hw57 : k1_chk57 v276), ∀ a x, ((![v276] : Fin 1 → IVec S16 32) a x).toNat < S5904.size a := fun v276 k1_hw57 => k1_hw57
def k1_off60 (k1_t2 : Fin k1_t2_loop.trips) : Fin 2 → Nat :=
  let c57_i32 : BitVec 32 := 57#32
  let v277 : Index := Scalar.indexCast c57_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v278 : Index := Scalar.indexCast v48
  ![57, v278.toNat]

def k1_chk58 (v280 : IVec S16 32) : Prop :=
  (∀ a x, ((![v280] : Fin 1 → IVec S16 32) a x).toNat < S5904.size a)
theorem k1_idx58_inb : ∀ (v280 : IVec S16 32) (k1_hw58 : k1_chk58 v280), ∀ a x, ((![v280] : Fin 1 → IVec S16 32) a x).toNat < S5904.size a := fun v280 k1_hw58 => k1_hw58
def k1_off61 (k1_t2 : Fin k1_t2_loop.trips) : Fin 2 → Nat :=
  let c58_i32 : BitVec 32 := 58#32
  let v281 : Index := Scalar.indexCast c58_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v282 : Index := Scalar.indexCast v48
  ![58, v282.toNat]

def k1_chk59 (v284 : IVec S16 32) : Prop :=
  (∀ a x, ((![v284] : Fin 1 → IVec S16 32) a x).toNat < S5904.size a)
theorem k1_idx59_inb : ∀ (v284 : IVec S16 32) (k1_hw59 : k1_chk59 v284), ∀ a x, ((![v284] : Fin 1 → IVec S16 32) a x).toNat < S5904.size a := fun v284 k1_hw59 => k1_hw59
def k1_off62 (k1_t2 : Fin k1_t2_loop.trips) : Fin 2 → Nat :=
  let c59_i32 : BitVec 32 := 59#32
  let v285 : Index := Scalar.indexCast c59_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v286 : Index := Scalar.indexCast v48
  ![59, v286.toNat]

def k1_chk60 (v288 : IVec S16 32) : Prop :=
  (∀ a x, ((![v288] : Fin 1 → IVec S16 32) a x).toNat < S5904.size a)
theorem k1_idx60_inb : ∀ (v288 : IVec S16 32) (k1_hw60 : k1_chk60 v288), ∀ a x, ((![v288] : Fin 1 → IVec S16 32) a x).toNat < S5904.size a := fun v288 k1_hw60 => k1_hw60
def k1_off63 (k1_t2 : Fin k1_t2_loop.trips) : Fin 2 → Nat :=
  let c60_i32 : BitVec 32 := 60#32
  let v289 : Index := Scalar.indexCast c60_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v290 : Index := Scalar.indexCast v48
  ![60, v290.toNat]

def k1_chk61 (v292 : IVec S16 32) : Prop :=
  (∀ a x, ((![v292] : Fin 1 → IVec S16 32) a x).toNat < S5904.size a)
theorem k1_idx61_inb : ∀ (v292 : IVec S16 32) (k1_hw61 : k1_chk61 v292), ∀ a x, ((![v292] : Fin 1 → IVec S16 32) a x).toNat < S5904.size a := fun v292 k1_hw61 => k1_hw61
def k1_off64 (k1_t2 : Fin k1_t2_loop.trips) : Fin 2 → Nat :=
  let c61_i32 : BitVec 32 := 61#32
  let v293 : Index := Scalar.indexCast c61_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v294 : Index := Scalar.indexCast v48
  ![61, v294.toNat]

def k1_chk62 (v296 : IVec S16 32) : Prop :=
  (∀ a x, ((![v296] : Fin 1 → IVec S16 32) a x).toNat < S5904.size a)
theorem k1_idx62_inb : ∀ (v296 : IVec S16 32) (k1_hw62 : k1_chk62 v296), ∀ a x, ((![v296] : Fin 1 → IVec S16 32) a x).toNat < S5904.size a := fun v296 k1_hw62 => k1_hw62
def k1_off65 (k1_t2 : Fin k1_t2_loop.trips) : Fin 2 → Nat :=
  let c62_i32 : BitVec 32 := 62#32
  let v297 : Index := Scalar.indexCast c62_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v298 : Index := Scalar.indexCast v48
  ![62, v298.toNat]

def k1_chk63 (v300 : IVec S16 32) : Prop :=
  (∀ a x, ((![v300] : Fin 1 → IVec S16 32) a x).toNat < S5904.size a)
theorem k1_idx63_inb : ∀ (v300 : IVec S16 32) (k1_hw63 : k1_chk63 v300), ∀ a x, ((![v300] : Fin 1 → IVec S16 32) a x).toNat < S5904.size a := fun v300 k1_hw63 => k1_hw63
def k1_off66 (k1_t2 : Fin k1_t2_loop.trips) : Fin 2 → Nat :=
  let c63_i32 : BitVec 32 := 63#32
  let v301 : Index := Scalar.indexCast c63_i32
  let c0_i32_27 : BitVec 32 := 0#32
  let c0_i32_19 : BitVec 32 := 0#32
  let c1_i32_20 : BitVec 32 := 1#32
  let arg10 : BitVec 32 := Scf.iv c0_i32_19 c1_i32_20 k1_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v302 : Index := Scalar.indexCast v48
  ![63, v302.toNat]

def k1_chk64 (v304 : IVec S16 32) : Prop :=
  (∀ a x, ((![v304] : Fin 1 → IVec S16 32) a x).toNat < S5904.size a)
theorem k1_idx64_inb : ∀ (v304 : IVec S16 32) (k1_hw64 : k1_chk64 v304), ∀ a x, ((![v304] : Fin 1 → IVec S16 32) a x).toNat < S5904.size a := fun v304 k1_hw64 => k1_hw64
@[reducible] def k1_t3_loop : Scf.Loop 32 :=
  let c0_i32_22 : BitVec 32 := 0#32
  let c369_i32_23 : BitVec 32 := 369#32
  let v45 : BitVec 32 := Scalar.addi c0_i32_22 c369_i32_23
  let c1_i32_24 : BitVec 32 := 1#32
  ⟨c0_i32_22, v45, c1_i32_24⟩
def k1_off67 (k1_t3 : Fin k1_t3_loop.trips) : Fin 1 → Nat :=
  let c0_i32_27 : BitVec 32 := 0#32
  let c0_i32_22 : BitVec 32 := 0#32
  let c1_i32_24 : BitVec 32 := 1#32
  let arg10 : BitVec 32 := Scf.iv c0_i32_22 c1_i32_24 k1_t3
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v49 : Index := Scalar.indexCast v48
  ![v49.toNat]
def k1_off68 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r0 : BitVec 32 := 0#32
  ![v1.toNat, 0]
abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x19x256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x512 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  let c0_i32_11 : BitVec 32 := 0#32
  ![v18.toNat, v29.toNat, 0]
@[reducible] def k3_t1_loop : Scf.Loop 32 :=
  let c0_i32_13 : BitVec 32 := 0#32
  let c369_i32_14 : BitVec 32 := 369#32
  let v39 : BitVec 32 := Scalar.addi c0_i32_13 c369_i32_14
  let c1_i32_15 : BitVec 32 := 1#32
  ⟨c0_i32_13, v39, c1_i32_15⟩
def k3_off2 (k3_t1 : Fin k3_t1_loop.trips) : Fin 1 → Nat :=
  let c0_i32_27 : BitVec 32 := 0#32
  let c0_i32_13 : BitVec 32 := 0#32
  let c1_i32_15 : BitVec 32 := 1#32
  let arg10 : BitVec 32 := Scf.iv c0_i32_13 c1_i32_15 k3_t1
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v49 : Index := Scalar.indexCast v48
  ![v49.toNat]
@[reducible] def k3_t2_loop : Scf.Loop 32 :=
  let c0_i32_19 : BitVec 32 := 0#32
  let c32_i32 : BitVec 32 := 32#32
  let v44 : BitVec 32 := Scalar.addi c0_i32_19 c32_i32
  let c1_i32_20 : BitVec 32 := 1#32
  ⟨c0_i32_19, v44, c1_i32_20⟩
def k3_off3 (k3_t2 : Fin k3_t2_loop.trips) : Fin 2 → Nat :=
  let c0_i32_28 : BitVec 32 := 0#32
  let v49 : Index := Scalar.indexCast c0_i32_28
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v50 : Index := Scalar.indexCast v48
  ![0, v50.toNat]

def k3_chk1 (v52 : IVec S16 32) : Prop :=
  (∀ a x, ((![v52] : Fin 1 → IVec S16 32) a x).toNat < S5904.size a)
theorem k3_idx1_inb : ∀ (v52 : IVec S16 32) (k3_hw1 : k3_chk1 v52), ∀ a x, ((![v52] : Fin 1 → IVec S16 32) a x).toNat < S5904.size a := fun v52 k3_hw1 => k3_hw1
def k3_off4 (k3_t2 : Fin k3_t2_loop.trips) : Fin 2 → Nat :=
  let c1_i32_29 : BitVec 32 := 1#32
  let v53 : Index := Scalar.indexCast c1_i32_29
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v54 : Index := Scalar.indexCast v48
  ![1, v54.toNat]

def k3_chk2 (v56 : IVec S16 32) : Prop :=
  (∀ a x, ((![v56] : Fin 1 → IVec S16 32) a x).toNat < S5904.size a)
theorem k3_idx2_inb : ∀ (v56 : IVec S16 32) (k3_hw2 : k3_chk2 v56), ∀ a x, ((![v56] : Fin 1 → IVec S16 32) a x).toNat < S5904.size a := fun v56 k3_hw2 => k3_hw2
def k3_off5 (k3_t2 : Fin k3_t2_loop.trips) : Fin 2 → Nat :=
  let c2_i32_30 : BitVec 32 := 2#32
  let v57 : Index := Scalar.indexCast c2_i32_30
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v58 : Index := Scalar.indexCast v48
  ![2, v58.toNat]

def k3_chk3 (v60 : IVec S16 32) : Prop :=
  (∀ a x, ((![v60] : Fin 1 → IVec S16 32) a x).toNat < S5904.size a)
theorem k3_idx3_inb : ∀ (v60 : IVec S16 32) (k3_hw3 : k3_chk3 v60), ∀ a x, ((![v60] : Fin 1 → IVec S16 32) a x).toNat < S5904.size a := fun v60 k3_hw3 => k3_hw3
def k3_off6 (k3_t2 : Fin k3_t2_loop.trips) : Fin 2 → Nat :=
  let c3_i32 : BitVec 32 := 3#32
  let v61 : Index := Scalar.indexCast c3_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v62 : Index := Scalar.indexCast v48
  ![3, v62.toNat]

def k3_chk4 (v64 : IVec S16 32) : Prop :=
  (∀ a x, ((![v64] : Fin 1 → IVec S16 32) a x).toNat < S5904.size a)
theorem k3_idx4_inb : ∀ (v64 : IVec S16 32) (k3_hw4 : k3_chk4 v64), ∀ a x, ((![v64] : Fin 1 → IVec S16 32) a x).toNat < S5904.size a := fun v64 k3_hw4 => k3_hw4
def k3_off7 (k3_t2 : Fin k3_t2_loop.trips) : Fin 2 → Nat :=
  let c4_i32 : BitVec 32 := 4#32
  let v65 : Index := Scalar.indexCast c4_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v66 : Index := Scalar.indexCast v48
  ![4, v66.toNat]

def k3_chk5 (v68 : IVec S16 32) : Prop :=
  (∀ a x, ((![v68] : Fin 1 → IVec S16 32) a x).toNat < S5904.size a)
theorem k3_idx5_inb : ∀ (v68 : IVec S16 32) (k3_hw5 : k3_chk5 v68), ∀ a x, ((![v68] : Fin 1 → IVec S16 32) a x).toNat < S5904.size a := fun v68 k3_hw5 => k3_hw5
def k3_off8 (k3_t2 : Fin k3_t2_loop.trips) : Fin 2 → Nat :=
  let c5_i32 : BitVec 32 := 5#32
  let v69 : Index := Scalar.indexCast c5_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v70 : Index := Scalar.indexCast v48
  ![5, v70.toNat]

def k3_chk6 (v72 : IVec S16 32) : Prop :=
  (∀ a x, ((![v72] : Fin 1 → IVec S16 32) a x).toNat < S5904.size a)
theorem k3_idx6_inb : ∀ (v72 : IVec S16 32) (k3_hw6 : k3_chk6 v72), ∀ a x, ((![v72] : Fin 1 → IVec S16 32) a x).toNat < S5904.size a := fun v72 k3_hw6 => k3_hw6
def k3_off9 (k3_t2 : Fin k3_t2_loop.trips) : Fin 2 → Nat :=
  let c6_i32 : BitVec 32 := 6#32
  let v73 : Index := Scalar.indexCast c6_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v74 : Index := Scalar.indexCast v48
  ![6, v74.toNat]

def k3_chk7 (v76 : IVec S16 32) : Prop :=
  (∀ a x, ((![v76] : Fin 1 → IVec S16 32) a x).toNat < S5904.size a)
theorem k3_idx7_inb : ∀ (v76 : IVec S16 32) (k3_hw7 : k3_chk7 v76), ∀ a x, ((![v76] : Fin 1 → IVec S16 32) a x).toNat < S5904.size a := fun v76 k3_hw7 => k3_hw7
def k3_off10 (k3_t2 : Fin k3_t2_loop.trips) : Fin 2 → Nat :=
  let c7_i32 : BitVec 32 := 7#32
  let v77 : Index := Scalar.indexCast c7_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v78 : Index := Scalar.indexCast v48
  ![7, v78.toNat]

def k3_chk8 (v80 : IVec S16 32) : Prop :=
  (∀ a x, ((![v80] : Fin 1 → IVec S16 32) a x).toNat < S5904.size a)
theorem k3_idx8_inb : ∀ (v80 : IVec S16 32) (k3_hw8 : k3_chk8 v80), ∀ a x, ((![v80] : Fin 1 → IVec S16 32) a x).toNat < S5904.size a := fun v80 k3_hw8 => k3_hw8
def k3_off11 (k3_t2 : Fin k3_t2_loop.trips) : Fin 2 → Nat :=
  let c8_i32_31 : BitVec 32 := 8#32
  let v81 : Index := Scalar.indexCast c8_i32_31
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v82 : Index := Scalar.indexCast v48
  ![8, v82.toNat]

def k3_chk9 (v84 : IVec S16 32) : Prop :=
  (∀ a x, ((![v84] : Fin 1 → IVec S16 32) a x).toNat < S5904.size a)
theorem k3_idx9_inb : ∀ (v84 : IVec S16 32) (k3_hw9 : k3_chk9 v84), ∀ a x, ((![v84] : Fin 1 → IVec S16 32) a x).toNat < S5904.size a := fun v84 k3_hw9 => k3_hw9
def k3_off12 (k3_t2 : Fin k3_t2_loop.trips) : Fin 2 → Nat :=
  let c9_i32 : BitVec 32 := 9#32
  let v85 : Index := Scalar.indexCast c9_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v86 : Index := Scalar.indexCast v48
  ![9, v86.toNat]

def k3_chk10 (v88 : IVec S16 32) : Prop :=
  (∀ a x, ((![v88] : Fin 1 → IVec S16 32) a x).toNat < S5904.size a)
theorem k3_idx10_inb : ∀ (v88 : IVec S16 32) (k3_hw10 : k3_chk10 v88), ∀ a x, ((![v88] : Fin 1 → IVec S16 32) a x).toNat < S5904.size a := fun v88 k3_hw10 => k3_hw10
def k3_off13 (k3_t2 : Fin k3_t2_loop.trips) : Fin 2 → Nat :=
  let c10_i32 : BitVec 32 := 10#32
  let v89 : Index := Scalar.indexCast c10_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v90 : Index := Scalar.indexCast v48
  ![10, v90.toNat]

def k3_chk11 (v92 : IVec S16 32) : Prop :=
  (∀ a x, ((![v92] : Fin 1 → IVec S16 32) a x).toNat < S5904.size a)
theorem k3_idx11_inb : ∀ (v92 : IVec S16 32) (k3_hw11 : k3_chk11 v92), ∀ a x, ((![v92] : Fin 1 → IVec S16 32) a x).toNat < S5904.size a := fun v92 k3_hw11 => k3_hw11
def k3_off14 (k3_t2 : Fin k3_t2_loop.trips) : Fin 2 → Nat :=
  let c11_i32 : BitVec 32 := 11#32
  let v93 : Index := Scalar.indexCast c11_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v94 : Index := Scalar.indexCast v48
  ![11, v94.toNat]

def k3_chk12 (v96 : IVec S16 32) : Prop :=
  (∀ a x, ((![v96] : Fin 1 → IVec S16 32) a x).toNat < S5904.size a)
theorem k3_idx12_inb : ∀ (v96 : IVec S16 32) (k3_hw12 : k3_chk12 v96), ∀ a x, ((![v96] : Fin 1 → IVec S16 32) a x).toNat < S5904.size a := fun v96 k3_hw12 => k3_hw12
def k3_off15 (k3_t2 : Fin k3_t2_loop.trips) : Fin 2 → Nat :=
  let c12_i32 : BitVec 32 := 12#32
  let v97 : Index := Scalar.indexCast c12_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v98 : Index := Scalar.indexCast v48
  ![12, v98.toNat]

def k3_chk13 (v100 : IVec S16 32) : Prop :=
  (∀ a x, ((![v100] : Fin 1 → IVec S16 32) a x).toNat < S5904.size a)
theorem k3_idx13_inb : ∀ (v100 : IVec S16 32) (k3_hw13 : k3_chk13 v100), ∀ a x, ((![v100] : Fin 1 → IVec S16 32) a x).toNat < S5904.size a := fun v100 k3_hw13 => k3_hw13
def k3_off16 (k3_t2 : Fin k3_t2_loop.trips) : Fin 2 → Nat :=
  let c13_i32 : BitVec 32 := 13#32
  let v101 : Index := Scalar.indexCast c13_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v102 : Index := Scalar.indexCast v48
  ![13, v102.toNat]

def k3_chk14 (v104 : IVec S16 32) : Prop :=
  (∀ a x, ((![v104] : Fin 1 → IVec S16 32) a x).toNat < S5904.size a)
theorem k3_idx14_inb : ∀ (v104 : IVec S16 32) (k3_hw14 : k3_chk14 v104), ∀ a x, ((![v104] : Fin 1 → IVec S16 32) a x).toNat < S5904.size a := fun v104 k3_hw14 => k3_hw14
def k3_off17 (k3_t2 : Fin k3_t2_loop.trips) : Fin 2 → Nat :=
  let c14_i32 : BitVec 32 := 14#32
  let v105 : Index := Scalar.indexCast c14_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v106 : Index := Scalar.indexCast v48
  ![14, v106.toNat]

def k3_chk15 (v108 : IVec S16 32) : Prop :=
  (∀ a x, ((![v108] : Fin 1 → IVec S16 32) a x).toNat < S5904.size a)
theorem k3_idx15_inb : ∀ (v108 : IVec S16 32) (k3_hw15 : k3_chk15 v108), ∀ a x, ((![v108] : Fin 1 → IVec S16 32) a x).toNat < S5904.size a := fun v108 k3_hw15 => k3_hw15
def k3_off18 (k3_t2 : Fin k3_t2_loop.trips) : Fin 2 → Nat :=
  let c15_i32 : BitVec 32 := 15#32
  let v109 : Index := Scalar.indexCast c15_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v110 : Index := Scalar.indexCast v48
  ![15, v110.toNat]

def k3_chk16 (v112 : IVec S16 32) : Prop :=
  (∀ a x, ((![v112] : Fin 1 → IVec S16 32) a x).toNat < S5904.size a)
theorem k3_idx16_inb : ∀ (v112 : IVec S16 32) (k3_hw16 : k3_chk16 v112), ∀ a x, ((![v112] : Fin 1 → IVec S16 32) a x).toNat < S5904.size a := fun v112 k3_hw16 => k3_hw16
def k3_off19 (k3_t2 : Fin k3_t2_loop.trips) : Fin 2 → Nat :=
  let c16_i32_32 : BitVec 32 := 16#32
  let v113 : Index := Scalar.indexCast c16_i32_32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v114 : Index := Scalar.indexCast v48
  ![16, v114.toNat]

def k3_chk17 (v116 : IVec S16 32) : Prop :=
  (∀ a x, ((![v116] : Fin 1 → IVec S16 32) a x).toNat < S5904.size a)
theorem k3_idx17_inb : ∀ (v116 : IVec S16 32) (k3_hw17 : k3_chk17 v116), ∀ a x, ((![v116] : Fin 1 → IVec S16 32) a x).toNat < S5904.size a := fun v116 k3_hw17 => k3_hw17
def k3_off20 (k3_t2 : Fin k3_t2_loop.trips) : Fin 2 → Nat :=
  let c17_i32 : BitVec 32 := 17#32
  let v117 : Index := Scalar.indexCast c17_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v118 : Index := Scalar.indexCast v48
  ![17, v118.toNat]

def k3_chk18 (v120 : IVec S16 32) : Prop :=
  (∀ a x, ((![v120] : Fin 1 → IVec S16 32) a x).toNat < S5904.size a)
theorem k3_idx18_inb : ∀ (v120 : IVec S16 32) (k3_hw18 : k3_chk18 v120), ∀ a x, ((![v120] : Fin 1 → IVec S16 32) a x).toNat < S5904.size a := fun v120 k3_hw18 => k3_hw18
def k3_off21 (k3_t2 : Fin k3_t2_loop.trips) : Fin 2 → Nat :=
  let c18_i32 : BitVec 32 := 18#32
  let v121 : Index := Scalar.indexCast c18_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v122 : Index := Scalar.indexCast v48
  ![18, v122.toNat]

def k3_chk19 (v124 : IVec S16 32) : Prop :=
  (∀ a x, ((![v124] : Fin 1 → IVec S16 32) a x).toNat < S5904.size a)
theorem k3_idx19_inb : ∀ (v124 : IVec S16 32) (k3_hw19 : k3_chk19 v124), ∀ a x, ((![v124] : Fin 1 → IVec S16 32) a x).toNat < S5904.size a := fun v124 k3_hw19 => k3_hw19
def k3_off22 (k3_t2 : Fin k3_t2_loop.trips) : Fin 2 → Nat :=
  let c19_i32 : BitVec 32 := 19#32
  let v125 : Index := Scalar.indexCast c19_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v126 : Index := Scalar.indexCast v48
  ![19, v126.toNat]

def k3_chk20 (v128 : IVec S16 32) : Prop :=
  (∀ a x, ((![v128] : Fin 1 → IVec S16 32) a x).toNat < S5904.size a)
theorem k3_idx20_inb : ∀ (v128 : IVec S16 32) (k3_hw20 : k3_chk20 v128), ∀ a x, ((![v128] : Fin 1 → IVec S16 32) a x).toNat < S5904.size a := fun v128 k3_hw20 => k3_hw20
def k3_off23 (k3_t2 : Fin k3_t2_loop.trips) : Fin 2 → Nat :=
  let c20_i32 : BitVec 32 := 20#32
  let v129 : Index := Scalar.indexCast c20_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v130 : Index := Scalar.indexCast v48
  ![20, v130.toNat]

def k3_chk21 (v132 : IVec S16 32) : Prop :=
  (∀ a x, ((![v132] : Fin 1 → IVec S16 32) a x).toNat < S5904.size a)
theorem k3_idx21_inb : ∀ (v132 : IVec S16 32) (k3_hw21 : k3_chk21 v132), ∀ a x, ((![v132] : Fin 1 → IVec S16 32) a x).toNat < S5904.size a := fun v132 k3_hw21 => k3_hw21
def k3_off24 (k3_t2 : Fin k3_t2_loop.trips) : Fin 2 → Nat :=
  let c21_i32 : BitVec 32 := 21#32
  let v133 : Index := Scalar.indexCast c21_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v134 : Index := Scalar.indexCast v48
  ![21, v134.toNat]

def k3_chk22 (v136 : IVec S16 32) : Prop :=
  (∀ a x, ((![v136] : Fin 1 → IVec S16 32) a x).toNat < S5904.size a)
theorem k3_idx22_inb : ∀ (v136 : IVec S16 32) (k3_hw22 : k3_chk22 v136), ∀ a x, ((![v136] : Fin 1 → IVec S16 32) a x).toNat < S5904.size a := fun v136 k3_hw22 => k3_hw22
def k3_off25 (k3_t2 : Fin k3_t2_loop.trips) : Fin 2 → Nat :=
  let c22_i32 : BitVec 32 := 22#32
  let v137 : Index := Scalar.indexCast c22_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v138 : Index := Scalar.indexCast v48
  ![22, v138.toNat]

def k3_chk23 (v140 : IVec S16 32) : Prop :=
  (∀ a x, ((![v140] : Fin 1 → IVec S16 32) a x).toNat < S5904.size a)
theorem k3_idx23_inb : ∀ (v140 : IVec S16 32) (k3_hw23 : k3_chk23 v140), ∀ a x, ((![v140] : Fin 1 → IVec S16 32) a x).toNat < S5904.size a := fun v140 k3_hw23 => k3_hw23
def k3_off26 (k3_t2 : Fin k3_t2_loop.trips) : Fin 2 → Nat :=
  let c23_i32 : BitVec 32 := 23#32
  let v141 : Index := Scalar.indexCast c23_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v142 : Index := Scalar.indexCast v48
  ![23, v142.toNat]

def k3_chk24 (v144 : IVec S16 32) : Prop :=
  (∀ a x, ((![v144] : Fin 1 → IVec S16 32) a x).toNat < S5904.size a)
theorem k3_idx24_inb : ∀ (v144 : IVec S16 32) (k3_hw24 : k3_chk24 v144), ∀ a x, ((![v144] : Fin 1 → IVec S16 32) a x).toNat < S5904.size a := fun v144 k3_hw24 => k3_hw24
def k3_off27 (k3_t2 : Fin k3_t2_loop.trips) : Fin 2 → Nat :=
  let c24_i32 : BitVec 32 := 24#32
  let v145 : Index := Scalar.indexCast c24_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v146 : Index := Scalar.indexCast v48
  ![24, v146.toNat]

def k3_chk25 (v148 : IVec S16 32) : Prop :=
  (∀ a x, ((![v148] : Fin 1 → IVec S16 32) a x).toNat < S5904.size a)
theorem k3_idx25_inb : ∀ (v148 : IVec S16 32) (k3_hw25 : k3_chk25 v148), ∀ a x, ((![v148] : Fin 1 → IVec S16 32) a x).toNat < S5904.size a := fun v148 k3_hw25 => k3_hw25
def k3_off28 (k3_t2 : Fin k3_t2_loop.trips) : Fin 2 → Nat :=
  let c25_i32 : BitVec 32 := 25#32
  let v149 : Index := Scalar.indexCast c25_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v150 : Index := Scalar.indexCast v48
  ![25, v150.toNat]

def k3_chk26 (v152 : IVec S16 32) : Prop :=
  (∀ a x, ((![v152] : Fin 1 → IVec S16 32) a x).toNat < S5904.size a)
theorem k3_idx26_inb : ∀ (v152 : IVec S16 32) (k3_hw26 : k3_chk26 v152), ∀ a x, ((![v152] : Fin 1 → IVec S16 32) a x).toNat < S5904.size a := fun v152 k3_hw26 => k3_hw26
def k3_off29 (k3_t2 : Fin k3_t2_loop.trips) : Fin 2 → Nat :=
  let c26_i32 : BitVec 32 := 26#32
  let v153 : Index := Scalar.indexCast c26_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v154 : Index := Scalar.indexCast v48
  ![26, v154.toNat]

def k3_chk27 (v156 : IVec S16 32) : Prop :=
  (∀ a x, ((![v156] : Fin 1 → IVec S16 32) a x).toNat < S5904.size a)
theorem k3_idx27_inb : ∀ (v156 : IVec S16 32) (k3_hw27 : k3_chk27 v156), ∀ a x, ((![v156] : Fin 1 → IVec S16 32) a x).toNat < S5904.size a := fun v156 k3_hw27 => k3_hw27
def k3_off30 (k3_t2 : Fin k3_t2_loop.trips) : Fin 2 → Nat :=
  let c27_i32 : BitVec 32 := 27#32
  let v157 : Index := Scalar.indexCast c27_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v158 : Index := Scalar.indexCast v48
  ![27, v158.toNat]

def k3_chk28 (v160 : IVec S16 32) : Prop :=
  (∀ a x, ((![v160] : Fin 1 → IVec S16 32) a x).toNat < S5904.size a)
theorem k3_idx28_inb : ∀ (v160 : IVec S16 32) (k3_hw28 : k3_chk28 v160), ∀ a x, ((![v160] : Fin 1 → IVec S16 32) a x).toNat < S5904.size a := fun v160 k3_hw28 => k3_hw28
def k3_off31 (k3_t2 : Fin k3_t2_loop.trips) : Fin 2 → Nat :=
  let c28_i32 : BitVec 32 := 28#32
  let v161 : Index := Scalar.indexCast c28_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v162 : Index := Scalar.indexCast v48
  ![28, v162.toNat]

def k3_chk29 (v164 : IVec S16 32) : Prop :=
  (∀ a x, ((![v164] : Fin 1 → IVec S16 32) a x).toNat < S5904.size a)
theorem k3_idx29_inb : ∀ (v164 : IVec S16 32) (k3_hw29 : k3_chk29 v164), ∀ a x, ((![v164] : Fin 1 → IVec S16 32) a x).toNat < S5904.size a := fun v164 k3_hw29 => k3_hw29
def k3_off32 (k3_t2 : Fin k3_t2_loop.trips) : Fin 2 → Nat :=
  let c29_i32 : BitVec 32 := 29#32
  let v165 : Index := Scalar.indexCast c29_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v166 : Index := Scalar.indexCast v48
  ![29, v166.toNat]

def k3_chk30 (v168 : IVec S16 32) : Prop :=
  (∀ a x, ((![v168] : Fin 1 → IVec S16 32) a x).toNat < S5904.size a)
theorem k3_idx30_inb : ∀ (v168 : IVec S16 32) (k3_hw30 : k3_chk30 v168), ∀ a x, ((![v168] : Fin 1 → IVec S16 32) a x).toNat < S5904.size a := fun v168 k3_hw30 => k3_hw30
def k3_off33 (k3_t2 : Fin k3_t2_loop.trips) : Fin 2 → Nat :=
  let c30_i32 : BitVec 32 := 30#32
  let v169 : Index := Scalar.indexCast c30_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v170 : Index := Scalar.indexCast v48
  ![30, v170.toNat]

def k3_chk31 (v172 : IVec S16 32) : Prop :=
  (∀ a x, ((![v172] : Fin 1 → IVec S16 32) a x).toNat < S5904.size a)
theorem k3_idx31_inb : ∀ (v172 : IVec S16 32) (k3_hw31 : k3_chk31 v172), ∀ a x, ((![v172] : Fin 1 → IVec S16 32) a x).toNat < S5904.size a := fun v172 k3_hw31 => k3_hw31
def k3_off34 (k3_t2 : Fin k3_t2_loop.trips) : Fin 2 → Nat :=
  let c31_i32 : BitVec 32 := 31#32
  let v173 : Index := Scalar.indexCast c31_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v174 : Index := Scalar.indexCast v48
  ![31, v174.toNat]

def k3_chk32 (v176 : IVec S16 32) : Prop :=
  (∀ a x, ((![v176] : Fin 1 → IVec S16 32) a x).toNat < S5904.size a)
theorem k3_idx32_inb : ∀ (v176 : IVec S16 32) (k3_hw32 : k3_chk32 v176), ∀ a x, ((![v176] : Fin 1 → IVec S16 32) a x).toNat < S5904.size a := fun v176 k3_hw32 => k3_hw32
def k3_off35 (k3_t2 : Fin k3_t2_loop.trips) : Fin 2 → Nat :=
  let c32_i32_33 : BitVec 32 := 32#32
  let v177 : Index := Scalar.indexCast c32_i32_33
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v178 : Index := Scalar.indexCast v48
  ![32, v178.toNat]

def k3_chk33 (v180 : IVec S16 32) : Prop :=
  (∀ a x, ((![v180] : Fin 1 → IVec S16 32) a x).toNat < S5904.size a)
theorem k3_idx33_inb : ∀ (v180 : IVec S16 32) (k3_hw33 : k3_chk33 v180), ∀ a x, ((![v180] : Fin 1 → IVec S16 32) a x).toNat < S5904.size a := fun v180 k3_hw33 => k3_hw33
def k3_off36 (k3_t2 : Fin k3_t2_loop.trips) : Fin 2 → Nat :=
  let c33_i32 : BitVec 32 := 33#32
  let v181 : Index := Scalar.indexCast c33_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v182 : Index := Scalar.indexCast v48
  ![33, v182.toNat]

def k3_chk34 (v184 : IVec S16 32) : Prop :=
  (∀ a x, ((![v184] : Fin 1 → IVec S16 32) a x).toNat < S5904.size a)
theorem k3_idx34_inb : ∀ (v184 : IVec S16 32) (k3_hw34 : k3_chk34 v184), ∀ a x, ((![v184] : Fin 1 → IVec S16 32) a x).toNat < S5904.size a := fun v184 k3_hw34 => k3_hw34
def k3_off37 (k3_t2 : Fin k3_t2_loop.trips) : Fin 2 → Nat :=
  let c34_i32 : BitVec 32 := 34#32
  let v185 : Index := Scalar.indexCast c34_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v186 : Index := Scalar.indexCast v48
  ![34, v186.toNat]

def k3_chk35 (v188 : IVec S16 32) : Prop :=
  (∀ a x, ((![v188] : Fin 1 → IVec S16 32) a x).toNat < S5904.size a)
theorem k3_idx35_inb : ∀ (v188 : IVec S16 32) (k3_hw35 : k3_chk35 v188), ∀ a x, ((![v188] : Fin 1 → IVec S16 32) a x).toNat < S5904.size a := fun v188 k3_hw35 => k3_hw35
def k3_off38 (k3_t2 : Fin k3_t2_loop.trips) : Fin 2 → Nat :=
  let c35_i32 : BitVec 32 := 35#32
  let v189 : Index := Scalar.indexCast c35_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v190 : Index := Scalar.indexCast v48
  ![35, v190.toNat]

def k3_chk36 (v192 : IVec S16 32) : Prop :=
  (∀ a x, ((![v192] : Fin 1 → IVec S16 32) a x).toNat < S5904.size a)
theorem k3_idx36_inb : ∀ (v192 : IVec S16 32) (k3_hw36 : k3_chk36 v192), ∀ a x, ((![v192] : Fin 1 → IVec S16 32) a x).toNat < S5904.size a := fun v192 k3_hw36 => k3_hw36
def k3_off39 (k3_t2 : Fin k3_t2_loop.trips) : Fin 2 → Nat :=
  let c36_i32 : BitVec 32 := 36#32
  let v193 : Index := Scalar.indexCast c36_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v194 : Index := Scalar.indexCast v48
  ![36, v194.toNat]

def k3_chk37 (v196 : IVec S16 32) : Prop :=
  (∀ a x, ((![v196] : Fin 1 → IVec S16 32) a x).toNat < S5904.size a)
theorem k3_idx37_inb : ∀ (v196 : IVec S16 32) (k3_hw37 : k3_chk37 v196), ∀ a x, ((![v196] : Fin 1 → IVec S16 32) a x).toNat < S5904.size a := fun v196 k3_hw37 => k3_hw37
def k3_off40 (k3_t2 : Fin k3_t2_loop.trips) : Fin 2 → Nat :=
  let c37_i32 : BitVec 32 := 37#32
  let v197 : Index := Scalar.indexCast c37_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v198 : Index := Scalar.indexCast v48
  ![37, v198.toNat]

def k3_chk38 (v200 : IVec S16 32) : Prop :=
  (∀ a x, ((![v200] : Fin 1 → IVec S16 32) a x).toNat < S5904.size a)
theorem k3_idx38_inb : ∀ (v200 : IVec S16 32) (k3_hw38 : k3_chk38 v200), ∀ a x, ((![v200] : Fin 1 → IVec S16 32) a x).toNat < S5904.size a := fun v200 k3_hw38 => k3_hw38
def k3_off41 (k3_t2 : Fin k3_t2_loop.trips) : Fin 2 → Nat :=
  let c38_i32 : BitVec 32 := 38#32
  let v201 : Index := Scalar.indexCast c38_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v202 : Index := Scalar.indexCast v48
  ![38, v202.toNat]

def k3_chk39 (v204 : IVec S16 32) : Prop :=
  (∀ a x, ((![v204] : Fin 1 → IVec S16 32) a x).toNat < S5904.size a)
theorem k3_idx39_inb : ∀ (v204 : IVec S16 32) (k3_hw39 : k3_chk39 v204), ∀ a x, ((![v204] : Fin 1 → IVec S16 32) a x).toNat < S5904.size a := fun v204 k3_hw39 => k3_hw39
def k3_off42 (k3_t2 : Fin k3_t2_loop.trips) : Fin 2 → Nat :=
  let c39_i32 : BitVec 32 := 39#32
  let v205 : Index := Scalar.indexCast c39_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v206 : Index := Scalar.indexCast v48
  ![39, v206.toNat]

def k3_chk40 (v208 : IVec S16 32) : Prop :=
  (∀ a x, ((![v208] : Fin 1 → IVec S16 32) a x).toNat < S5904.size a)
theorem k3_idx40_inb : ∀ (v208 : IVec S16 32) (k3_hw40 : k3_chk40 v208), ∀ a x, ((![v208] : Fin 1 → IVec S16 32) a x).toNat < S5904.size a := fun v208 k3_hw40 => k3_hw40
def k3_off43 (k3_t2 : Fin k3_t2_loop.trips) : Fin 2 → Nat :=
  let c40_i32 : BitVec 32 := 40#32
  let v209 : Index := Scalar.indexCast c40_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v210 : Index := Scalar.indexCast v48
  ![40, v210.toNat]

def k3_chk41 (v212 : IVec S16 32) : Prop :=
  (∀ a x, ((![v212] : Fin 1 → IVec S16 32) a x).toNat < S5904.size a)
theorem k3_idx41_inb : ∀ (v212 : IVec S16 32) (k3_hw41 : k3_chk41 v212), ∀ a x, ((![v212] : Fin 1 → IVec S16 32) a x).toNat < S5904.size a := fun v212 k3_hw41 => k3_hw41
def k3_off44 (k3_t2 : Fin k3_t2_loop.trips) : Fin 2 → Nat :=
  let c41_i32 : BitVec 32 := 41#32
  let v213 : Index := Scalar.indexCast c41_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v214 : Index := Scalar.indexCast v48
  ![41, v214.toNat]

def k3_chk42 (v216 : IVec S16 32) : Prop :=
  (∀ a x, ((![v216] : Fin 1 → IVec S16 32) a x).toNat < S5904.size a)
theorem k3_idx42_inb : ∀ (v216 : IVec S16 32) (k3_hw42 : k3_chk42 v216), ∀ a x, ((![v216] : Fin 1 → IVec S16 32) a x).toNat < S5904.size a := fun v216 k3_hw42 => k3_hw42
def k3_off45 (k3_t2 : Fin k3_t2_loop.trips) : Fin 2 → Nat :=
  let c42_i32 : BitVec 32 := 42#32
  let v217 : Index := Scalar.indexCast c42_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v218 : Index := Scalar.indexCast v48
  ![42, v218.toNat]

def k3_chk43 (v220 : IVec S16 32) : Prop :=
  (∀ a x, ((![v220] : Fin 1 → IVec S16 32) a x).toNat < S5904.size a)
theorem k3_idx43_inb : ∀ (v220 : IVec S16 32) (k3_hw43 : k3_chk43 v220), ∀ a x, ((![v220] : Fin 1 → IVec S16 32) a x).toNat < S5904.size a := fun v220 k3_hw43 => k3_hw43
def k3_off46 (k3_t2 : Fin k3_t2_loop.trips) : Fin 2 → Nat :=
  let c43_i32 : BitVec 32 := 43#32
  let v221 : Index := Scalar.indexCast c43_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v222 : Index := Scalar.indexCast v48
  ![43, v222.toNat]

def k3_chk44 (v224 : IVec S16 32) : Prop :=
  (∀ a x, ((![v224] : Fin 1 → IVec S16 32) a x).toNat < S5904.size a)
theorem k3_idx44_inb : ∀ (v224 : IVec S16 32) (k3_hw44 : k3_chk44 v224), ∀ a x, ((![v224] : Fin 1 → IVec S16 32) a x).toNat < S5904.size a := fun v224 k3_hw44 => k3_hw44
def k3_off47 (k3_t2 : Fin k3_t2_loop.trips) : Fin 2 → Nat :=
  let c44_i32 : BitVec 32 := 44#32
  let v225 : Index := Scalar.indexCast c44_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v226 : Index := Scalar.indexCast v48
  ![44, v226.toNat]

def k3_chk45 (v228 : IVec S16 32) : Prop :=
  (∀ a x, ((![v228] : Fin 1 → IVec S16 32) a x).toNat < S5904.size a)
theorem k3_idx45_inb : ∀ (v228 : IVec S16 32) (k3_hw45 : k3_chk45 v228), ∀ a x, ((![v228] : Fin 1 → IVec S16 32) a x).toNat < S5904.size a := fun v228 k3_hw45 => k3_hw45
def k3_off48 (k3_t2 : Fin k3_t2_loop.trips) : Fin 2 → Nat :=
  let c45_i32 : BitVec 32 := 45#32
  let v229 : Index := Scalar.indexCast c45_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v230 : Index := Scalar.indexCast v48
  ![45, v230.toNat]

def k3_chk46 (v232 : IVec S16 32) : Prop :=
  (∀ a x, ((![v232] : Fin 1 → IVec S16 32) a x).toNat < S5904.size a)
theorem k3_idx46_inb : ∀ (v232 : IVec S16 32) (k3_hw46 : k3_chk46 v232), ∀ a x, ((![v232] : Fin 1 → IVec S16 32) a x).toNat < S5904.size a := fun v232 k3_hw46 => k3_hw46
def k3_off49 (k3_t2 : Fin k3_t2_loop.trips) : Fin 2 → Nat :=
  let c46_i32 : BitVec 32 := 46#32
  let v233 : Index := Scalar.indexCast c46_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v234 : Index := Scalar.indexCast v48
  ![46, v234.toNat]

def k3_chk47 (v236 : IVec S16 32) : Prop :=
  (∀ a x, ((![v236] : Fin 1 → IVec S16 32) a x).toNat < S5904.size a)
theorem k3_idx47_inb : ∀ (v236 : IVec S16 32) (k3_hw47 : k3_chk47 v236), ∀ a x, ((![v236] : Fin 1 → IVec S16 32) a x).toNat < S5904.size a := fun v236 k3_hw47 => k3_hw47
def k3_off50 (k3_t2 : Fin k3_t2_loop.trips) : Fin 2 → Nat :=
  let c47_i32 : BitVec 32 := 47#32
  let v237 : Index := Scalar.indexCast c47_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v238 : Index := Scalar.indexCast v48
  ![47, v238.toNat]

def k3_chk48 (v240 : IVec S16 32) : Prop :=
  (∀ a x, ((![v240] : Fin 1 → IVec S16 32) a x).toNat < S5904.size a)
theorem k3_idx48_inb : ∀ (v240 : IVec S16 32) (k3_hw48 : k3_chk48 v240), ∀ a x, ((![v240] : Fin 1 → IVec S16 32) a x).toNat < S5904.size a := fun v240 k3_hw48 => k3_hw48
def k3_off51 (k3_t2 : Fin k3_t2_loop.trips) : Fin 2 → Nat :=
  let c48_i32 : BitVec 32 := 48#32
  let v241 : Index := Scalar.indexCast c48_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v242 : Index := Scalar.indexCast v48
  ![48, v242.toNat]

def k3_chk49 (v244 : IVec S16 32) : Prop :=
  (∀ a x, ((![v244] : Fin 1 → IVec S16 32) a x).toNat < S5904.size a)
theorem k3_idx49_inb : ∀ (v244 : IVec S16 32) (k3_hw49 : k3_chk49 v244), ∀ a x, ((![v244] : Fin 1 → IVec S16 32) a x).toNat < S5904.size a := fun v244 k3_hw49 => k3_hw49
def k3_off52 (k3_t2 : Fin k3_t2_loop.trips) : Fin 2 → Nat :=
  let c49_i32 : BitVec 32 := 49#32
  let v245 : Index := Scalar.indexCast c49_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v246 : Index := Scalar.indexCast v48
  ![49, v246.toNat]

def k3_chk50 (v248 : IVec S16 32) : Prop :=
  (∀ a x, ((![v248] : Fin 1 → IVec S16 32) a x).toNat < S5904.size a)
theorem k3_idx50_inb : ∀ (v248 : IVec S16 32) (k3_hw50 : k3_chk50 v248), ∀ a x, ((![v248] : Fin 1 → IVec S16 32) a x).toNat < S5904.size a := fun v248 k3_hw50 => k3_hw50
def k3_off53 (k3_t2 : Fin k3_t2_loop.trips) : Fin 2 → Nat :=
  let c50_i32 : BitVec 32 := 50#32
  let v249 : Index := Scalar.indexCast c50_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v250 : Index := Scalar.indexCast v48
  ![50, v250.toNat]

def k3_chk51 (v252 : IVec S16 32) : Prop :=
  (∀ a x, ((![v252] : Fin 1 → IVec S16 32) a x).toNat < S5904.size a)
theorem k3_idx51_inb : ∀ (v252 : IVec S16 32) (k3_hw51 : k3_chk51 v252), ∀ a x, ((![v252] : Fin 1 → IVec S16 32) a x).toNat < S5904.size a := fun v252 k3_hw51 => k3_hw51
def k3_off54 (k3_t2 : Fin k3_t2_loop.trips) : Fin 2 → Nat :=
  let c51_i32 : BitVec 32 := 51#32
  let v253 : Index := Scalar.indexCast c51_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v254 : Index := Scalar.indexCast v48
  ![51, v254.toNat]

def k3_chk52 (v256 : IVec S16 32) : Prop :=
  (∀ a x, ((![v256] : Fin 1 → IVec S16 32) a x).toNat < S5904.size a)
theorem k3_idx52_inb : ∀ (v256 : IVec S16 32) (k3_hw52 : k3_chk52 v256), ∀ a x, ((![v256] : Fin 1 → IVec S16 32) a x).toNat < S5904.size a := fun v256 k3_hw52 => k3_hw52
def k3_off55 (k3_t2 : Fin k3_t2_loop.trips) : Fin 2 → Nat :=
  let c52_i32 : BitVec 32 := 52#32
  let v257 : Index := Scalar.indexCast c52_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v258 : Index := Scalar.indexCast v48
  ![52, v258.toNat]

def k3_chk53 (v260 : IVec S16 32) : Prop :=
  (∀ a x, ((![v260] : Fin 1 → IVec S16 32) a x).toNat < S5904.size a)
theorem k3_idx53_inb : ∀ (v260 : IVec S16 32) (k3_hw53 : k3_chk53 v260), ∀ a x, ((![v260] : Fin 1 → IVec S16 32) a x).toNat < S5904.size a := fun v260 k3_hw53 => k3_hw53
def k3_off56 (k3_t2 : Fin k3_t2_loop.trips) : Fin 2 → Nat :=
  let c53_i32 : BitVec 32 := 53#32
  let v261 : Index := Scalar.indexCast c53_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v262 : Index := Scalar.indexCast v48
  ![53, v262.toNat]

def k3_chk54 (v264 : IVec S16 32) : Prop :=
  (∀ a x, ((![v264] : Fin 1 → IVec S16 32) a x).toNat < S5904.size a)
theorem k3_idx54_inb : ∀ (v264 : IVec S16 32) (k3_hw54 : k3_chk54 v264), ∀ a x, ((![v264] : Fin 1 → IVec S16 32) a x).toNat < S5904.size a := fun v264 k3_hw54 => k3_hw54
def k3_off57 (k3_t2 : Fin k3_t2_loop.trips) : Fin 2 → Nat :=
  let c54_i32 : BitVec 32 := 54#32
  let v265 : Index := Scalar.indexCast c54_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v266 : Index := Scalar.indexCast v48
  ![54, v266.toNat]

def k3_chk55 (v268 : IVec S16 32) : Prop :=
  (∀ a x, ((![v268] : Fin 1 → IVec S16 32) a x).toNat < S5904.size a)
theorem k3_idx55_inb : ∀ (v268 : IVec S16 32) (k3_hw55 : k3_chk55 v268), ∀ a x, ((![v268] : Fin 1 → IVec S16 32) a x).toNat < S5904.size a := fun v268 k3_hw55 => k3_hw55
def k3_off58 (k3_t2 : Fin k3_t2_loop.trips) : Fin 2 → Nat :=
  let c55_i32 : BitVec 32 := 55#32
  let v269 : Index := Scalar.indexCast c55_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v270 : Index := Scalar.indexCast v48
  ![55, v270.toNat]

def k3_chk56 (v272 : IVec S16 32) : Prop :=
  (∀ a x, ((![v272] : Fin 1 → IVec S16 32) a x).toNat < S5904.size a)
theorem k3_idx56_inb : ∀ (v272 : IVec S16 32) (k3_hw56 : k3_chk56 v272), ∀ a x, ((![v272] : Fin 1 → IVec S16 32) a x).toNat < S5904.size a := fun v272 k3_hw56 => k3_hw56
def k3_off59 (k3_t2 : Fin k3_t2_loop.trips) : Fin 2 → Nat :=
  let c56_i32 : BitVec 32 := 56#32
  let v273 : Index := Scalar.indexCast c56_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v274 : Index := Scalar.indexCast v48
  ![56, v274.toNat]

def k3_chk57 (v276 : IVec S16 32) : Prop :=
  (∀ a x, ((![v276] : Fin 1 → IVec S16 32) a x).toNat < S5904.size a)
theorem k3_idx57_inb : ∀ (v276 : IVec S16 32) (k3_hw57 : k3_chk57 v276), ∀ a x, ((![v276] : Fin 1 → IVec S16 32) a x).toNat < S5904.size a := fun v276 k3_hw57 => k3_hw57
def k3_off60 (k3_t2 : Fin k3_t2_loop.trips) : Fin 2 → Nat :=
  let c57_i32 : BitVec 32 := 57#32
  let v277 : Index := Scalar.indexCast c57_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v278 : Index := Scalar.indexCast v48
  ![57, v278.toNat]

def k3_chk58 (v280 : IVec S16 32) : Prop :=
  (∀ a x, ((![v280] : Fin 1 → IVec S16 32) a x).toNat < S5904.size a)
theorem k3_idx58_inb : ∀ (v280 : IVec S16 32) (k3_hw58 : k3_chk58 v280), ∀ a x, ((![v280] : Fin 1 → IVec S16 32) a x).toNat < S5904.size a := fun v280 k3_hw58 => k3_hw58
def k3_off61 (k3_t2 : Fin k3_t2_loop.trips) : Fin 2 → Nat :=
  let c58_i32 : BitVec 32 := 58#32
  let v281 : Index := Scalar.indexCast c58_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v282 : Index := Scalar.indexCast v48
  ![58, v282.toNat]

def k3_chk59 (v284 : IVec S16 32) : Prop :=
  (∀ a x, ((![v284] : Fin 1 → IVec S16 32) a x).toNat < S5904.size a)
theorem k3_idx59_inb : ∀ (v284 : IVec S16 32) (k3_hw59 : k3_chk59 v284), ∀ a x, ((![v284] : Fin 1 → IVec S16 32) a x).toNat < S5904.size a := fun v284 k3_hw59 => k3_hw59
def k3_off62 (k3_t2 : Fin k3_t2_loop.trips) : Fin 2 → Nat :=
  let c59_i32 : BitVec 32 := 59#32
  let v285 : Index := Scalar.indexCast c59_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v286 : Index := Scalar.indexCast v48
  ![59, v286.toNat]

def k3_chk60 (v288 : IVec S16 32) : Prop :=
  (∀ a x, ((![v288] : Fin 1 → IVec S16 32) a x).toNat < S5904.size a)
theorem k3_idx60_inb : ∀ (v288 : IVec S16 32) (k3_hw60 : k3_chk60 v288), ∀ a x, ((![v288] : Fin 1 → IVec S16 32) a x).toNat < S5904.size a := fun v288 k3_hw60 => k3_hw60
def k3_off63 (k3_t2 : Fin k3_t2_loop.trips) : Fin 2 → Nat :=
  let c60_i32 : BitVec 32 := 60#32
  let v289 : Index := Scalar.indexCast c60_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v290 : Index := Scalar.indexCast v48
  ![60, v290.toNat]

def k3_chk61 (v292 : IVec S16 32) : Prop :=
  (∀ a x, ((![v292] : Fin 1 → IVec S16 32) a x).toNat < S5904.size a)
theorem k3_idx61_inb : ∀ (v292 : IVec S16 32) (k3_hw61 : k3_chk61 v292), ∀ a x, ((![v292] : Fin 1 → IVec S16 32) a x).toNat < S5904.size a := fun v292 k3_hw61 => k3_hw61
def k3_off64 (k3_t2 : Fin k3_t2_loop.trips) : Fin 2 → Nat :=
  let c61_i32 : BitVec 32 := 61#32
  let v293 : Index := Scalar.indexCast c61_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v294 : Index := Scalar.indexCast v48
  ![61, v294.toNat]

def k3_chk62 (v296 : IVec S16 32) : Prop :=
  (∀ a x, ((![v296] : Fin 1 → IVec S16 32) a x).toNat < S5904.size a)
theorem k3_idx62_inb : ∀ (v296 : IVec S16 32) (k3_hw62 : k3_chk62 v296), ∀ a x, ((![v296] : Fin 1 → IVec S16 32) a x).toNat < S5904.size a := fun v296 k3_hw62 => k3_hw62
def k3_off65 (k3_t2 : Fin k3_t2_loop.trips) : Fin 2 → Nat :=
  let c62_i32 : BitVec 32 := 62#32
  let v297 : Index := Scalar.indexCast c62_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v298 : Index := Scalar.indexCast v48
  ![62, v298.toNat]

def k3_chk63 (v300 : IVec S16 32) : Prop :=
  (∀ a x, ((![v300] : Fin 1 → IVec S16 32) a x).toNat < S5904.size a)
theorem k3_idx63_inb : ∀ (v300 : IVec S16 32) (k3_hw63 : k3_chk63 v300), ∀ a x, ((![v300] : Fin 1 → IVec S16 32) a x).toNat < S5904.size a := fun v300 k3_hw63 => k3_hw63
def k3_off66 (k3_t2 : Fin k3_t2_loop.trips) : Fin 2 → Nat :=
  let c63_i32 : BitVec 32 := 63#32
  let v301 : Index := Scalar.indexCast c63_i32
  let c0_i32_27 : BitVec 32 := 0#32
  let c0_i32_19 : BitVec 32 := 0#32
  let c1_i32_20 : BitVec 32 := 1#32
  let arg10 : BitVec 32 := Scf.iv c0_i32_19 c1_i32_20 k3_t2
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v302 : Index := Scalar.indexCast v48
  ![63, v302.toNat]

def k3_chk64 (v304 : IVec S16 32) : Prop :=
  (∀ a x, ((![v304] : Fin 1 → IVec S16 32) a x).toNat < S5904.size a)
theorem k3_idx64_inb : ∀ (v304 : IVec S16 32) (k3_hw64 : k3_chk64 v304), ∀ a x, ((![v304] : Fin 1 → IVec S16 32) a x).toNat < S5904.size a := fun v304 k3_hw64 => k3_hw64
@[reducible] def k3_t3_loop : Scf.Loop 32 :=
  let c0_i32_22 : BitVec 32 := 0#32
  let c369_i32_23 : BitVec 32 := 369#32
  let v45 : BitVec 32 := Scalar.addi c0_i32_22 c369_i32_23
  let c1_i32_24 : BitVec 32 := 1#32
  ⟨c0_i32_22, v45, c1_i32_24⟩
def k3_off67 (k3_t3 : Fin k3_t3_loop.trips) : Fin 1 → Nat :=
  let c0_i32_27 : BitVec 32 := 0#32
  let c0_i32_22 : BitVec 32 := 0#32
  let c1_i32_24 : BitVec 32 := 1#32
  let arg10 : BitVec 32 := Scf.iv c0_i32_22 c1_i32_24 k3_t3
  let c1_i32_26 : BitVec 32 := 1#32
  let v46 : BitVec 32 := Scalar.muli arg10 c1_i32_26
  let v47 : BitVec 32 := Scalar.addi c0_i32_27 v46
  let c16_i32 : BitVec 32 := 16#32
  let v48 : BitVec 32 := Scalar.muli v47 c16_i32
  let v49 : Index := Scalar.indexCast v48
  ![v49.toNat]
def k3_off68 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r0 : BitVec 32 := 0#32
  ![v1.toNat, 0]
abbrev grid4 : Pipeline.Grid := .none

abbrev stage4_0 : Fin 1 → Memref sig .tc .vmem S32x5904 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x5904 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S19x5904 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S19x5904 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S19x5904 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S8x512x512x1 : Shape := ⟨4, ![8, 512, 512, 1]⟩
abbrev S1x1x1x19 : Shape := ⟨4, ![1, 1, 1, 19]⟩
abbrev S8x512x512x19 : Shape := ⟨4, ![8, 512, 512, 19]⟩
abbrev S_ : Shape := ⟨0, ![]⟩
abbrev S8x1x512x512 : Shape := ⟨4, ![8, 1, 512, 512]⟩
abbrev S2097152 : Shape := ⟨1, ![2097152]⟩
abbrev S361 : Shape := ⟨1, ![361]⟩
abbrev S2097152x1 : Shape := ⟨2, ![2097152, 1]⟩
abbrev S19x19 : Shape := ⟨2, ![19, 19]⟩
abbrev S19 : Shape := ⟨1, ![19]⟩

abbrev nBuf : Space → Nat
  | .hbm => 109
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512x1, .i32⟩
  | .hbm, ⟨3, _⟩ => ⟨S1x1x1x19, .i32⟩
  | .hbm, ⟨4, _⟩ => ⟨S8x512x512x19, .i32⟩
  | .hbm, ⟨5, _⟩ => ⟨S8x512x512x19, .i32⟩
  | .hbm, ⟨6, _⟩ => ⟨S8x512x512x19, .i1⟩
  | .hbm, ⟨7, _⟩ => ⟨S8x512x512x19, .f32⟩
  | .hbm, ⟨8, _⟩ => ⟨S8x19x512x512, .f32⟩
  | .hbm, ⟨9, _⟩ => ⟨S_, .f32⟩
  | .hbm, ⟨10, _⟩ => ⟨S8x512x512, .f32⟩
  | .hbm, ⟨11, _⟩ => ⟨S_, .f32⟩
  | .hbm, ⟨12, _⟩ => ⟨S8x512x512, .f32⟩
  | .hbm, ⟨13, _⟩ => ⟨S8x512x512, .f32⟩
  | .hbm, ⟨14, _⟩ => ⟨S8x1x512x512, .f32⟩
  | .hbm, ⟨15, _⟩ => ⟨S8x19x512x512, .f32⟩
  | .hbm, ⟨16, _⟩ => ⟨S8x19x512x512, .f32⟩
  | .hbm, ⟨17, _⟩ => ⟨S8x19x512x512, .f32⟩
  | .hbm, ⟨18, _⟩ => ⟨S_, .f32⟩
  | .hbm, ⟨19, _⟩ => ⟨S8x512x512, .f32⟩
  | .hbm, ⟨20, _⟩ => ⟨S8x1x512x512, .f32⟩
  | .hbm, ⟨21, _⟩ => ⟨S8x19x512x512, .f32⟩
  | .hbm, ⟨22, _⟩ => ⟨S8x19x512x512, .f32⟩
  | .hbm, ⟨23, _⟩ => ⟨S8x19x512x512, .i32⟩
  | .hbm, ⟨24, _⟩ => ⟨S_, .f32⟩
  | .hbm, ⟨25, _⟩ => ⟨S_, .i32⟩
  | .hbm, ⟨26, _⟩ => ⟨S8x512x512, .f32⟩
  | .hbm, ⟨27, _⟩ => ⟨S8x512x512, .i32⟩
  | .hbm, ⟨28, _⟩ => ⟨S2097152, .i32⟩
  | .hbm, ⟨29, _⟩ => ⟨S8x19x512x512, .i32⟩
  | .hbm, ⟨30, _⟩ => ⟨S_, .f32⟩
  | .hbm, ⟨31, _⟩ => ⟨S_, .i32⟩
  | .hbm, ⟨32, _⟩ => ⟨S8x512x512, .f32⟩
  | .hbm, ⟨33, _⟩ => ⟨S8x512x512, .i32⟩
  | .hbm, ⟨34, _⟩ => ⟨S2097152, .i32⟩
  | .hbm, ⟨35, _⟩ => ⟨S_, .i32⟩
  | .hbm, ⟨36, _⟩ => ⟨S2097152, .i32⟩
  | .hbm, ⟨37, _⟩ => ⟨S2097152, .i32⟩
  | .hbm, ⟨38, _⟩ => ⟨S2097152, .i32⟩
  | .hbm, ⟨39, _⟩ => ⟨S_, .i32⟩
  | .hbm, ⟨40, _⟩ => ⟨S361, .i32⟩
  | .hbm, ⟨41, _⟩ => ⟨S_, .i32⟩
  | .hbm, ⟨42, _⟩ => ⟨S_, .i32⟩
  | .hbm, ⟨43, _⟩ => ⟨S2097152, .i32⟩
  | .hbm, ⟨44, _⟩ => ⟨S2097152, .i32⟩
  | .hbm, ⟨45, _⟩ => ⟨S_, .i32⟩
  | .hbm, ⟨46, _⟩ => ⟨S2097152, .i32⟩
  | .hbm, ⟨47, _⟩ => ⟨S2097152, .i1⟩
  | .hbm, ⟨48, _⟩ => ⟨S_, .i32⟩
  | .hbm, ⟨49, _⟩ => ⟨S2097152, .i32⟩
  | .hbm, ⟨50, _⟩ => ⟨S2097152, .i32⟩
  | .hbm, ⟨51, _⟩ => ⟨S2097152, .i32⟩
  | .hbm, ⟨52, _⟩ => ⟨S2097152x1, .i32⟩
  | .hbm, ⟨53, _⟩ => ⟨S_, .i32⟩
  | .hbm, ⟨54, _⟩ => ⟨S2097152, .i32⟩
  | .hbm, ⟨55, _⟩ => ⟨S361, .i32⟩
  | .hbm, ⟨56, _⟩ => ⟨S361, .f32⟩
  | .hbm, ⟨57, _⟩ => ⟨S19x19, .f32⟩
  | .hbm, ⟨58, _⟩ => ⟨S_, .f32⟩
  | .hbm, ⟨59, _⟩ => ⟨S19, .f32⟩
  | .hbm, ⟨60, _⟩ => ⟨S_, .f32⟩
  | .hbm, ⟨61, _⟩ => ⟨S19, .f32⟩
  | .hbm, ⟨62, _⟩ => ⟨S19x19, .i32⟩
  | .hbm, ⟨63, _⟩ => ⟨S19x19, .i32⟩
  | .hbm, ⟨64, _⟩ => ⟨S_, .i32⟩
  | .hbm, ⟨65, _⟩ => ⟨S19x19, .i32⟩
  | .hbm, ⟨66, _⟩ => ⟨S19x19, .i32⟩
  | .hbm, ⟨67, _⟩ => ⟨S19x19, .i1⟩
  | .hbm, ⟨68, _⟩ => ⟨S19x19, .f32⟩
  | .hbm, ⟨69, _⟩ => ⟨S19x19, .f32⟩
  | .hbm, ⟨70, _⟩ => ⟨S_, .f32⟩
  | .hbm, ⟨71, _⟩ => ⟨S19, .f32⟩
  | .hbm, ⟨72, _⟩ => ⟨S19, .f32⟩
  | .hbm, ⟨73, _⟩ => ⟨S19, .f32⟩
  | .hbm, ⟨74, _⟩ => ⟨S_, .f32⟩
  | .hbm, ⟨75, _⟩ => ⟨S19, .f32⟩
  | .hbm, ⟨76, _⟩ => ⟨S_, .f32⟩
  | .hbm, ⟨77, _⟩ => ⟨S_, .f32⟩
  | .hbm, ⟨78, _⟩ => ⟨S19, .f32⟩
  | .hbm, ⟨79, _⟩ => ⟨S19, .f32⟩
  | .hbm, ⟨80, _⟩ => ⟨S19, .f32⟩
  | .hbm, ⟨81, _⟩ => ⟨S19, .f32⟩
  | .hbm, ⟨82, _⟩ => ⟨S19, .f32⟩
  | .hbm, ⟨83, _⟩ => ⟨S_, .f32⟩
  | .hbm, ⟨84, _⟩ => ⟨S19, .f32⟩
  | .hbm, ⟨85, _⟩ => ⟨S_, .f32⟩
  | .hbm, ⟨86, _⟩ => ⟨S19, .f32⟩
  | .hbm, ⟨87, _⟩ => ⟨S19, .f32⟩
  | .hbm, ⟨88, _⟩ => ⟨S19, .f32⟩
  | .hbm, ⟨89, _⟩ => ⟨S19, .f32⟩
  | .hbm, ⟨90, _⟩ => ⟨S19, .f32⟩
  | .hbm, ⟨91, _⟩ => ⟨S19, .f32⟩
  | .hbm, ⟨92, _⟩ => ⟨S19, .f32⟩
  | .hbm, ⟨93, _⟩ => ⟨S19, .f32⟩
  | .hbm, ⟨94, _⟩ => ⟨S19, .f32⟩
  | .hbm, ⟨95, _⟩ => ⟨S19, .f32⟩
  | .hbm, ⟨96, _⟩ => ⟨S_, .f32⟩
  | .hbm, ⟨97, _⟩ => ⟨S19, .f32⟩
  | .hbm, ⟨98, _⟩ => ⟨S19, .f32⟩
  | .hbm, ⟨99, _⟩ => ⟨S_, .f32⟩
  | .hbm, ⟨100, _⟩ => ⟨S19, .f32⟩
  | .hbm, ⟨101, _⟩ => ⟨S19, .f32⟩
  | .hbm, ⟨102, _⟩ => ⟨S19, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_call1_cst : Ref sig .tc := ⟨.hbm, 24, rfl⟩
abbrev main_call1_c : Ref sig .tc := ⟨.hbm, 25, rfl⟩
abbrev main_call1_v1_0 : Ref sig .tc := ⟨.hbm, 26, rfl⟩
abbrev main_v13 : Ref sig .tc := ⟨.hbm, 27, rfl⟩
abbrev main_v14 : Ref sig .tc := ⟨.hbm, 28, rfl⟩
abbrev main_call2_v0 : Ref sig .tc := ⟨.hbm, 29, rfl⟩
abbrev main_call2_cst : Ref sig .tc := ⟨.hbm, 30, rfl⟩
abbrev main_call2_c : Ref sig .tc := ⟨.hbm, 31, rfl⟩
abbrev main_call2_v1_0 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_c_3 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_cst_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_cst_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_17 : Ref sig .tc := ⟨.hbm, 103, rfl⟩
abbrev main_v67 : Ref sig .tc := ⟨.hbm, 104, rfl⟩
abbrev main_cst_18 : Ref sig .tc := ⟨.hbm, 105, rfl⟩
abbrev main_v68 : Ref sig .tc := ⟨.hbm, 106, rfl⟩
abbrev main_cst_19 : Ref sig .tc := ⟨.hbm, 107, rfl⟩
abbrev main_v69 : Ref sig .tc := ⟨.hbm, 108, rfl⟩

abbrev nD : Nat := 1
abbrev τ : Topo := Topo.v7x

variable {F : FTy → Type} [FloatOps F]
-- ==== Proof.Memory.lean ====
/-
  Loads, stores and indexed stores of a memref owned at contents it reads: each triple says what the memref reads
  afterwards, with no word of how its buffer lies.
-/
module

public import Idealize.ShloMosaic.Lib.SparseCore.Quiescent
public import Idealize.ShloMosaic.Lib.Tactic

@[expose] public section

noncomputable section

namespace Cert.Proof.Memory

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Name : Type} [DecidableEq Name]
variable {U : Type} [URA U] {Lvl : Type} [Preorder Lvl] {Λ : Labels} {F : FTy → Type} [FloatOps F]
variable {defs : Defs nD τ sig (Elt F) Λ} (𝒱 : Variants) (c : Thread nD τ) (bd : Option 𝒱.V) (E : Set Name)
variable {s : Shape} {e : EltTy} {α : Type} {Q : α → sProp (MT nD τ sig Ix (Elt F) Name U Lvl)}

/-- What is owned, as contents of its buffer. -/
theorem open_owns {sp : Space} {m : Memref sig c.2.kind sp s e} {q : PosShare TreeShare} {X : s.Idx → Elt F e} :
    (owns c m q X : sProp (MT nD τ sig Ix (Elt F) Name U Lvl)) ⊢ iprop(∃ f, ⌜m.view.read (Elt F) f = X⌝ ∗ (m.view.loc c ↦[m.view.set]{q} f)) := by
  unfold owns; exact .rfl

/-- Contents of the buffer that read `X` own it at `X`. -/
theorem close_owns {sp : Space} {m : Memref sig c.2.kind sp s e} {q : PosShare TreeShare} {X : s.Idx → Elt F e} {f : m.view.ty.Contents (Elt F)}
    (h : m.view.read (Elt F) f = X) :
    (m.view.loc c ↦[m.view.set]{q} f : sProp (MT nD τ sig Ix (Elt F) Name U Lvl)) ⊢ owns c m q X := by
  unfold owns; iintro H; iexists f; isplitr
  · ipureintro; exact h
  iexact H

/-- A buffer written whole reads what was written. -/
theorem read_written {sig' : RefSig} {κ' : Kind} {sp : Space} {s' : Shape} {e' : EltTy} (v : View sig' κ' sp s' e') (f : v.ty.Contents (Elt F)) (w : s'.Idx → Elt F e') :
    v.read (Elt F) (v.writes (Elt F) f [⟨Rect.whole s', w⟩]) = w := by
  funext y
  have h := View.read_writes_cons_emb v f (Rect.whole s') w [] y
  rwa [Rect.emb_whole_apply] at h

/-- A load through a rectangle reads the owned contents there. -/
theorem wp_load_owns {cs : CoreSpace} {m : Memref sig c.2.kind cs s e} {r : Rect s} {hl : m.view.LoadsAt r.toLoadRect}
    {k : (r.shape.Idx → Elt F e) → Prog (TpuEff nD τ sig (Elt F) Λ c.2) α} {q : PosShare TreeShare} {X : s.Idx → Elt F e} :
    owns c m q X
      ⊢ iprop((owns c m q X -∗ wp frame (wpE defs 𝒱 c bd) E (k fun x => X (r.emb x)) Q)
        -∗ wp frame (wpE defs 𝒱 c bd) E (.op (.load m r.toLoadRect hl) k) Q) := by
  unfold owns
  iintro ⟨%f, %hf, H⟩ Hk
  subst hf
  iapply (wp_load_rect (defs := defs) 𝒱 c bd E (Q := Q) (m := m) (r := r) (hl := hl) (k := k) (q := q) (f := f)
    (m.view.set_slice_subset r)) $$ H
  iintro H
  iapply Hk
  iexists f; isplitr
  · ipureintro; rfl
  iexact H

/-- An unmasked store through a rectangle leaves the payload there and the owned contents elsewhere. -/
theorem wp_store_owns {cs : CoreSpace} {m : Memref sig c.2.kind cs s e} {r : Rect s} {w : r.shape.Idx → Elt F e}
    {hx : (m.access r).Stores Finset.univ} {hm : Finset.univ = Finset.univ ∨ ∀ a, r.stride a = 1}
    {k : PUnit → Prog (TpuEff nD τ sig (Elt F) Λ c.2) α} {X : s.Idx → Elt F e} (Y : s.Idx → Elt F e)
    (hin : ∀ x, Y (r.emb x) = w x) (hout : ∀ y, y ∉ r.set → Y y = X y) :
    owns c m fullShare X
      ⊢ iprop((owns c m fullShare Y -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store (defs := defs) 𝒱 c bd E (Q := Q) (m := m) (r := r) (w := w) (Mk := Finset.univ) (hx := hx) (hm := hm) (k := k) (f := f)
    (m.setOn_access_subset r Finset.univ)) $$ H
  iintro H
  iapply Hk
  iexists _; isplitr
  rotate_left
  · iexact H
  ipureintro
  funext y
  by_cases hy : y ∈ r.set
  · obtain ⟨x, rfl⟩ := r.exists_idx_of_mem hy
    exact (View.read_writes_cons_emb m.view f r w [] x).trans (hin x).symm
  · exact (View.read_writes_cons_miss m.view f ⟨r, w⟩ [] y hy).trans (hout y hy).symm

/-- An indexed store leaves the scatter of the owned contents. -/
theorem wp_storeIdx_owns {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : s.Idx → Elt F e} :
    owns c base fullShare X
      ⊢ iprop((owns c base fullShare (storeIdx X idxs v mask add h) -∗ wp frame (wpE defs 𝒱 c bd) E (k ⟨⟩) Q)
        -∗ wp frame (wpE defs 𝒱 c bd) E (SparseCore.vectorStoreIdx base idxs v mask add h hs >>= k) Q) := by
  rw [SparseCore.vectorStoreIdx_bind]
  iintro H Hk
  iapply (wp_load_owns (defs := defs) 𝒱 c bd E (Q := Q) (m := base) (r := Rect.whole s) (hl := View.loadsAt_rect hs.loads)
    (k := fun f' => .op (.store base (.whole s) (storeIdx f' idxs v mask add h) Finset.univ hs (.inl rfl)) k)
    (q := fullShare) (X := X)) $$ H
  iintro H
  have hw : (fun x => X ((Rect.whole s).emb x)) = X := funext fun x => congrArg X (Rect.emb_whole_apply s x)
  have hin : ∀ x, storeIdx X idxs v mask add h ((Rect.whole s).emb x) = storeIdx (fun x => X ((Rect.whole s).emb x)) idxs v mask add h x :=
    fun x => by rw [hw, Rect.emb_whole_apply]
  have hout : ∀ y, y ∉ (Rect.whole s).set → storeIdx X idxs v mask add h y = X y :=
    fun y hy => absurd (Rect.set_whole s ▸ Finset.mem_univ y) hy
  iapply (wp_store_owns (defs := defs) 𝒱 c bd E (Q := Q) (m := base) (r := .whole s)
    (hx := hs) (hm := .inl rfl) (k := k) (X := X) (storeIdx X idxs v mask add h) hin hout) $$ H
  iexact Hk

/-- A program that is done. -/
theorem wp_done {a : α} : Q a ⊢ wp frame (wpE defs 𝒱 c bd) E (Prog.ret a) Q := by
  rw [wp_ret]; iintro H; imodintro; iexact H

end Cert.Proof.Memory
-- ==== Proof.Argmax.lean ====
/-
  The argmax kernel's body: from a block of labels and the block of the 19 class scores over the same pixels, the block of
  `label * 19 + argmax`, the argmax a running comparison that moves to a later class only where its score is greater.
-/
module

public import proofs.«01_k».proof.Proof.Gen.KernelIdeal.Skeleton
public import proofs.«01_k».proof.Proof.Memory
public import Idealize.ShloMosaic.Lib.Pipeline.Value
public import Idealize.ShloMosaic.Lib.ValueIdxCore

@[expose] public section

noncomputable section

namespace Cert.Proof.Argmax

open Cert.KernelIdeal Cert.KernelIdeal.Gen Cert.Proof.Memory
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The greatest of the scores `f 0 … f k`, by running comparison. -/
def best (f : ℕ → F .f32) : ℕ → F .f32
  | 0 => f 0
  | k + 1 => Scalar.select (FloatOps.cmpf .ogt (f (k + 1)) (best f k)) (f (k + 1)) (best f k)
/-- The class it was found at. -/
def arg (f : ℕ → F .f32) : ℕ → BitVec 32
  | 0 => 0#32
  | k + 1 => Scalar.select (FloatOps.cmpf .ogt (f (k + 1)) (best f k)) (BitVec.ofNat 32 (k + 1)) (arg f k)

/-- The index a pixel of label `t` and scores `f` counts at. -/
def pix (t : BitVec 32) (f : ℕ → F .f32) : BitVec 32 := t * 19#32 + arg f 18

/-- One comparison of the running maximum, at a pixel; -/
theorem best_step {s : Shape} {f : ℕ → F .f32} {a b : FVec F s .f32} {p : s.Idx} (k : ℕ) (ha : a p = f (k + 1)) (hb : b p = best f k) :
    select (cmpf .ogt a b) a b p = best f (k + 1) := by
  rw [select_apply, cmpf_apply, ha, hb]; rfl
/-- of its class. -/
theorem arg_step {s : Shape} {f : ℕ → F .f32} {a b : FVec F s .f32} {j : IVec s 32} {p : s.Idx} (k : ℕ) (ha : a p = f (k + 1)) (hb : b p = best f k)
    (hj : j p = arg f k) : select (cmpf .ogt a b) (broadcast s (BitVec.ofNat 32 (k + 1))) j p = arg f (k + 1) := by
  rw [select_apply, cmpf_apply, ha, hb, hj]; rfl

/-- The scores at a pixel of the block. -/
def chan (X : S1x19x256x512.Idx → F .f32) (p : S256x512.Idx) (k : ℕ) : F .f32 := X (ix4 0 (Fin.ofNat 19 k) (p 0) (p 1))

/-- A class's slice of the block. -/
theorem chan_eq (X : S1x19x256x512.Idx → F .f32) (p : S256x512.Idx) (k : ℕ) (hk : k < 19) (h : S19x256x512.Slices ![k, 0, 0] S1x256x512) :
    shapeCast S256x512 (extractStridedSlice S1x256x512 ![k, 0, 0] (shapeCast S19x256x512 X shapeCasts_S1x19x256x512_S19x256x512) h)
      shapeCasts_S1x256x512_S256x512 p = chan X p k := by
  refine (shapeCast_dropUnit_apply ![256, 512] _ _ p).trans ?_
  refine (extractStridedSlice_apply _ _ h _ (ix3 (Fin.ofNat 19 k) (p 0) (p 1)) fun a => ?_).trans ?_
  · fin_cases a
    · show (Fin.ofNat 19 k).val = k + 0; exact Nat.mod_eq_of_lt hk
    · show (p 0).val = 0 + (p 0).val; omega
    · show (p 1).val = 0 + (p 1).val; omega
  · refine (shapeCast_dropUnit_apply ![19, 256, 512] _ _ _).trans (congrArg X (funext fun a => ?_))
    fin_cases a <;> rfl

/-- The block the body stores, of the blocks it loads. -/
def argBlk (T : S1x256x512.Idx → BitVec 32) (X : S1x19x256x512.Idx → F .f32) : S1x256x512.Idx → BitVec 32 :=
  k0_pay1 (k0_pay2 X) (k0_pay3 (F := F) T) (k0_pay49 (k0_pay2 X) (k0_pay22 X) (k0_pay23 X) (k0_pay24 X))
    (k0_pay51 (k0_pay2 X) (k0_pay22 X) (k0_pay24 X)) (k0_pay52 (k0_pay2 X) (k0_pay22 X) (k0_pay24 X)) 15#32

theorem argBlk_apply (T : S1x256x512.Idx → BitVec 32) (X : S1x19x256x512.Idx → F .f32) (j : S1x256x512.Idx) :
    argBlk T X j = pix (T j) (chan X (fun a => j a.succ : S256x512.Idx)) := by
  obtain ⟨p, hp⟩ : ∃ p : S256x512.Idx, (fun a => j a.succ : S256x512.Idx) = p := ⟨_, rfl⟩
  have hT : k0_pay3 (F := F) T p = T j := by
    refine (shapeCast_dropUnit_apply ![256, 512] T _ _).trans (congrArg T (funext fun a => ?_))
    have h0 : (j 0).val < 1 := (j 0).isLt
    rw [← hp]
    fin_cases a
    · exact Fin.ext (by show 0 = (j 0).val; omega)
    · rfl
    · rfl
  rw [hp]
  have c := fun k hk h => chan_eq X p k hk h
  have b0 : k0_pay4 X p = best (chan X p) 0 := c 0 (by omega) _
  have b1 : k0_pay7 X p = best (chan X p) 1 := best_step 0 (c 1 (by omega) _) b0
  have b2 : k0_pay10 X p = best (chan X p) 2 := best_step 1 (c 2 (by omega) _) b1
  have b3 : k0_pay13 X p = best (chan X p) 3 := best_step 2 (c 3 (by omega) _) b2
  have b4 : k0_pay16 X p = best (chan X p) 4 := best_step 3 (c 4 (by omega) _) b3
  have b5 : k0_pay19 X p = best (chan X p) 5 := best_step 4 (c 5 (by omega) _) b4
  have b6 : k0_pay22 X p = best (chan X p) 6 := best_step 5 (c 6 (by omega) _) b5
  have a6 : k0_pay23 X p = arg (chan X p) 6 :=
    arg_step 5 (c 6 (by omega) _) b5 (arg_step 4 (c 5 (by omega) _) b4 (arg_step 3 (c 4 (by omega) _) b3
      (arg_step 2 (c 3 (by omega) _) b2 (arg_step 1 (c 2 (by omega) _) b1 (arg_step 0 (c 1 (by omega) _) b0 rfl)))))
  have b7 : k0_pay27 (k0_pay22 X) (k0_pay24 X) p = best (chan X p) 7 := best_step 6 (c 7 (by omega) slices_S19x256x512_o7_0_0_S1x256x512) b6
  have b8 : k0_pay30 (k0_pay2 X) (k0_pay22 X) (k0_pay24 X) p = best (chan X p) 8 := best_step 7 (c 8 (by omega) _) b7
  have b9 : k0_pay33 (k0_pay2 X) (k0_pay22 X) (k0_pay24 X) p = best (chan X p) 9 := best_step 8 (c 9 (by omega) _) b8
  have b10 : k0_pay36 (k0_pay2 X) (k0_pay22 X) (k0_pay24 X) p = best (chan X p) 10 := best_step 9 (c 10 (by omega) _) b9
  have b11 : k0_pay39 (k0_pay2 X) (k0_pay22 X) (k0_pay24 X) p = best (chan X p) 11 := best_step 10 (c 11 (by omega) _) b10
  have b12 : k0_pay42 (k0_pay2 X) (k0_pay22 X) (k0_pay24 X) p = best (chan X p) 12 := best_step 11 (c 12 (by omega) _) b11
  have b13 : k0_pay45 (k0_pay2 X) (k0_pay22 X) (k0_pay24 X) p = best (chan X p) 13 := best_step 12 (c 13 (by omega) _) b12
  have b14 : k0_pay48 (k0_pay2 X) (k0_pay22 X) (k0_pay24 X) p = best (chan X p) 14 := best_step 13 (c 14 (by omega) _) b13
  have a14 : k0_pay49 (k0_pay2 X) (k0_pay22 X) (k0_pay23 X) (k0_pay24 X) p = arg (chan X p) 14 :=
    arg_step 13 (c 14 (by omega) _) b13 (arg_step 12 (c 13 (by omega) _) b12 (arg_step 11 (c 12 (by omega) _) b11
      (arg_step 10 (c 11 (by omega) _) b10 (arg_step 9 (c 10 (by omega) _) b9 (arg_step 8 (c 9 (by omega) _) b8
        (arg_step 7 (c 8 (by omega) _) b7 (arg_step 6 (c 7 (by omega) slices_S19x256x512_o7_0_0_S1x256x512) b6 a6)))))))
  have b15 : k0_pay52 (k0_pay2 X) (k0_pay22 X) (k0_pay24 X) p = best (chan X p) 15 := best_step 14 (c 15 (by omega) _) b14
  have a15 := arg_step 14 (c 15 (by omega) slices_S19x256x512_o15_0_0_S1x256x512) b14 a14
  have b16 := best_step 15 (c 16 (by omega) slices_S19x256x512_o16_0_0_S1x256x512) b15
  have a16 := arg_step 15 (c 16 (by omega) slices_S19x256x512_o16_0_0_S1x256x512) b15 a15
  have b17 := best_step 16 (c 17 (by omega) slices_S19x256x512_o17_0_0_S1x256x512) b16
  have a17 := arg_step 16 (c 17 (by omega) slices_S19x256x512_o17_0_0_S1x256x512) b16 a16
  have a18 := arg_step 17 (c 18 (by omega) slices_S19x256x512_o18_0_0_S1x256x512) b17 a17
  unfold argBlk k0_pay1
  refine (shapeCast_addUnit_apply ![256, 512] _ _ j).trans ?_
  rw [hp]
  show k0_pay3 (F := F) T p * 19#32 + _ = _
  rw [hT]
  exact congrArg (T j * 19#32 + ·) a18

variable {Ix : Type} [DecidableEq Ix] {Name : Type} [DecidableEq Name]
variable {U : Type} [URA U] {Lvl : Type} [Preorder Lvl]

/-- The body's run: the loaded blocks kept, the stored block the argmax's. -/
theorem argmax_run {defs : Defs nD τ sig (Elt F) Λ₀} (𝒱 : Variants) (c : Dev nD) (bd : Option 𝒱.V) (E : Set Name) (i : grid0.Coords)
    (arg2 : Memref sig .tc .vmem S1x256x512 .i32) (harg2 : arg2.IsWhole) (arg3 : Memref sig .tc .vmem S1x19x256x512 .f32) (harg3 : arg3.IsWhole)
    (arg4 : Memref sig .tc .vmem S1x256x512 .i32) (harg4 : arg4.IsWhole)
    (T : S1x256x512.Idx → BitVec 32) (X : S1x19x256x512.Idx → F .f32) (Q : PUnit → sProp (MT nD τ sig Ix (Elt F) Name U Lvl)) :
    iprop(owns (c.tc : Thread nD τ) arg2 fullShare (T : S1x256x512.Idx → Elt F .i32) ∗ owns (c.tc : Thread nD τ) arg3 fullShare (X : S1x19x256x512.Idx → Elt F .f32)
        ∗ (∃ d, owns (c.tc : Thread nD τ) arg4 fullShare d)
        ∗ ((owns (c.tc : Thread nD τ) arg2 fullShare (T : S1x256x512.Idx → Elt F .i32) ∗ owns (c.tc : Thread nD τ) arg3 fullShare (X : S1x19x256x512.Idx → Elt F .f32)
          ∗ owns (c.tc : Thread nD τ) arg4 fullShare (argBlk T X : S1x256x512.Idx → Elt F .i32)) -∗ Q ⟨⟩))
      ⊢ wp frame (wpE defs 𝒱 (c.tc : Thread nD τ) bd) E (cc0__argmax_body i arg2 harg2 arg3 harg3 arg4 harg4) Q := by
  rw [cc0__argmax_body_eq_skeleton]
  unfold cc0__argmax_body_skel
  rw [k0_part1_eq_skeleton, k0_part2_eq_skeleton]
  unfold k0_part1_skel k0_part2_skel
  have hw2 : ∀ Z : S1x256x512.Idx → Elt F .i32, (fun x => Z ((Rect.unit (s := S1x256x512) ![0, 0, 0] S1x256x512.size inb_S1x256x512_S1x256x512_0_0_0).emb x)) = Z :=
    fun Z => funext fun x => congrArg Z (funext fun a => Fin.ext (by rw [Rect.emb_apply]; fin_cases a <;> simp))
  have hw3 : ∀ Z : S1x19x256x512.Idx → Elt F .f32,
      (fun x => Z ((Rect.unit (s := S1x19x256x512) ![0, 0, 0, 0] S1x19x256x512.size inb_S1x19x256x512_S1x19x256x512_0_0_0_0).emb x)) = Z :=
    fun Z => funext fun x => congrArg Z (funext fun a => Fin.ext (by rw [Rect.emb_apply]; fin_cases a <;> simp))
  iintro ⟨H2, H3, ⟨%d, H4⟩, Hk⟩
  iapply (wp_load_owns (defs := defs) 𝒱 (c.tc : Thread nD τ) bd E (X := X)) $$ H3
  iintro H3
  rw [hw3 X]
  iapply (wp_load_owns (defs := defs) 𝒱 (c.tc : Thread nD τ) bd E (X := T)) $$ H2
  iintro H2
  rw [hw2 T]
  iapply (wp_load_owns (defs := defs) 𝒱 (c.tc : Thread nD τ) bd E (X := d)) $$ H4
  iintro H4
  iapply (wp_store_owns (defs := defs) 𝒱 (c.tc : Thread nD τ) bd E (X := d) (argBlk T X : S1x256x512.Idx → Elt F .i32)
    (fun x => congrFun (hw2 (argBlk T X)) x)
    (fun y hy => absurd (Rect.mem_set_unit.mpr fun a => ⟨by fin_cases a <;> exact Nat.zero_le _, by fin_cases a <;> exact Nat.lt_of_lt_of_eq (y _).isLt (Nat.zero_add _).symm⟩) hy)) $$ H4
  iintro H4
  iapply (wp_done (defs := defs) 𝒱 (c.tc : Thread nD τ) bd E)
  iapply Hk
  isplitl [H2]; · iexact H2
  isplitl [H3]; · iexact H3
  iexact H4

end Cert.Proof.Argmax
-- ==== Proof.Epilogue.lean ====
/-
  The epilogue's body: from the tiles' rows of counts of both calls and the three constant masks, the loss.
-/
module

public import proofs.«01_k».proof.Proof.Gen.KernelIdeal.Skeleton
public import proofs.«01_k».proof.Proof.Memory

@[expose] public section

noncomputable section

namespace Cert.Proof.Epilogue

open Cert.KernelIdeal Cert.KernelIdeal.Gen Cert.Proof.Memory
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loss, of the two arrays of counts and the masks. -/
def epi (A B : S32x5904.Idx → F .f32) (R C D : S19x5904.Idx → F .f32) : S1x1.Idx → F .f32 :=
  k4_pay1 (k4_pay5 A B C D) (k4_pay6 A B R C D)

variable {Ix : Type} [DecidableEq Ix] {Name : Type} [DecidableEq Name]
variable {U : Type} [URA U] {Lvl : Type} [Preorder Lvl]

/-- A load of a whole rank-2 array. -/
theorem whole2 {n0 n1 : ℕ} {α : Type} (h : ∀ a, (![0, 0] : Fin 2 → ℕ) a + ((⟨2, ![n0, n1]⟩ : Shape).size a) ≤ (⟨2, ![n0, n1]⟩ : Shape).size a)
    (Z : (⟨2, ![n0, n1]⟩ : Shape).Idx → α) :
    (fun x => Z ((Rect.unit (s := ⟨2, ![n0, n1]⟩) ![0, 0] (⟨2, ![n0, n1]⟩ : Shape).size h).emb x)) = Z :=
  funext fun x => congrArg Z (funext fun a => Fin.ext (by rw [Rect.emb_apply]; fin_cases a <;> simp))

/-- The body's run: the loaded arrays kept, the loss stored. -/
theorem epilogue_run {defs : Defs nD τ sig (Elt F) Λ₀} (𝒱 : Variants) (c : Dev nD) (bd : Option 𝒱.V) (E : Set Name)
    (arg0 : Memref sig .tc .vmem S32x5904 .f32) (harg0 : arg0.IsWhole) (arg1 : Memref sig .tc .vmem S32x5904 .f32) (harg1 : arg1.IsWhole)
    (arg2 : Memref sig .tc .vmem S19x5904 .f32) (harg2 : arg2.IsWhole) (arg3 : Memref sig .tc .vmem S19x5904 .f32) (harg3 : arg3.IsWhole)
    (arg4 : Memref sig .tc .vmem S19x5904 .f32) (harg4 : arg4.IsWhole) (arg5 : Memref sig .tc .vmem S1x1 .f32) (harg5 : arg5.IsWhole)
    (A B : S32x5904.Idx → Elt F .f32) (R C D : S19x5904.Idx → Elt F .f32) (Q : PUnit → sProp (MT nD τ sig Ix (Elt F) Name U Lvl)) :
    iprop(owns (c.tc : Thread nD τ) arg0 fullShare A ∗ owns (c.tc : Thread nD τ) arg1 fullShare B
        ∗ owns (c.tc : Thread nD τ) arg2 fullShare R ∗ owns (c.tc : Thread nD τ) arg3 fullShare C ∗ owns (c.tc : Thread nD τ) arg4 fullShare D
        ∗ (∃ d, owns (c.tc : Thread nD τ) arg5 fullShare d)
        ∗ ((owns (c.tc : Thread nD τ) arg0 fullShare A ∗ owns (c.tc : Thread nD τ) arg1 fullShare B
          ∗ owns (c.tc : Thread nD τ) arg2 fullShare R ∗ owns (c.tc : Thread nD τ) arg3 fullShare C ∗ owns (c.tc : Thread nD τ) arg4 fullShare D
          ∗ owns (c.tc : Thread nD τ) arg5 fullShare (epi A B R C D : S1x1.Idx → Elt F .f32)) -∗ Q ⟨⟩))
      ⊢ wp frame (wpE defs 𝒱 (c.tc : Thread nD τ) bd) E (cc4__epilogue_body arg0 harg0 arg1 harg1 arg2 harg2 arg3 harg3 arg4 harg4 arg5 harg5) Q := by
  rw [cc4__epilogue_body_eq_skeleton]
  unfold cc4__epilogue_body_skel
  rw [k4_part1_eq_skeleton]
  unfold k4_part1_skel
  iintro ⟨H0, H1, H2, H3, H4, ⟨%d, H5⟩, Hk⟩
  iapply (wp_load_owns (defs := defs) 𝒱 (c.tc : Thread nD τ) bd E (X := A)) $$ H0
  iintro H0
  rw [whole2 _ A]
  iapply (wp_load_owns (defs := defs) 𝒱 (c.tc : Thread nD τ) bd E (X := B)) $$ H1
  iintro H1
  rw [whole2 _ B]
  iapply (wp_load_owns (defs := defs) 𝒱 (c.tc : Thread nD τ) bd E (X := R)) $$ H2
  iintro H2
  rw [whole2 _ R]
  iapply (wp_load_owns (defs := defs) 𝒱 (c.tc : Thread nD τ) bd E (X := C)) $$ H3
  iintro H3
  rw [whole2 _ C]
  iapply (wp_load_owns (defs := defs) 𝒱 (c.tc : Thread nD τ) bd E (X := D)) $$ H4
  iintro H4
  rw [whole2 _ D]
  iapply (wp_load_owns (defs := defs) 𝒱 (c.tc : Thread nD τ) bd E (X := d)) $$ H5
  iintro H5
  iapply (wp_store_owns (defs := defs) 𝒱 (c.tc : Thread nD τ) bd E (X := d) (epi A B R C D : S1x1.Idx → Elt F .f32)
    (fun x => congrFun (whole2 inb_S1x1_S1x1_0_0 (epi A B R C D)) x)
    (fun y hy => absurd (Rect.mem_set_unit.mpr fun a => ⟨by fin_cases a <;> exact Nat.zero_le _, by fin_cases a <;> exact Nat.lt_of_lt_of_eq (y _).isLt (Nat.zero_add _).symm⟩) hy)) $$ H5
  iintro H5
  iapply (wp_done (defs := defs) 𝒱 (c.tc : Thread nD τ) bd E)
  iapply Hk
  isplitl [H0]; · iexact H0
  isplitl [H1]; · iexact H1
  isplitl [H2]; · iexact H2
  isplitl [H3]; · iexact H3
  isplitl [H4]; · iexact H4
  iexact H5

end Cert.Proof.Epilogue
-- ==== Proof.Groups.lean ====
/-
  The counting loop's trip as ONE repeated group. The printed trip is sixty-four times the same four operations — read
  sixteen indices of one row, add each lane's base, assume the sums in range, add a one at each — in nine pieces;
  `t2_eq` says that it is `groups` over the sixteen quadruples of rows, so that a proof about `group` is enough.
-/
module

public import proofs.«01_k».proof.Proof.Gen.KernelIdeal.Skeleton
public import Idealize.ShloMosaic.Lib.SparseCore.Quiescent
public import Idealize.ShloMosaic.Lib.Tactic

@[expose] public section

noncomputable section

namespace Cert.Proof.Tile

open Cert.KernelIdeal Cert.KernelIdeal.Gen
open Idealize.ShloMosaic Idealize.SL.Sem

variable {F : FTy → Type} [FloatOps F]

/-- Where row `r`'s sixteen indices of trip `t` start. -/
def rowOff (r : Fin 64) (t : Fin k1_t2_loop.trips) : Fin 2 → ℕ := ![r.val, k1_off3 t 1]

theorem rowOff_inb (r : Fin 64) (t : Fin k1_t2_loop.trips) : ∀ a, rowOff r t a + S1x16.size a ≤ S64x512.size a
  | 0 => r.isLt
  | 1 => k1_off3_inb t 1

/-- One group: sixteen indices of row `r` read, each lane's base added, a one added at each sum in `B`. -/
def group (i : grid1.Coords) (A : Memref sig .scVector .vmem S64x512 .i32) (B : Memref sig .scVector .vmem S5904 .f32)
    (one : FVec F S16 .f32) (base : IVec S16 32) (t : Fin k1_t2_loop.trips) (r : Fin 64) :
    Prog (TpuEff nD τ sig (Elt F) Λ₀ (.scVector ((i 0).castLE hcore1) ((i 1).castLE hsub1))) PUnit := do
  let ld : Vec F S1x16 .i32 ← Prog.lift (.load A (Rect.unit (s := S64x512) (rowOff r t) S1x16.size (rowOff_inb r t)).toLoadRect (View.loadsAt_vmem h_S1x16))
  have v : IVec S16 32 := addi base (shapeCast S16 ld shapeCasts_S1x16_S16)
  have hv : k1_chk1 v := (← Prog.lift (TpuEff.assume (k1_chk1 v) (k1_chk1.dec v))).down
  SparseCore.vectorStoreIdx B ![v] one (fun _ => 1#1) true (k1_idx1_inb v hv) (View.stores_vmem_bits_univ h_S5904 rfl)

/-- Row `4 j + k`. -/
def row4 (j : Fin 16) (k : Fin 4) : Fin 64 := ⟨4 * j.val + k.val, by omega⟩

/-- The groups of the quadruples of rows in `l`, row `4 j + k` counted into histogram `k`. -/
def groups (i : grid1.Coords) (A : Memref sig .scVector .vmem S64x512 .i32) (B : Fin 4 → Memref sig .scVector .vmem S5904 .f32)
    (one : FVec F S16 .f32) (base : IVec S16 32) (t : Fin k1_t2_loop.trips) :
    List (Fin 16) → Prog (TpuEff nD τ sig (Elt F) Λ₀ (.scVector ((i 0).castLE hcore1) ((i 1).castLE hsub1))) PUnit
  | [] => pure ⟨⟩
  | j :: l => do
    group i A (B 0) one base t (row4 j 0)
    group i A (B 1) one base t (row4 j 1)
    group i A (B 2) one base t (row4 j 2)
    group i A (B 3) one base t (row4 j 3)
    groups i A B one base t l

set_option maxRecDepth 65536 in
set_option maxHeartbeats 4000000 in
theorem t2_eq (i : grid1.Coords) (arg2 : Memref sig .scVector .hbm S4x512x512 .i32) (harg2 : arg2.IsWhole)
    (arg3 : Memref sig .scVector .hbm S32x5904 .f32) (harg3 : arg3.IsWhole) (arg4 : Memref sig .scVector .vmem S64x512 .i32) (harg4 : arg4.IsWhole)
    (arg5 : Memref sig .scVector .vmem S5904 .f32) (harg5 : arg5.IsWhole) (arg6 : Memref sig .scVector .vmem S5904 .f32) (harg6 : arg6.IsWhole)
    (arg7 : Memref sig .scVector .vmem S5904 .f32) (harg7 : arg7.IsWhole) (arg8 : Memref sig .scVector .vmem S5904 .f32) (harg8 : arg8.IsWhole)
    (arg9 : DmaSems sig S_) (v46_r0 : DmaSems sig S_) (one : FVec F S16 .f32) (base : IVec S16 32) (t : Fin k1_t2_loop.trips) (u : Unit) :
    k1_t2_body i arg2 harg2 arg3 harg3 arg4 harg4 arg5 harg5 arg6 harg6 arg7 harg7 arg8 harg8 arg9 v46_r0 one base t u
      = groups i arg4 ![arg5, arg6, arg7, arg8] one base t [0, 1, 2, 3, 4, 5, 6, 7, 8, 9, 10, 11, 12, 13, 14, 15] := by
  rfl

end Cert.Proof.Tile
-- ==== Proof.Count.lean ====
/-
  What one tile computes, over any float values: the histograms as they stand after `n` groups (`hist`), the words a group
  counts (`lanes`), the row a tile writes out (`tileRow`) — and its three loops run at them.
-/
module

public import proofs.«01_k».proof.Proof.Groups
public import proofs.«01_k».proof.Proof.Memory
public import Idealize.ShloMosaic.Lib.Pipeline.Value

@[expose] public section

noncomputable section

namespace Cert.Proof.Tile

open Cert.KernelIdeal Cert.KernelIdeal.Gen Cert.Proof.Memory
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One histogram of sixteen lanes. -/
abbrev Hist (F : FTy → Type) : Type := S5904.Idx → Elt F .f32
/-- One tile's slab of index words. -/
abbrev Slab : Type := S64x512.Idx → BitVec 32

/-- The place at row `r`, column `c` of a slab. -/
def at2 (r c : ℕ) : S64x512.Idx := fun a => ⟨![r, c] a % S64x512.size a, Nat.mod_lt _ (by revert a; decide)⟩

/-- The sixteen words of row `r` from column `16 t`, each with its lane's base added. -/
def lanes (A : Slab) (r t : ℕ) : IVec S16 32 := fun x => k1_pay68 x + A (at2 r (16 * t + (x 0).val))

/-- A one added at each of the words `v`, if they are in range. -/
def addOnes (h : Hist F) (v : IVec S16 32) : Hist F :=
  if hv : k1_chk1 v then storeIdx (F := F) (e := .f32) h ![v] (k1_pay67 (F := F)) (fun _ => 1#1) true (k1_idx1_inb v hv) else h

/-- Histogram `k` after `n` groups: group `n` counts the row `4 (n % 16) + k`, columns from `16 (n / 16)`. -/
def hist (A : Slab) (k : Fin 4) : ℕ → Hist F
  | 0 => fun _ => Scalar.ofBits .f32 0x00000000#32
  | n + 1 => addOnes (hist A k n) (lanes A (4 * (n % 16) + k.val) (n / 16))

/-- The row that the tile writes out: the four histograms' sum. -/
def tileRow (A : Slab) : Hist F := fun y =>
  FloatOps.addf (FloatOps.addf (FloatOps.addf (hist A 0 512 y) (hist A 1 512 y)) (hist A 2 512 y)) (hist A 3 512 y)

/-- The words of a slab are in range of a lane's share of a histogram. -/
def InRange (A : Slab) : Prop := ∀ x, (A x).toNat < 369

theorem chk_lanes {A : Slab} (hA : InRange A) (r t : ℕ) : k1_chk1 (lanes A r t) := by
  intro a x
  have h := hA (at2 r (16 * t + (x 0).val))
  have hb : (k1_pay68 x).toNat = 369 * (x 0).val := by
    have hx : (x 0).val < 16 := (x 0).isLt
    unfold k1_pay68
    show (BitVec.toNat (iota .scVector S16 32 [0] iota_S16_d0_w32_scVector x * 369#32)) = _
    rw [iota_single_apply .scVector S16 32 0 iota_S16_d0_w32_scVector x, BitVec.toNat_mul, BitVec.toNat_ofNat]
    show (x 0).val % 2 ^ 32 * 369 % 2 ^ 32 = _
    omega
  have hx : (x 0).val < 16 := (x 0).isLt
  fin_cases a
  show (k1_pay68 x + A (at2 r (16 * t + (x 0).val))).toNat < 5904
  have hsum : 369 * (x 0).val + (A (at2 r (16 * t + (x 0).val))).toNat < 5904 := by omega
  rw [BitVec.toNat_add, hb, Nat.mod_eq_of_lt (lt_trans hsum (by decide))]
  exact hsum

/-- What a group reads and adds is `lanes`. -/
theorem lanes_eq (A : Slab) (r : Fin 64) (t : Fin k1_t2_loop.trips) :
    addi k1_pay68 (shapeCast S16 (fun x => A ((Rect.unit (s := S64x512) (rowOff r t) S1x16.size (rowOff_inb r t)).emb x)) shapeCasts_S1x16_S16)
      = lanes A r.val t.val := by
  funext x
  show k1_pay68 x + shapeCast S16 _ shapeCasts_S1x16_S16 x = _
  rw [shapeCast_dropUnit_apply ![16]]
  unfold lanes
  congr 2
  have ht : t.val < 32 := t.isLt
  have hx : (x 0).val < 16 := (x 0).isLt
  have hr := r.isLt
  apply Rect.emb_eq_of_coords
  intro a
  fin_cases a
  · show (![r.val, 16 * t.val + (x 0).val] 0) % 64 = r.val + 1 * 0
    show r.val % 64 = _
    omega
  · show (16 * t.val + (x 0).val) % 512 = k1_off3 t 1 + 1 * (x 0).val
    rw [k1_off3_eq]
    show _ = 16 * t.val + 1 * (x 0).val
    omega

end Cert.Proof.Tile
-- ==== Proof.Loops.lean ====
/-
  The tile's three loops, run at the values of `Count`: the zeroing of the four histograms, the counting of the slab, the
  merging of the histograms into the first.
-/
module

public import proofs.«01_k».proof.Proof.Count

@[expose] public section

noncomputable section

namespace Cert.Proof.Tile

open Cert.KernelIdeal Cert.KernelIdeal.Gen Cert.Proof.Memory
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (bd : Option 𝒱.V) (E : Set Name)
variable {α : Type} {Q : α → sProp (MT nD τ sig Ix (Elt F) Name U Lvl)}

/-- The tile's thread at grid point `i`. -/
abbrev thr (d : Dev nD) (i : grid1.Coords) : Thread nD τ := SparseCore.V d ((i 0).castLE hcore1) ((i 1).castLE hsub1)

variable (d : Dev nD) (i : grid1.Coords)

section Counting

variable (A : Slab) (hA : InRange A)
variable (arg4 : Memref sig .scVector .vmem S64x512 .i32)

include hA in
/-- One group moves its histogram one step on. -/
theorem wp_group (B : Memref sig .scVector .vmem S5904 .f32) (k : Fin 4) (t : Fin k1_t2_loop.trips) (j : Fin 16) (n : ℕ)
    (hn : n = 16 * t.val + j.val) {kk : PUnit → Prog (TpuEff nD τ sig (Elt F) Λ₀ (thr d i).2) α} :
    iprop(owns (thr d i) arg4 fullShare (A : S64x512.Idx → Elt F .i32) ∗ owns (thr d i) B fullShare (hist (F := F) A k n))
      ⊢ iprop((owns (thr d i) arg4 fullShare (A : S64x512.Idx → Elt F .i32) -∗ owns (thr d i) B fullShare (hist (F := F) A k (n + 1))
            -∗ wp frame (wpE defs 𝒱 (thr d i) bd) E (kk ⟨⟩) Q)
        -∗ wp frame (wpE defs 𝒱 (thr d i) bd) E (group i arg4 B k1_pay67 k1_pay68 t (row4 j k) >>= kk) Q) := by
  unfold group
  simp only [Prog.lift, Prog.bind_op, Prog.bind_ret, Prog.pure_eq_ret]
  iintro ⟨HA, HB⟩ Hk
  iapply (wp_load_owns 𝒱 (thr d i) bd E (m := arg4) (q := fullShare)) $$ HA
  iintro HA
  rw [lanes_eq A (row4 j k) t]
  have hj := j.isLt
  have hr : (row4 j k).val = 4 * (n % 16) + k.val := by show 4 * j.val + k.val = _; omega
  have ht : t.val = n / 16 := by omega
  rw [hr, ht]
  have hc := chk_lanes hA (4 * (n % 16) + k.val) (n / 16)
  rw [wp_assume_of 𝒱 (thr d i) bd E hc]
  have hs : (hist (F := F) A k (n + 1)) = storeIdx (F := F) (e := .f32) (hist (F := F) A k n) ![lanes A (4 * (n % 16) + k.val) (n / 16)] (k1_pay67 (F := F)) (fun _ => 1#1) true (k1_idx1_inb _ hc) := by
    show addOnes _ _ = _
    unfold addOnes
    rw [dif_pos hc]
  rw [hs]
  iapply (wp_storeIdx_owns 𝒱 (thr d i) bd E (base := B)) $$ HB
  iintro HB
  iapply Hk $$ HA HB

/-- The slab and the four histograms, each as it stands after `n` groups. -/
def counted (B : Fin 4 → Memref sig .scVector .vmem S5904 .f32) (n : ℕ) : sProp (MT nD τ sig Ix (Elt F) Name U Lvl) :=
  iprop(owns (thr d i) arg4 fullShare (A : S64x512.Idx → Elt F .i32)
    ∗ owns (thr d i) (B 0) fullShare (hist (F := F) A 0 n) ∗ owns (thr d i) (B 1) fullShare (hist (F := F) A 1 n)
    ∗ owns (thr d i) (B 2) fullShare (hist (F := F) A 2 n) ∗ owns (thr d i) (B 3) fullShare (hist (F := F) A 3 n))

include hA in
/-- The groups of consecutive quadruples of rows move each histogram one step on per quadruple. -/
theorem wp_groups (B : Fin 4 → Memref sig .scVector .vmem S5904 .f32) (t : Fin k1_t2_loop.trips)
    {kk : PUnit → Prog (TpuEff nD τ sig (Elt F) Λ₀ (thr d i).2) α} :
    ∀ (l : List (Fin 16)) (n : ℕ), (∀ (m : ℕ) (hm : m < l.length), 16 * t.val + (l[m]).val = n + m) →
      counted (F := F) (Ix := Ix) (Name := Name) (U := U) (Lvl := Lvl) d i A arg4 B n
        ⊢ iprop((counted (F := F) d i A arg4 B (n + l.length) -∗ wp frame (wpE defs 𝒱 (thr d i) bd) E (kk ⟨⟩) Q)
          -∗ wp frame (wpE defs 𝒱 (thr d i) bd) E (groups i arg4 B k1_pay67 k1_pay68 t l >>= kk) Q)
  | [], n, _ => by
    iintro H Hk
    iapply Hk $$ H
  | j :: l, n, h => by
    have hj : n = 16 * t.val + j.val := (h 0 (Nat.zero_lt_succ _)).symm
    have ih := wp_groups B t (kk := kk) l (n + 1) fun m hm => by
      have := h (m + 1) (Nat.succ_lt_succ hm)
      rw [List.getElem_cons_succ] at this
      omega
    have hlen : n + (j :: l).length = n + 1 + l.length := by rw [List.length_cons]; omega
    rw [hlen]
    show _ ⊢ iprop(_ -∗ wp _ _ _ ((group i arg4 (B 0) k1_pay67 k1_pay68 t (row4 j 0) >>= fun _ => group i arg4 (B 1) k1_pay67 k1_pay68 t (row4 j 1)
      >>= fun _ => group i arg4 (B 2) k1_pay67 k1_pay68 t (row4 j 2) >>= fun _ => group i arg4 (B 3) k1_pay67 k1_pay68 t (row4 j 3)
      >>= fun _ => groups i arg4 B k1_pay67 k1_pay68 t l) >>= kk) _)
    simp only [Prog.bind_assoc]
    unfold counted at ih ⊢
    iintro ⟨HA, H0, H1, H2, H3⟩ Hk
    iapply (wp_group 𝒱 bd E d i A hA arg4 (B 0) 0 t j n hj) $$ [HA H0]
    · isplitl [HA] <;> iassumption
    iintro HA H0
    iapply (wp_group 𝒱 bd E d i A hA arg4 (B 1) 1 t j n hj) $$ [HA H1]
    · isplitl [HA] <;> iassumption
    iintro HA H1
    iapply (wp_group 𝒱 bd E d i A hA arg4 (B 2) 2 t j n hj) $$ [HA H2]
    · isplitl [HA] <;> iassumption
    iintro HA H2
    iapply (wp_group 𝒱 bd E d i A hA arg4 (B 3) 3 t j n hj) $$ [HA H3]
    · isplitl [HA] <;> iassumption
    iintro HA H3
    iapply ih $$ [HA H0 H1 H2 H3]
    · isplitl [HA]; · iexact HA
      isplitl [H0]; · iexact H0
      isplitl [H1]; · iexact H1
      isplitl [H2] <;> iassumption
    iexact Hk

end Counting

/-! ## The zeroing -/

/-- The histogram's first `16 k` places at zero, the rest as they were. -/
def zeroed (k : ℕ) (X : Hist F) : Hist F := fun y => if (y 0).val < 16 * k then Scalar.ofBits .f32 0x00000000#32 else X y

theorem mem16 {off : Fin 1 → ℕ} {k : ℕ} (h : off = ![16 * k]) {inb : ∀ a, off a + S16.size a ≤ S5904.size a} (y : S5904.Idx) :
    y ∈ (Rect.unit (s := S5904) off S16.size inb).set ↔ 16 * k ≤ (y 0).val ∧ (y 0).val < 16 * k + 16 := by
  subst h
  rw [Rect.mem_set_unit]
  constructor
  · intro h; exact h 0
  · intro h a; fin_cases a; exact h

theorem emb16 {off : Fin 1 → ℕ} {k : ℕ} (h : off = ![16 * k]) {inb : ∀ a, off a + S16.size a ≤ S5904.size a} (x : S16.Idx) :
    ((Rect.unit (s := S5904) off S16.size inb).emb x 0).val = 16 * k + (x 0).val := by
  subst h
  show 16 * k + 1 * (x 0).val = _
  rw [Nat.one_mul]

/-- The sixteen zeros of trip `k` stored. -/
theorem wp_zero16 (B : Memref sig .scVector .vmem S5904 .f32) (X : Hist F) (t : Fin k1_t1_loop.trips)
    {hl hx hm} {kk : PUnit → Prog (TpuEff nD τ sig (Elt F) Λ₀ (thr d i).2) α} :
    owns (thr d i) B fullShare (zeroed t.val X)
      ⊢ iprop((owns (thr d i) B fullShare (zeroed (t.val + 1) X) -∗ wp frame (wpE defs 𝒱 (thr d i) bd) E (kk ⟨⟩) Q)
        -∗ wp frame (wpE defs 𝒱 (thr d i) bd) E
          (.op (.load B (Rect.unit (s := S5904) (k1_off2 t) S16.size (k1_off2_inb t)).toLoadRect hl) fun _ =>
            .op (.store B (Rect.unit (s := S5904) (k1_off2 t) S16.size (k1_off2_inb t)) (k1_pay66 (F := F)) Finset.univ hx hm) kk) Q) := by
  iintro H Hk
  iapply (wp_load_owns 𝒱 (thr d i) bd E (m := B) (q := fullShare)) $$ H
  iintro H
  iapply (wp_store_owns 𝒱 (thr d i) bd E (m := B) (X := zeroed t.val X) (zeroed (t.val + 1) X) (fun x => by
    have h : ((Rect.unit (s := S5904) (k1_off2 t) S16.size (k1_off2_inb t)).emb x 0).val < 16 * (t.val + 1) := by
      have hx : (x 0).val < 16 := (x 0).isLt
      rw [emb16 (k1_off2_eq t)]; omega
    show (if _ then _ else _) = _
    rw [if_pos h]; rfl) (fun y hy => by
    rw [mem16 (k1_off2_eq t)] at hy
    show (if _ then _ else _) = (if _ then _ else _)
    by_cases h : (y 0).val < 16 * t.val
    · rw [if_pos h, if_pos (by omega)]
    · rw [if_neg h, if_neg (by omega)])) $$ H
  iexact Hk

/-! ## The merging -/

/-- The first histogram with its first `16 k` places replaced by the four histograms' sum. -/
def merged (A : Slab) (k : ℕ) : Hist F := fun y => if (y 0).val < 16 * k then tileRow A y else hist A 0 512 y

theorem zeroed_zero (X : Hist F) : zeroed 0 X = X := funext fun y => if_neg (Nat.not_lt_zero _)
theorem zeroed_all (X : Hist F) (A : Slab) (k : Fin 4) : zeroed 369 X = hist A k 0 := funext fun y => if_pos (y 0).isLt
theorem merged_zero (A : Slab) : merged (F := F) A 0 = hist A 0 512 := funext fun y => if_neg (Nat.not_lt_zero _)
theorem merged_all (A : Slab) : merged (F := F) A 369 = tileRow A := funext fun y => if_pos (y 0).isLt

section Loops

variable (A : Slab) (hA : InRange A)
variable (arg2 : Memref sig .scVector .hbm S4x512x512 .i32) (harg2 : arg2.IsWhole) (arg3 : Memref sig .scVector .hbm S32x5904 .f32) (harg3 : arg3.IsWhole)
variable (arg4 : Memref sig .scVector .vmem S64x512 .i32) (harg4 : arg4.IsWhole) (arg5 : Memref sig .scVector .vmem S5904 .f32) (harg5 : arg5.IsWhole)
variable (arg6 : Memref sig .scVector .vmem S5904 .f32) (harg6 : arg6.IsWhole) (arg7 : Memref sig .scVector .vmem S5904 .f32) (harg7 : arg7.IsWhole)
variable (arg8 : Memref sig .scVector .vmem S5904 .f32) (harg8 : arg8.IsWhole) (arg9 v46_r0 : DmaSems sig S_)

/-- The four histograms with their first `16 k` places at zero. -/
def zeroed4 (X : Fin 4 → Hist F) (k : ℕ) : sProp (MT nD τ sig Ix (Elt F) Name U Lvl) :=
  iprop(owns (thr d i) arg5 fullShare (zeroed k (X 0)) ∗ owns (thr d i) arg6 fullShare (zeroed k (X 1))
    ∗ owns (thr d i) arg7 fullShare (zeroed k (X 2)) ∗ owns (thr d i) arg8 fullShare (zeroed k (X 3)))

/-- The zeroing loop. -/
theorem wp_t1 (X : Fin 4 → Hist F) {kk : PUnit → Prog (TpuEff nD τ sig (Elt F) Λ₀ (thr d i).2) α} :
    zeroed4 (Ix := Ix) (Name := Name) (U := U) (Lvl := Lvl) d i arg5 arg6 arg7 arg8 X 0
      ⊢ iprop((zeroed4 d i arg5 arg6 arg7 arg8 X 369 -∗ wp frame (wpE defs 𝒱 (thr d i) bd) E (kk ⟨⟩) Q)
        -∗ wp frame (wpE defs 𝒱 (thr d i) bd) E
          (Scf.Loop.for k1_t1_loop k1_t1_ok ⟨⟩ (k1_t1_body i arg2 harg2 arg3 harg3 arg4 harg4 arg5 harg5 arg6 harg6 arg7 harg7 arg8 harg8 arg9 v46_r0 (k1_pay66 (F := F))) >>= kk) Q) := by
  iintro H Hk
  iapply (Scf.wp_for_bind _ _ _ _ _ _ k1_t1_ok PUnit.unit _ (fun k _ => zeroed4 d i arg5 arg6 arg7 arg8 X k) (fun k _ => by
    unfold k1_t1_body zeroed4
    simp only [Prog.lift, Prog.bind_op, Prog.bind_ret, Prog.pure_eq_ret]
    iintro ⟨H0, H1, H2, H3⟩
    iapply (wp_zero16 𝒱 bd E d i arg5 (X 0) k) $$ H0; iintro H0
    iapply (wp_zero16 𝒱 bd E d i arg6 (X 1) k) $$ H1; iintro H1
    iapply (wp_zero16 𝒱 bd E d i arg7 (X 2) k) $$ H2; iintro H2
    iapply (wp_zero16 𝒱 bd E d i arg8 (X 3) k) $$ H3; iintro H3
    rw [wp_ret]
    imodintro
    isplitl [H0]; · iexact H0
    isplitl [H1]; · iexact H1
    isplitl [H2] <;> iassumption)) $$ H
  iintro %_ H
  iapply Hk
  iexact H

include hA in
/-- The counting loop. -/
theorem wp_t2 {kk : PUnit → Prog (TpuEff nD τ sig (Elt F) Λ₀ (thr d i).2) α} :
    counted (F := F) (Ix := Ix) (Name := Name) (U := U) (Lvl := Lvl) d i A arg4 ![arg5, arg6, arg7, arg8] 0
      ⊢ iprop((counted (F := F) d i A arg4 ![arg5, arg6, arg7, arg8] 512 -∗ wp frame (wpE defs 𝒱 (thr d i) bd) E (kk ⟨⟩) Q)
        -∗ wp frame (wpE defs 𝒱 (thr d i) bd) E
          (Scf.Loop.for k1_t2_loop k1_t2_ok ⟨⟩ (k1_t2_body i arg2 harg2 arg3 harg3 arg4 harg4 arg5 harg5 arg6 harg6 arg7 harg7 arg8 harg8 arg9 v46_r0 (k1_pay67 (F := F)) k1_pay68) >>= kk) Q) := by
  have h0 : counted (F := F) (Ix := Ix) (Name := Name) (U := U) (Lvl := Lvl) d i A arg4 ![arg5, arg6, arg7, arg8] 0
    ⊢ counted (F := F) d i A arg4 ![arg5, arg6, arg7, arg8] (16 * 0) := .rfl
  have h1 : counted (F := F) (Ix := Ix) (Name := Name) (U := U) (Lvl := Lvl) d i A arg4 ![arg5, arg6, arg7, arg8] (16 * k1_t2_loop.trips)
    ⊢ counted (F := F) d i A arg4 ![arg5, arg6, arg7, arg8] 512 := .rfl
  refine h0.trans ?_
  have hloop := Scf.wp_for_bind frame (wpE defs 𝒱 (thr d i) bd) E k1_t2_loop.lb k1_t2_loop.ub k1_t2_loop.st k1_t2_ok PUnit.unit
    (k1_t2_body i arg2 harg2 arg3 harg3 arg4 harg4 arg5 harg5 arg6 harg6 arg7 harg7 arg8 harg8 arg9 v46_r0 (k1_pay67 (F := F)) k1_pay68)
    (fun k _ => counted (F := F) (Ix := Ix) (Name := Name) (U := U) (Lvl := Lvl) d i A arg4 ![arg5, arg6, arg7, arg8] (16 * k)) (fun k _ => by
      rw [t2_eq]
      have hg := wp_groups (Q := fun _ : PUnit => counted (F := F) (Ix := Ix) (Name := Name) (U := U) (Lvl := Lvl) d i A arg4 ![arg5, arg6, arg7, arg8] (16 * (k.val + 1)))
        (defs := defs) 𝒱 bd E d i A hA arg4 ![arg5, arg6, arg7, arg8] k (kk := pure) [0, 1, 2, 3, 4, 5, 6, 7, 8, 9, 10, 11, 12, 13, 14, 15] (16 * k.val)
        (fun m hm => congrArg (16 * k.val + ·) ((by decide :
          ∀ m : Fin 16, (([0, 1, 2, 3, 4, 5, 6, 7, 8, 9, 10, 11, 12, 13, 14, 15] : List (Fin 16))[m.val]).val = m.val) ⟨m, hm⟩))
      rw [bind_pure] at hg
      iintro H
      iapply hg $$ H
      iintro H
      rw [Prog.pure_eq_ret, wp_ret]
      imodintro
      iexact H) (kk := kk) (Q := Q)
  refine hloop.trans ?_
  iintro H Hk
  iapply H
  iintro %_ H
  iapply Hk
  iapply h1
  iexact H

/-- The four histograms, the first merged in its first `16 k` places. -/
def merged4 (k : ℕ) : sProp (MT nD τ sig Ix (Elt F) Name U Lvl) :=
  iprop(owns (thr d i) arg5 fullShare (merged (F := F) A k) ∗ owns (thr d i) arg6 fullShare (hist (F := F) A 1 512)
    ∗ owns (thr d i) arg7 fullShare (hist (F := F) A 2 512) ∗ owns (thr d i) arg8 fullShare (hist (F := F) A 3 512))

/-- The merging loop. -/
theorem wp_t3 {kk : PUnit → Prog (TpuEff nD τ sig (Elt F) Λ₀ (thr d i).2) α} :
    merged4 (F := F) (Ix := Ix) (Name := Name) (U := U) (Lvl := Lvl) d i A arg5 arg6 arg7 arg8 0
      ⊢ iprop((merged4 (F := F) d i A arg5 arg6 arg7 arg8 369 -∗ wp frame (wpE defs 𝒱 (thr d i) bd) E (kk ⟨⟩) Q)
        -∗ wp frame (wpE defs 𝒱 (thr d i) bd) E
          (Scf.Loop.for k1_t3_loop k1_t3_ok ⟨⟩ (k1_t3_body i arg2 harg2 arg3 harg3 arg4 harg4 arg5 harg5 arg6 harg6 arg7 harg7 arg8 harg8 arg9 v46_r0) >>= kk) Q) := by
  iintro H Hk
  iapply (Scf.wp_for_bind _ _ _ _ _ _ k1_t3_ok PUnit.unit _ (fun k _ => merged4 (F := F) d i A arg5 arg6 arg7 arg8 k) (fun k _ => by
    unfold k1_t3_body merged4
    simp only [Prog.lift, Prog.bind_op, Prog.bind_ret, Prog.pure_eq_ret]
    iintro ⟨H0, H1, H2, H3⟩
    iapply (wp_load_owns 𝒱 (thr d i) bd E (m := arg5) (q := fullShare)) $$ H0; iintro H0
    iapply (wp_load_owns 𝒱 (thr d i) bd E (m := arg6) (q := fullShare)) $$ H1; iintro H1
    iapply (wp_load_owns 𝒱 (thr d i) bd E (m := arg7) (q := fullShare)) $$ H2; iintro H2
    iapply (wp_load_owns 𝒱 (thr d i) bd E (m := arg8) (q := fullShare)) $$ H3; iintro H3
    iapply (wp_load_owns 𝒱 (thr d i) bd E (m := arg5) (q := fullShare)) $$ H0; iintro H0
    iapply (wp_store_owns 𝒱 (thr d i) bd E (m := arg5) (X := merged (F := F) A k.val) (merged (F := F) A (k.val + 1)) (fun x => by
      have hx : (x 0).val < 16 := (x 0).isLt
      have he := emb16 (k1_off67_eq k) (inb := k1_off67_inb k) x
      have h : ¬ ((Rect.unit (s := S5904) (k1_off67 k) S16.size (k1_off67_inb k)).emb x 0).val < 16 * k.val := by omega
      have h' : ((Rect.unit (s := S5904) (k1_off67 k) S16.size (k1_off67_inb k)).emb x 0).val < 16 * (k.val + 1) := by omega
      show (if _ then _ else _) = FloatOps.addf (FloatOps.addf (FloatOps.addf (if _ then _ else _) _) _) _
      rw [if_pos h', if_neg h]; rfl) (fun y hy => by
      rw [mem16 (k1_off67_eq k)] at hy
      show (if _ then _ else _) = (if _ then _ else _)
      by_cases h : (y 0).val < 16 * k.val
      · rw [if_pos h, if_pos (by omega)]
      · rw [if_neg h, if_neg (by omega)])) $$ H0
    iintro H0
    rw [wp_ret]
    imodintro
    isplitl [H0]; · iexact H0
    isplitl [H1]; · iexact H1
    isplitl [H2] <;> iassumption)) $$ H
  iintro %_ H
  iapply Hk
  iexact H

end Loops

end Cert.Proof.Tile
-- ==== Proof.Setup.lean ====
/-
  The program as the launch theorem sees it: two SparseCore calls beside three pipelined TensorCore calls, and the resource
  algebra that holds the handshakes' rounds, the pipelines' rounds and the local transfers' counters.
-/
module

public import proofs.«01_k».proof.Defs
public import proofs.«01_k».proof.Proof.Gen.KernelIdeal
public import proofs.«01_k».proof.Proof.Loops
public import Idealize.ShloMosaic.Lib.Pipeline.Kit
public import Idealize.ShloMosaic.Lib.Pipeline.Regions

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open scoped Idealize.SL.BI
open Idealize.ShloMosaic.Rounds

variable {F : FTy → Type}

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by fin_cases q <;> rfl⟩

abbrev UH : Type := URounds (GSem nD τ sig) ℕ
abbrev UP : Type := UR sig nD τ
abbrev UU : Type := UH × (UP × Counters)

/-- The handshakes' rounds: the left factor. -/
abbrev EH : Emb UH (MT nD τ sig (HIx 2) (Elt F) ℕ UU ℕ) := embL
/-- The pipelines' rounds: the left factor of the right. -/
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by
  unfold EP; infer_instance

end Cert.Proof.Setup
-- ==== Proof.Body.lean ====
/-
  One tile's kernel, whole: its slab of the index array copied in, the loops, its row of the result copied out. Over any
  whole memrefs, so that the one run serves both SparseCore calls.
-/
module

public import proofs.«01_k».proof.Proof.Setup

@[expose] public section

noncomputable section

namespace Cert.Proof.Tile

open Cert.KernelIdeal Cert.KernelIdeal.Gen Cert.Proof.Memory Cert.Proof.Setup
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (i : grid1.Coords) (A : Slab) (hA : InRange A)
variable (arg2 : Memref sig .scVector .hbm S4x512x512 .i32) (harg2 : arg2.IsWhole) (arg3 : Memref sig .scVector .hbm S32x5904 .f32) (harg3 : arg3.IsWhole)
variable (arg4 : Memref sig .scVector .vmem S64x512 .i32) (harg4 : arg4.IsWhole) (arg5 : Memref sig .scVector .vmem S5904 .f32) (harg5 : arg5.IsWhole)
variable (arg6 : Memref sig .scVector .vmem S5904 .f32) (harg6 : arg6.IsWhole) (arg7 : Memref sig .scVector .vmem S5904 .f32) (harg7 : arg7.IsWhole)
variable (arg8 : Memref sig .scVector .vmem S5904 .f32) (harg8 : arg8.IsWhole) (arg9 v46_r0 : DmaSems sig S_)

/-- The tile's slab of the index array, as the kernel slices it. -/
abbrev srcM : Memref sig .scVector .hbm S64x512 .i32 :=
  (arg2.slice (Rect.unit (s := S4x512x512) (k1_off1 i) S1x64x512.size (k1_off1_inb i)) (fun _ => rfl)).squeeze S64x512 squeezes_S1x64x512_S64x512
/-- The tile's row of the result, as the kernel slices it. -/
abbrev dstM : Memref sig .scVector .hbm S5904 .f32 :=
  (arg3.slice (Rect.unit (s := S32x5904) (k1_off68 i) S1x5904.size (k1_off68_inb i)) (fun _ => rfl)).squeeze S5904 squeezes_S1x5904_S5904

/-- The tile's scratch, at any contents. -/
def scratch : sProp 𝕄 :=
  iprop((∃ f, owns (thr d i) arg4 fullShare f) ∗ (∃ f, owns (thr d i) arg5 fullShare f) ∗ (∃ f, owns (thr d i) arg6 fullShare f)
    ∗ (∃ f, owns (thr d i) arg7 fullShare f) ∗ (∃ f, owns (thr d i) arg8 fullShare f))

include hA in
theorem body_run (q : PosShare TreeShare) (R : S5904.Idx → Elt F .f32) (O : CellTallies nD τ sig (HIx 2)) (W : Waits sig (HIx 2)) (hO : ∀ g, O g none = 0) :
    iprop(levAts (K (F := F)).L (K (F := F)).lev ∗ owns (thr d i) (srcM i arg2) q (A : S64x512.Idx → Elt F .i32) ∗ owns (thr d i) (dstM i arg3) fullShare R
        ∗ scratch (F := F) d i arg4 arg5 arg6 arg7 arg8
        ∗ semVal (thr d i, SemLoc.dma arg9.sem) 0 ∗ semVal (thr d i, SemLoc.dma v46_r0.sem) 0 ∗ owes (thr d i) O W)
      ⊢ wp frame (wpE (defs₀ (F := F)) 𝒱₀ (thr d i) none) Set.univ
          (cc1__bincount_wrapper i arg2 harg2 arg3 harg3 arg4 harg4 arg5 harg5 arg6 harg6 arg7 harg7 arg8 harg8 arg9 v46_r0)
          fun _ => (iprop(owns (thr d i) (srcM i arg2) q (A : S64x512.Idx → Elt F .i32) ∗ owns (thr d i) (dstM i arg3) fullShare (tileRow (F := F) A)
            ∗ scratch (F := F) d i arg4 arg5 arg6 arg7 arg8
            ∗ semVal (thr d i, SemLoc.dma arg9.sem) 0 ∗ semVal (thr d i, SemLoc.dma v46_r0.sem) 0
            ∗ ∃ W', ⌜∀ p ∈ W', p ∈ W ∨ p.2 = none⌝ ∗ owes (thr d i) O W') : sProp 𝕄) := by
  rw [cc1__bincount_wrapper_eq_skeleton]
  unfold cc1__bincount_wrapper_skel
  rw [k1_part9_eq_skeleton]
  unfold k1_part9_skel scratch
  iintro ⟨#Hlv, Hsrc, Hdst, ⟨⟨%f4, H4⟩, ⟨%f5, H5⟩, ⟨%f6, H6⟩, ⟨%f7, H7⟩, ⟨%f8, H8⟩⟩, Hs9, Hs46, HO⟩
  ihave Hmw := ((K (F := F)).mayWaits_none (thr := thr d i) hO) $$ Hlv
  ihave Hsrc := (open_owns (thr d i)) $$ Hsrc
  icases Hsrc with ⟨%fs, %hfs, Hsrc⟩
  ihave H4 := (open_owns (thr d i)) $$ H4
  icases H4 with ⟨%g4, %hg4, H4⟩
  sl_exec
  have z0 : iprop(owns (thr d i) arg5 fullShare f5 ∗ owns (thr d i) arg6 fullShare f6 ∗ owns (thr d i) arg7 fullShare f7 ∗ owns (thr d i) arg8 fullShare f8)
      ⊢ (zeroed4 d i arg5 arg6 arg7 arg8 ![f5, f6, f7, f8] 0 : sProp 𝕄) := by
    unfold zeroed4; simp only [zeroed_zero]; exact .rfl
  ihave HZ := z0 $$ [H5 H6 H7 H8]
  · isplitl [H5]; · iexact H5
    isplitl [H6]; · iexact H6
    isplitl [H7] <;> iassumption
  iapply (wp_t1 (defs := defs₀ (F := F)) 𝒱₀ none Set.univ d i arg2 harg2 arg3 harg3 arg4 harg4 arg5 harg5 arg6 harg6 arg7 harg7 arg8 harg8 arg9 v46_r0 ![f5, f6, f7, f8]) $$ HZ
  iintro HZ
  sl_exec
  have hA4 : arg4.view.read (Elt F) (arg4.view.writes (Elt F) arg4.view.junk [⟨Rect.whole S64x512, body_run.sl.dma0 d i arg2 fs⟩])
      = (A : S64x512.Idx → Elt F .i32) := (read_written arg4.view _ _).trans hfs
  ihave H4 := (close_owns (thr d i) hA4) $$ H4
  ihave Hsrc := (close_owns (thr d i) hfs) $$ Hsrc
  have z1 : iprop(owns (thr d i) arg4 fullShare (A : S64x512.Idx → Elt F .i32) ∗ zeroed4 d i arg5 arg6 arg7 arg8 ![f5, f6, f7, f8] 369)
      ⊢ (counted (F := F) d i A arg4 ![arg5, arg6, arg7, arg8] 0 : sProp 𝕄) := by
    unfold zeroed4 counted
    rw [zeroed_all _ A 0, zeroed_all _ A 1, zeroed_all _ A 2, zeroed_all _ A 3]; exact .rfl
  ihave HC := z1 $$ [H4 HZ]
  · isplitl [H4] <;> iassumption
  iapply (wp_t2 (defs := defs₀ (F := F)) 𝒱₀ none Set.univ d i A hA arg2 harg2 arg3 harg3 arg4 harg4 arg5 harg5 arg6 harg6 arg7 harg7 arg8 harg8 arg9 v46_r0) $$ HC
  iintro HC
  have z2 : (counted (F := F) d i A arg4 ![arg5, arg6, arg7, arg8] 512 : sProp 𝕄)
      ⊢ iprop(owns (thr d i) arg4 fullShare (A : S64x512.Idx → Elt F .i32) ∗ merged4 (F := F) d i A arg5 arg6 arg7 arg8 0) := by
    unfold merged4 counted
    rw [merged_zero]; exact .rfl
  ihave HC := z2 $$ HC
  icases HC with ⟨H4, HM⟩
  iapply (wp_t3 (defs := defs₀ (F := F)) 𝒱₀ none Set.univ d i A arg2 harg2 arg3 harg3 arg4 harg4 arg5 harg5 arg6 harg6 arg7 harg7 arg8 harg8 arg9 v46_r0) $$ HM
  iintro HM
  unfold merged4
  rw [merged_all]
  icases HM with ⟨H5, H6, H7, H8⟩
  ihave H5 := (open_owns (thr d i)) $$ H5
  icases H5 with ⟨%g5, %hg5, H5⟩
  ihave Hdst := (open_owns (thr d i)) $$ Hdst
  icases Hdst with ⟨%fd, %hfd, Hdst⟩
  sl_exec
  sl_step
  have hD : (dstM i arg3).view.read (Elt F) ((dstM i arg3).view.writes (Elt F) fd [⟨Rect.whole S5904, body_run.sl.dma0_1 d i arg5 g5⟩])
      = tileRow (F := F) A := (read_written (dstM i arg3).view _ _).trans hg5
  ihave Hdst := (close_owns (thr d i) hD) $$ Hs46_dst
  ihave H5 := (close_owns (thr d i) hg5) $$ H5
  isplitl [Hsrc]; · iexact Hsrc
  isplitl [Hdst]; · iexact Hdst
  isplitl [H4 H5 H6 H7 H8]
  · isplitl [H4]; · iexists _; iexact H4
    isplitl [H5]; · iexists _; iexact H5
    isplitl [H6]; · iexists _; iexact H6
    isplitl [H7]; · iexists _; iexact H7
    iexists _; iexact H8
  isplitl [Hs9]; · iexact Hs9
  isplitl [Hs46]; · iexact Hs46
  iexists _; isplitr
  rotate_left
  · iexact HO
  ipureintro
  intro p hp
  rcases Finset.mem_insert.mp hp with rfl | hp
  · exact .inr rfl
  rcases Finset.mem_insert.mp hp with rfl | hp
  · exact .inr rfl
  exact .inl hp

end Cert.Proof.Tile
-- ==== Proof.Pieces.lean ====
/-
  The pieces the SparseCore calls work on: the 32 slabs the tiles read of the index array and the 32 rows they write of the
  result. Each family is disjoint and covers its array, so an array held whole is its pieces held, and back.
-/
module

public import proofs.«01_k».proof.Proof.Body

@[expose] public section

noncomputable section

namespace Cert.Proof.Pieces

open Cert.KernelIdeal Cert.KernelIdeal.Gen Cert.Proof.Memory Cert.Proof.Setup Cert.Proof.Tile
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A tile: its SparseCore and its number there. -/
abbrev Tile : Type := Fin 2 × Fin 16
/-- A tile's coordinates, as the kernel names them. -/
def co (p : Tile) : grid1.Coords := fun | 0 => p.1 | 1 => p.2 | ⟨_ + 2, h⟩ => absurd h (Nat.not_lt.2 (Nat.le_add_left _ _))

/-- Tile `p`'s slab of the index array. -/
abbrev slabR (p : Tile) : Rect S4x512x512 := Rect.unit (s := S4x512x512) (k1_off1 (co p)) S1x64x512.size (k1_off1_inb (co p))
/-- Tile `p`'s row of the result. -/
abbrev rowR (p : Tile) : Rect S32x5904 := Rect.unit (s := S32x5904) (k1_off68 (co p)) S1x5904.size (k1_off68_inb (co p))

theorem off1_val : ∀ p : Tile, k1_off1 (co p) 0 = (2 * p.2.val + p.1.val) / 8 ∧ k1_off1 (co p) 1 = (2 * p.2.val + p.1.val) % 8 * 64 ∧ k1_off1 (co p) 2 = 0 := by
  decide +kernel
theorem off68_val : ∀ p : Tile, k1_off68 (co p) 0 = 2 * p.2.val + p.1.val ∧ k1_off68 (co p) 1 = 0 := by
  intro p; rw [k1_off68_eq]; exact ⟨rfl, rfl⟩

theorem mem_slab {p : Tile} {x : S4x512x512.Idx} :
    x ∈ (slabR p).set ↔ (x 0).val = (2 * p.2.val + p.1.val) / 8 ∧ (x 1).val / 64 = (2 * p.2.val + p.1.val) % 8 := by
  obtain ⟨h0, h1, h2⟩ := off1_val p
  rw [Rect.mem_set_unit]
  have hx : (x 2).val < 512 := (x 2).isLt
  constructor
  · intro h
    have a0 := h 0; have a1 := h 1
    rw [h0] at a0; rw [h1] at a1
    have b0 : (x 0).val < (2 * p.2.val + p.1.val) / 8 + 1 := a0.2
    have b1 : (x 1).val < (2 * p.2.val + p.1.val) % 8 * 64 + 64 := a1.2
    omega
  · rintro ⟨e0, e1⟩ a
    match a with
    | 0 => rw [h0]; exact ⟨by omega, show (x 0).val < (2 * p.2.val + p.1.val) / 8 + 1 by omega⟩
    | 1 => rw [h1]; exact ⟨by omega, show (x 1).val < (2 * p.2.val + p.1.val) % 8 * 64 + 64 by omega⟩
    | 2 => rw [h2]; exact ⟨by omega, show (x 2).val < 0 + 512 by omega⟩

theorem mem_row {p : Tile} {y : S32x5904.Idx} : y ∈ (rowR p).set ↔ (y 0).val = 2 * p.2.val + p.1.val := by
  obtain ⟨h0, h1⟩ := off68_val p
  rw [Rect.mem_set_unit]
  have hy : (y 1).val < 5904 := (y 1).isLt
  constructor
  · intro h
    have a0 := h 0
    rw [h0] at a0
    have b0 : (y 0).val < 2 * p.2.val + p.1.val + 1 := a0.2
    omega
  · rintro e0 a
    match a with
    | 0 => rw [h0]; exact ⟨by omega, show (y 0).val < 2 * p.2.val + p.1.val + 1 by omega⟩
    | 1 => rw [h1]; exact ⟨by omega, show (y 1).val < 0 + 5904 by omega⟩

theorem tile_ext {p p' : Tile} (h : 2 * p.2.val + p.1.val = 2 * p'.2.val + p'.1.val) : p = p' := by
  have h1 := p.1.isLt; have h2 := p'.1.isLt
  exact Prod.ext (Fin.ext (by omega)) (Fin.ext (by omega))

/-- The tile of a number below 32. -/
def tileOf (w : Fin 32) : Tile := (⟨w.val % 2, by omega⟩, ⟨w.val / 2, by omega⟩)
theorem tileOf_wid (w : Fin 32) : 2 * (tileOf w).2.val + (tileOf w).1.val = w.val := by
  show 2 * (w.val / 2) + w.val % 2 = w.val
  omega

theorem slab_disjoint (p p' : Tile) (h : p ≠ p') : Disjoint (slabR p).set (slabR p').set :=
  Finset.disjoint_left.mpr fun x hx hx' => h (by
    obtain ⟨a, b⟩ := mem_slab.mp hx; obtain ⟨a', b'⟩ := mem_slab.mp hx'
    exact tile_ext (by omega))
theorem slab_cover : (Finset.univ : Finset Tile).biUnion (fun p => (slabR p).set) = Finset.univ := by
  refine Finset.eq_univ_iff_forall.mpr fun x => Finset.mem_biUnion.mpr ?_
  have h0 : (x 0).val < 4 := (x 0).isLt
  have h1 : (x 1).val < 512 := (x 1).isLt
  refine ⟨tileOf ⟨8 * (x 0).val + (x 1).val / 64, by omega⟩, Finset.mem_univ _, mem_slab.mpr ?_⟩
  rw [tileOf_wid]
  show (x 0).val = (8 * (x 0).val + (x 1).val / 64) / 8 ∧ (x 1).val / 64 = (8 * (x 0).val + (x 1).val / 64) % 8
  omega
theorem row_disjoint (p p' : Tile) (h : p ≠ p') : Disjoint (rowR p).set (rowR p').set :=
  Finset.disjoint_left.mpr fun x hx hx' => h (tile_ext ((mem_row.mp hx).symm.trans (mem_row.mp hx')))
theorem row_cover : (Finset.univ : Finset Tile).biUnion (fun p => (rowR p).set) = Finset.univ := by
  refine Finset.eq_univ_iff_forall.mpr fun y => Finset.mem_biUnion.mpr ⟨tileOf (y 0), Finset.mem_univ _, mem_row.mpr ?_⟩
  rw [tileOf_wid (y 0)]

/-- What tile `p` finds in its slab of the index array `X`. -/
def slab (X : S4x512x512.Idx → BitVec 32) (p : Tile) : Slab := fun y => X ((slabR p).emb (Shape.reshapeEquiv squeezes_S1x64x512_S64x512.numel_eq y))
/-- A position of a row. -/
def col (c : Fin 5904) : S5904.Idx := fun | 0 => c | ⟨_ + 1, h⟩ => absurd h (Nat.not_lt.2 (Nat.le_add_left _ _))
/-- The result of the call over the index array `X`: row by row what the tiles leave. -/
def out (X : S4x512x512.Idx → BitVec 32) : S32x5904.Idx → Elt F .f32 := fun y => tileRow (slab X (tileOf (y 0))) (col (y 1))

theorem out_row (X : S4x512x512.Idx → BitVec 32) (p : Tile) (y : S5904.Idx) :
    out (F := F) X ((rowR p).emb (Shape.reshapeEquiv squeezes_S1x5904_S5904.numel_eq y)) = tileRow (slab X p) y := by
  obtain ⟨h0, h1⟩ := off68_val p
  have e : Shape.reshapeEquiv squeezes_S1x5904_S5904.numel_eq y = (Fin.cons ⟨0, Nat.one_pos⟩ y : S1x5904.Idx) := Shape.reshapeEquiv_cons_one _ _
  have e0 : ((rowR p).emb (Shape.reshapeEquiv squeezes_S1x5904_S5904.numel_eq y) 0).val = 2 * p.2.val + p.1.val := by
    rw [e, Rect.emb_apply]
    show k1_off68 (co p) 0 + 1 * 0 = _
    omega
  have e1 : ((rowR p).emb (Shape.reshapeEquiv squeezes_S1x5904_S5904.numel_eq y) 1).val = (y 0).val := by
    rw [e, Rect.emb_apply]
    show k1_off68 (co p) 1 + 1 * (y 0).val = _
    omega
  unfold out
  rw [show tileOf ((rowR p).emb (Shape.reshapeEquiv squeezes_S1x5904_S5904.numel_eq y) 0) = p from
    tile_ext ((tileOf_wid _).trans e0)]
  congr 1
  funext a
  obtain rfl : a = 0 := Subsingleton.elim _ _
  exact Fin.ext e1

/-- A squeezed memref holds what the memref holds, at the squeezed positions. -/
theorem owns_squeeze (c : Thread nD τ) {sp : Space} {s s' : Shape} {e : EltTy} (m : Memref sig c.2.kind sp s e) (h : s.Squeezes s') (q : PosShare TreeShare)
    (X : s.Idx → Elt F e) :
    (owns c (m.squeeze s' h) q (fun y => X (Shape.reshapeEquiv h.numel_eq y)) : sProp 𝕄) = owns c m q X := by
  have h₁ : (owns c (m.squeeze s' h) q (fun y => X (Shape.reshapeEquiv h.numel_eq y)) : sProp 𝕄) ⊢ owns c m q X := by
    unfold owns
    iintro ⟨%f, %hf, H⟩
    iexists f
    isplitr
    · ipureintro
      funext x
      obtain ⟨y, rfl⟩ := (Shape.reshapeEquiv h.numel_eq).surjective x
      exact congrFun hf y
    · have e : (m.squeeze s' h).view.set = m.view.set := View.set_reshape _ _
      rw [e]; iexact H
  have h₂ : (owns c m q X : sProp 𝕄) ⊢ owns c (m.squeeze s' h) q (fun y => X (Shape.reshapeEquiv h.numel_eq y)) := by
    unfold owns
    iintro ⟨%f, %hf, H⟩
    iexists f
    isplitr
    · ipureintro
      funext y
      exact congrFun hf (Shape.reshapeEquiv h.numel_eq y)
    · have e : (m.squeeze s' h).view.set = m.view.set := View.set_reshape _ _
      rw [e]; iexact H
  exact BI.equiv_iff.mp ⟨h₁, h₂⟩

section Split

variable (d : Dev nD) (i : grid1.Coords) (src : Memref sig .scVector .hbm S4x512x512 .i32) (dst : Memref sig .scVector .hbm S32x5904 .f32)

/-- The index array held whole is the tiles' slabs held, -/
theorem slabs_split (X : S4x512x512.Idx → BitVec 32) :
    (owns (thr d i) src fullShare (X : S4x512x512.Idx → Elt F .i32) : sProp 𝕄)
      ⊢ bigSep Finset.univ fun p : Tile => owns (thr d i) (srcM (co p) src) fullShare (slab X p : S64x512.Idx → Elt F .i32) := by
  refine (owns_rects (Val := Elt F) (thr d i) src fullShare slabR (fun _ _ => rfl) slab_disjoint slab_cover (X : S4x512x512.Idx → Elt F .i32)).trans ?_
  refine BI.bigSep_mono fun p _ => ?_
  exact Entails.of_eq (owns_squeeze (thr d i) (src.slice (slabR p) (fun _ => rfl)) squeezes_S1x64x512_S64x512 fullShare (fun j => X ((slabR p).emb j))).symm

/-- and back. -/
theorem slabs_join [∀ e, Nonempty (Elt F e)] (X : S4x512x512.Idx → BitVec 32) :
    (bigSep Finset.univ fun p : Tile => owns (thr d i) (srcM (co p) src) fullShare (slab X p : S64x512.Idx → Elt F .i32))
      ⊢ (owns (thr d i) src fullShare (X : S4x512x512.Idx → Elt F .i32) : sProp 𝕄) := by
  refine BI.Entails.trans ?_ (owns_of_rects (Val := Elt F) (thr d i) src fullShare slabR (fun _ _ => rfl) slab_disjoint slab_cover (X : S4x512x512.Idx → Elt F .i32))
  refine BI.bigSep_mono fun p _ => ?_
  exact Entails.of_eq (owns_squeeze (thr d i) (src.slice (slabR p) (fun _ => rfl)) squeezes_S1x64x512_S64x512 fullShare (fun j => X ((slabR p).emb j)))

/-- The result held whole is its rows held, each at some contents; -/
theorem rows_split (Y : S32x5904.Idx → Elt F .f32) :
    (owns (thr d i) dst fullShare Y : sProp 𝕄) ⊢ bigSep Finset.univ fun p : Tile => iprop(∃ R, owns (thr d i) (dstM (co p) dst) fullShare R) := by
  refine (owns_rects (Val := Elt F) (thr d i) dst fullShare rowR (fun _ _ => rfl) row_disjoint row_cover Y).trans ?_
  refine BI.bigSep_mono fun p _ => ?_
  refine (Entails.of_eq (owns_squeeze (thr d i) (dst.slice (rowR p) (fun _ => rfl)) squeezes_S1x5904_S5904 fullShare (fun j => Y ((rowR p).emb j))).symm).trans ?_
  iintro H; iexists _; iexact H

/-- the rows the tiles leave are the call's result held whole. -/
theorem rows_join [∀ e, Nonempty (Elt F e)] (X : S4x512x512.Idx → BitVec 32) :
    (bigSep Finset.univ fun p : Tile => owns (thr d i) (dstM (co p) dst) fullShare (tileRow (F := F) (slab X p)))
      ⊢ (owns (thr d i) dst fullShare (out (F := F) X) : sProp 𝕄) := by
  refine BI.Entails.trans ?_ (owns_of_rects (Val := Elt F) (thr d i) dst fullShare rowR (fun _ _ => rfl) row_disjoint row_cover (out (F := F) X))
  refine BI.bigSep_mono fun p _ => ?_
  refine BI.Entails.trans ?_ (Entails.of_eq (owns_squeeze (thr d i) (dst.slice (rowR p) (fun _ => rfl)) squeezes_S1x5904_S5904 fullShare (fun j => out (F := F) X ((rowR p).emb j))))
  rw [show (fun y => out (F := F) X ((rowR p).emb (Shape.reshapeEquiv squeezes_S1x5904_S5904.numel_eq y))) = tileRow (slab X p) from funext (out_row X p)]
  exact fun _ h => h

end Split

end Cert.Proof.Pieces
-- ==== Proof.Calls.lean ====
/-
  The two SparseCore calls as the launch theorem asks for them: what a call hands each tile (its slab of the index array, its
  row of the result) and takes back (the row at the tile's counts), each tile's run, and the split of a call over its tiles.
-/
module

public import proofs.«01_k».proof.Proof.Pieces

@[expose] public section

noncomputable section

namespace Cert.Proof.Calls

open Cert.KernelIdeal Cert.KernelIdeal.Gen Cert.Proof.Memory Cert.Proof.Setup Cert.Proof.Tile Cert.Proof.Pieces
open Idealize.ShloMosaic
open Idealize.ShloMosaic.SparseCore (S V T)
open Idealize.ShloMosaic.SparseCore.Cfg (HIx ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- Call `q`'s index array. -/
abbrev srcA : Fin 2 → Memref sig .scVector .hbm S4x512x512 .i32 := ![Memref.whole main_v16_scv, Memref.whole main_v18_scv]
/-- Call `q`'s result. -/
abbrev dstA : Fin 2 → Memref sig .scVector .hbm S32x5904 .f32 := ![Memref.whole main_v17_scv, Memref.whole main_v19_scv]

theorem nCore_eq : ∀ q : Fin 2, (K (F := F)).nCore q = 2 := fun q => match q with | 0 => rfl | 1 => rfl
theorem nSub_eq : ∀ q : Fin 2, (K (F := F)).nSub q = 16 := fun q => match q with | 0 => rfl | 1 => rfl

/-- Tile `i` of SparseCore `c` of call `q`'s grid. -/
abbrev tl {q : Fin 2} (c : Fin ((K (F := F)).nCore q)) (i : Fin ((K (F := F)).nSub q)) : Tile := (Fin.cast (nCore_eq q) c, Fin.cast (nSub_eq q) i)

variable (X : Fin 2 → Dev nD → S4x512x512.Idx → BitVec 32)

/-- What a tile is handed. -/
def goT (q : Fin 2) (d : Dev nD) (p : Tile) : sProp 𝕄 :=
  iprop(owns (thr d (co p)) (srcM (co p) (srcA q)) fullShare (slab (X q d) p : S64x512.Idx → Elt F .i32) ∗ ∃ R, owns (thr d (co p)) (dstM (co p) (dstA q)) fullShare R)
/-- What it hands back. -/
def tdT (q : Fin 2) (d : Dev nD) (p : Tile) : sProp 𝕄 :=
  iprop(owns (thr d (co p)) (srcM (co p) (srcA q)) fullShare (slab (X q d) p : S64x512.Idx → Elt F .i32)
    ∗ owns (thr d (co p)) (dstM (co p) (dstA q)) fullShare (tileRow (F := F) (slab (X q d) p)))

instance goT_storable (q : Fin 2) (d : Dev nD) (p : Tile) : BI.Storable (upEmb : UEmb _ 𝕄) (goT (F := F) X q d p) := by
  unfold goT; infer_instance
instance tdT_storable (q : Fin 2) (d : Dev nD) (p : Tile) : BI.Storable (upEmb : UEmb _ 𝕄) (tdT (F := F) X q d p) := by
  unfold tdT; infer_instance

/-- The calls' payloads: a SparseCore is handed its tiles' pieces. -/
def P : (K (F := F)).Pay (nD := nD) (Val := Elt F) (Name := ℕ) (U := UU) where
  st := fun q d c => bigSep Finset.univ fun i => goT X q d (tl c i)
  dn := fun q d c => bigSep Finset.univ fun i => tdT X q d (tl c i)
  go := fun q d c i => goT X q d (tl c i)
  td := fun q d c i => tdT X q d (tl c i)
  x := fun _ _ => iprop(emp)

instance P_storable : (P (F := F) X).IsStorable where
  st _ _ _ := by unfold P; infer_instance
  dn _ _ _ := by unfold P; infer_instance
  go _ _ _ _ := by unfold P; infer_instance
  td _ _ _ _ := by unfold P; infer_instance

theorem vecSplit (q : Fin 2) : (K (F := F)).VecSplit' (P X) q := by
  intro d c
  unfold P
  iintro H; imodintro
  isplitl [H]; · iexact H
  iintro H; iexact H

/-! ## A tile's scratch, out of what the launch deals it -/

section Own

variable (d : Dev nD) (c : Fin τ.nSC) (j : Fin τ.nSub)

/-- Two of a tile's scoped semaphores, and the rest. -/
theorem sems2 (a b : SemLoc sig) (ha : a.isScoped .scVector = true) (hb : b.isScoped .scVector = true) (hab : b ≠ a) :
    (ownSems0 (V d c j) : sProp 𝕄) = iprop(semVal (V d c j, a) 0 ∗ semVal (V d c j, b) 0
      ∗ bigSep (((ownCells (V d c j)).erase (V d c j, a)).erase (V d c j, b)) fun g => semVal g 0) := by
  unfold SparseCore.Cfg.ownSems0
  rw [SparseCore.bigSep_erase' ((mem_ownCells (g := ((V d c j, a) : GSem nD τ sig))).mpr ⟨rfl, ha⟩),
    SparseCore.bigSep_erase' (Finset.mem_erase.mpr ⟨fun e => hab (Prod.mk.inj e).2, (mem_ownCells (g := ((V d c j, b) : GSem nD τ sig))).mpr ⟨rfl, hb⟩⟩)]

/-- Five of a tile's own buffers, and the rest. -/
theorem bufs5 (b : Fin 5 → Ref sig .scVector) (hb : Function.Injective b) (ho : ∀ k, ((Proc.scVector c j).devRef (b k)).owner = .proc (.scVector c j)) :
    ∃ Z : sProp 𝕄, (ownBufs (V d c j) : sProp 𝕄)
      = iprop(((∃ f, (V d c j).loc (b 0) ↦{fullShare} f) ∗ (∃ f, (V d c j).loc (b 1) ↦{fullShare} f) ∗ (∃ f, (V d c j).loc (b 2) ↦{fullShare} f)
          ∗ (∃ f, (V d c j).loc (b 3) ↦{fullShare} f) ∗ (∃ f, (V d c j).loc (b 4) ↦{fullShare} f)) ∗ Z) := by
  let e : Fin 5 ↪ DevRef τ sig := ⟨fun k => (Proc.scVector c j).devRef (b k), fun k l h => hb (Proc.devRef_injective _ h)⟩
  have hs : Finset.univ.map e ⊆ ownRefs (τ := τ) (sig := sig) (.scVector c j) := by
    intro r hr
    obtain ⟨k, -, rfl⟩ := Finset.mem_map.mp hr
    exact SparseCore.Cfg.mem_ownRefs_of_owner (ho k)
  refine ⟨bigSep (ownRefs (.scVector c j) \ Finset.univ.map e) fun r => iprop(∃ f, ((d, r) : Loc nD τ sig) ↦{fullShare} f), ?_⟩
  unfold SparseCore.Cfg.ownBufs
  rw [show (V d c j : Thread nD τ).2 = .scVector c j from rfl, SparseCore.bigSep_sdiff_split' hs, BI.bigSep_map]
  congr 1
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

end Own

/-! ## A tile's run -/

theorem defs₀_vector0 (c : Fin τ.nSC) (s : Fin τ.nSub) :
    defs₀ (F := F) (.scVector c s) 1 ()
      = SparseCore.onTile hcore1 hsub1 (fun c s => cc1__bincount_wrapper (co (c, s)) (srcA 0) (Memref.isWhole_whole _) (dstA 0) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) cc1_scratch5 cc1_scoped0) ⟨⟩ c s := rfl

set_option maxRecDepth 65536 in
theorem cc3_eq : cc3__bincount_wrapper (F := F) = cc1__bincount_wrapper (F := F) := rfl

theorem defs₀_vector1 (c : Fin τ.nSC) (s : Fin τ.nSub) :
    defs₀ (F := F) (.scVector c s) 3 ()
      = SparseCore.onTile hcore1 hsub1 (fun c s => cc1__bincount_wrapper (co (c, s)) (srcA 1) (Memref.isWhole_whole _) (dstA 1) (Memref.isWhole_whole _)
          (Memref.whole cc3_scratch0) (Memref.isWhole_whole _) (Memref.whole cc3_scratch1) (Memref.isWhole_whole _) (Memref.whole cc3_scratch2) (Memref.isWhole_whole _)
          (Memref.whole cc3_scratch3) (Memref.isWhole_whole _) (Memref.whole cc3_scratch4) (Memref.isWhole_whole _) cc3_scratch5 cc3_scoped0) ⟨⟩ c s := by
  rw [← cc3_eq]; rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The run of a tile of call `q`, from what the launch deals the tile, over the call's own scratch and semaphores. -/
theorem tile_run (hX : ∀ q d x, (X q d x).toNat < 369) (q : Fin 2) (d : Dev nD) (p : Tile)
    (arg4 : Memref sig .scVector .vmem S64x512 .i32) (harg4 : arg4.IsWhole) (arg5 : Memref sig .scVector .vmem S5904 .f32) (harg5 : arg5.IsWhole)
    (arg6 : Memref sig .scVector .vmem S5904 .f32) (harg6 : arg6.IsWhole) (arg7 : Memref sig .scVector .vmem S5904 .f32) (harg7 : arg7.IsWhole)
    (arg8 : Memref sig .scVector .vmem S5904 .f32) (harg8 : arg8.IsWhole) (arg9 v46_r0 : DmaSems sig S_)
    (hsrc : (srcA q).IsWhole) (hdst : (dstA q).IsWhole) (Z Z' : sProp 𝕄)
    (hbufs : (scopedBufs (thr d (co p)) : sProp 𝕄) = iprop(scratch (F := F) d (co p) arg4 arg5 arg6 arg7 arg8 ∗ Z))
    (hsems : (scopedSems0 (thr d (co p)) : sProp 𝕄)
      = iprop(semVal (thr d (co p), SemLoc.dma arg9.sem) 0 ∗ semVal (thr d (co p), SemLoc.dma v46_r0.sem) 0 ∗ Z'))
    (O : CellTallies nD τ sig (HIx 2)) (W : Waits sig (HIx 2)) (hO : ∀ g, O g none = 0) :
    iprop(levAts (K (F := F)).L (K (F := F)).lev ∗ emp ∗ goT X q d p ∗ scopedBufs (thr d (co p)) ∗ scopedSems0 (thr d (co p)) ∗ owes (thr d (co p)) O W)
      ⊢ wp frame (wpE (defs₀ (F := F)) 𝒱₀ (thr d (co p)) none) Set.univ
          (cc1__bincount_wrapper (co p) (srcA q) hsrc (dstA q) hdst arg4 harg4 arg5 harg5 arg6 harg6 arg7 harg7 arg8 harg8 arg9 v46_r0)
          fun _ => (iprop(tdT X q d p ∗ scopedBufs (thr d (co p)) ∗ scopedSems0 (thr d (co p))
            ∗ ∃ W', ⌜∀ p ∈ W', p ∈ W ∨ p.2 = none⌝ ∗ owes (thr d (co p)) O W') : sProp 𝕄) := by
  rw [hbufs, hsems]
  unfold goT tdT
  iintro ⟨#Hlv, -, ⟨Hsrc, %R, Hdst⟩, ⟨Hscr, HZ⟩, ⟨Hs9, Hs46, HZ'⟩, HO⟩
  iapply (wp_wand frame) $$ [Hsrc Hdst Hscr Hs9 Hs46 HO]
  · iapply (body_run d (co p) (slab (X q d) p) (fun x => hX q d _) (srcA q) hsrc (dstA q) hdst arg4 harg4 arg5 harg5 arg6 harg6 arg7 harg7 arg8 harg8 arg9 v46_r0 fullShare R O W hO)
    isplitr; · iexact Hlv
    isplitl [Hsrc]; · iexact Hsrc
    isplitl [Hdst]; · iexact Hdst
    isplitl [Hscr]; · iexact Hscr
    isplitl [Hs9]; · iexact Hs9
    isplitl [Hs46] <;> iassumption
  iintro %_ ⟨Hsrc, Hdst, Hscr, Hs9, Hs46, HO⟩
  isplitl [Hsrc Hdst]; · isplitl [Hsrc] <;> iassumption
  isplitl [Hscr HZ]; · isplitl [Hscr] <;> iassumption
  isplitl [Hs9 Hs46 HZ']
  · isplitl [Hs9]; · iexact Hs9
    isplitl [Hs46] <;> iassumption
  iexact HO

/-- The scratch of call `q`'s tiles. -/
abbrev scr : Fin 2 → Fin 5 → Ref sig .scVector :=
  ![![cc1_scratch0, cc1_scratch1, cc1_scratch2, cc1_scratch3, cc1_scratch4], ![cc3_scratch0, cc3_scratch1, cc3_scratch2, cc3_scratch3, cc3_scratch4]]

theorem tileObl0 (hX : ∀ q d x, (X q d x).toNat < 369) : (K (F := F)).TileObl (D (F := F)) 𝒱 (P X) v₀ 0 := by
  intro d c i O W hO _ _
  simp only [show (P (F := F) X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector0]; simp only [SparseCore.onTile, hc, and_self, ↓reduceDIte]
  obtain ⟨Z, hZ⟩ := bufs5 (F := F) d ((K (F := F)).core 0 c) ((K (F := F)).sub 0 i) (scr 0) (by decide) (by intro k; fin_cases k <;> rfl)
  refine (tile_run X hX 0 d (tl c i) (Memref.whole cc1_scratch0) (Memref.isWhole_whole _) (Memref.whole cc1_scratch1) (Memref.isWhole_whole _)
    (Memref.whole cc1_scratch2) (Memref.isWhole_whole _) (Memref.whole cc1_scratch3) (Memref.isWhole_whole _) (Memref.whole cc1_scratch4) (Memref.isWhole_whole _)
    cc1_scratch5 cc1_scoped0 (Memref.isWhole_whole _) (Memref.isWhole_whole _) Z
    (bigSep (((ownCells (V d ((K (F := F)).core 0 c) ((K (F := F)).sub 0 i))).erase (V d ((K (F := F)).core 0 c) ((K (F := F)).sub 0 i), .dma cc1_scratch5.sem)).erase
      (V d ((K (F := F)).core 0 c) ((K (F := F)).sub 0 i), .dma cc1_scoped0.sem)) fun g => semVal g 0) ?_ ?_ O W hO).trans
    (wp_mono frame _ _ fun _ => obl_post)
  · unfold scratch
    simp only [owns_whole]
    exact ((K (F := F)).scopedBufs_V facts d _ _).trans hZ
  · exact (SparseCore.Cfg.scopedSems0_V (Val := Elt F) d _ _).trans (sems2 d _ _ (.dma cc1_scratch5.sem) (.dma cc1_scoped0.sem) (by decide) (by decide) (by decide))

theorem tileObl1 (hX : ∀ q d x, (X q d x).toNat < 369) : (K (F := F)).TileObl (D (F := F)) 𝒱 (P X) v₀ 1 := by
  intro d c i O W hO _ _
  simp only [show (P (F := F) X).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  obtain ⟨Z, hZ⟩ := bufs5 (F := F) d ((K (F := F)).core 1 c) ((K (F := F)).sub 1 i) (scr 1) (by decide) (by intro k; fin_cases k <;> rfl)
  refine (tile_run X hX 1 d (tl c i) (Memref.whole cc3_scratch0) (Memref.isWhole_whole _) (Memref.whole cc3_scratch1) (Memref.isWhole_whole _)
    (Memref.whole cc3_scratch2) (Memref.isWhole_whole _) (Memref.whole cc3_scratch3) (Memref.isWhole_whole _) (Memref.whole cc3_scratch4) (Memref.isWhole_whole _)
    cc3_scratch5 cc3_scoped0 (Memref.isWhole_whole _) (Memref.isWhole_whole _) Z
    (bigSep (((ownCells (V d ((K (F := F)).core 1 c) ((K (F := F)).sub 1 i))).erase (V d ((K (F := F)).core 1 c) ((K (F := F)).sub 1 i), .dma cc3_scratch5.sem)).erase
      (V d ((K (F := F)).core 1 c) ((K (F := F)).sub 1 i), .dma cc3_scoped0.sem)) fun g => semVal g 0) ?_ ?_ O W hO).trans
    (wp_mono frame _ _ fun _ => obl_post)
  · unfold scratch
    simp only [owns_whole]
    exact ((K (F := F)).scopedBufs_V facts d _ _).trans hZ
  · exact (SparseCore.Cfg.scopedSems0_V (Val := Elt F) d _ _).trans (sems2 d _ _ (.dma cc3_scratch5.sem) (.dma cc3_scoped0.sem) (by decide) (by decide) (by decide))

/-! ## The calls' operands and results, whole -/

variable (d : Dev nD)

/-- The tile whose location of the arrays stands for every tile's: the arrays are in main memory. -/
abbrev p₀ : Tile := (0, 0)

theorem bigSep_tiles (q : Fin 2) (Φ : Tile → sProp 𝕄) :
    (bigSep Finset.univ fun c : Fin ((K (F := F)).nCore q) => bigSep Finset.univ fun i : Fin ((K (F := F)).nSub q) => Φ (tl c i)) = bigSep Finset.univ Φ := by
  match q with
  | 0 => exact (BI.bigSep_univ_prod Φ).symm
  | 1 => exact (BI.bigSep_univ_prod Φ).symm

/-- Call `q` is handed its index array and its result, held whole; -/
theorem st_intro (q : Fin 2) (Y : S32x5904.Idx → Elt F .f32) :
    iprop(owns (thr d (co p₀)) (srcA q) fullShare (X q d : S4x512x512.Idx → Elt F .i32) ∗ owns (thr d (co p₀)) (dstA q) fullShare Y)
      ⊢ (bigSep Finset.univ fun c : Fin ((K (F := F)).nCore q) => (P (F := F) X).st q d c) := by
  refine BI.Entails.trans ?_ (Entails.of_eq (bigSep_tiles q (goT (F := F) X q d)).symm)
  unfold goT
  rw [bigSep_sep']
  refine BI.sep_mono ?_ ?_
  · match q with
    | 0 => exact slabs_split d (co p₀) (srcA 0) (X 0 d)
    | 1 => exact slabs_split d (co p₀) (srcA 1) (X 1 d)
  · match q with
    | 0 => exact rows_split d (co p₀) (dstA 0) Y
    | 1 => exact rows_split d (co p₀) (dstA 1) Y

/-- and hands them back, the result at the counts. -/
theorem dn_elim [∀ e, Nonempty (Elt F e)] (q : Fin 2) :
    (bigSep Finset.univ fun c : Fin ((K (F := F)).nCore q) => (P (F := F) X).dn q d c)
      ⊢ (iprop(owns (thr d (co p₀)) (srcA q) fullShare (X q d : S4x512x512.Idx → Elt F .i32) ∗ owns (thr d (co p₀)) (dstA q) fullShare (out (F := F) (X q d))) : sProp 𝕄) := by
  refine BI.Entails.trans (Entails.of_eq (bigSep_tiles q (tdT (F := F) X q d))) ?_
  unfold tdT
  rw [bigSep_sep']
  refine BI.sep_mono ?_ ?_
  · match q with
    | 0 => exact slabs_join d (co p₀) (srcA 0) (X 0 d)
    | 1 => exact slabs_join d (co p₀) (srcA 1) (X 1 d)
  · match q with
    | 0 => exact rows_join d (co p₀) (dstA 0) (X 0 d)
    | 1 => exact rows_join d (co p₀) (dstA 1) (X 1 d)

end Cert.Proof.Calls
-- ==== Proof.Values.lean ====
/-
  What the arrays hold along the program: the pair indices of each half of the batch, the counts of each call, the
  masks, the loss.
-/
module

public import proofs.«01_k».proof.Proof.Argmax
public import proofs.«01_k».proof.Proof.Epilogue
public import proofs.«01_k».proof.Proof.Calls

@[expose] public section

noncomputable section

namespace Cert.Proof.Values

open Cert.KernelIdeal Cert.KernelIdeal.Gen Cert.Proof.Argmax Cert.Proof.Epilogue Cert.Proof.Pieces
open Idealize.ShloMosaic Idealize.ShloMosaic.ValueIdx
open Idealize.ShloMosaic.SparseCore (S V T)

variable {F : FTy → Type} [FloatOps F]

variable (m : (ℓ : Loc nD τ sig) → Buf (Elt F) ℓ)

/-- The labels. -/
def tgt (c : Dev nD) : S8x512x512.Idx → BitVec 32 := m ((T c : Thread nD τ).loc main_arg1)

/-- The logits. -/
def outp (c : Dev nD) : S8x19x512x512.Idx → F .f32 := m ((T c : Thread nD τ).loc main_arg0)

/-- Image `b` of half `q` of the batch. -/
def img (q : Fin 2) (b : Fin 4) : Fin 8 := ⟨b.val + 4 * q.val, by omega⟩

/-- The pair index at each pixel of half `q`: 19 times the label plus the class of the largest logit. -/
def X (q : Fin 2) (c : Dev nD) : S4x512x512.Idx → BitVec 32 := fun y =>
  pix (tgt m c (ix3 (img q (y 0)) (y 1) (y 2))) (fun k => outp m c (ix4 (img q (y 0)) (Fin.ofNat 19 k) (y 1) (y 2)))

/-- The tiles' counts of call `q`. -/
def counts (q : Fin 2) (c : Dev nD) : S32x5904.Idx → Elt F .f32 := out (F := F) (X m q c)

/-- The masks' two coordinates: the row, and the place within a lane's counts. -/
def mr : S19x5904.Idx → BitVec 32 := iotaInDim S19x5904 32 0
def mj : S19x5904.Idx → BitVec 32 := Host.remsi (iotaInDim S19x5904 32 1) (constantI S19x5904 32 369#32)
def mv : S19x5904.Idx → BitVec 1 := cmpi .slt mj (constantI S19x5904 32 361#32)

/-- The three masks: a label's counts, a class's, and the diagonal's. -/
def mrow : S19x5904.Idx → Elt F .f32 := uitofp .f32 (andi (cmpi .eq (Host.divsi mj (constantI S19x5904 32 19#32)) mr) mv)
def mcol : S19x5904.Idx → Elt F .f32 := uitofp .f32 (andi (cmpi .eq (Host.remsi mj (constantI S19x5904 32 19#32)) mr) mv)
def mdiag : S19x5904.Idx → Elt F .f32 := uitofp .f32 (andi (cmpi .eq mj (muli (constantI S19x5904 32 20#32) mr)) mv)

/-- The loss, as the epilogue leaves it. -/
def loss (c : Dev nD) : S1x1.Idx → Elt F .f32 := epi (counts m 0 c) (counts m 1 c) mrow mcol mdiag

/-- Each class index is at most the number of comparisons made. -/
theorem arg_le (f : ℕ → F .f32) (k : ℕ) : (arg f k).toNat ≤ k := by
  induction k with
  | zero => show (0#32).toNat ≤ 0; decide
  | succ k ih =>
    show (Scalar.select _ _ _ : BitVec 32).toNat ≤ k + 1
    unfold Scalar.select
    split
    · rw [BitVec.toNat_ofNat]; exact Nat.mod_le _ _
    · omega

/-- The pair indices fall within the counted range when the labels do. -/
theorem X_lt (ht : ∀ c y, (tgt m c y).toNat < 19) (q : Fin 2) (c : Dev nD) (x : S4x512x512.Idx) : (X m q c x).toNat < 369 := by
  have h1 := ht c (ix3 (img q (x 0)) (x 1) (x 2))
  have h2 := arg_le (fun k => outp m c (ix4 (img q (x 0)) (Fin.ofNat 19 k) (x 1) (x 2))) 18
  show (tgt m c (ix3 (img q (x 0)) (x 1) (x 2)) * 19#32 + arg _ 18).toNat < 369
  rw [BitVec.toNat_add, BitVec.toNat_mul]
  refine lt_of_le_of_lt (Nat.mod_le _ _) ?_
  have h3 : (tgt m c (ix3 (img q (x 0)) (x 1) (x 2))).toNat * (19#32 : BitVec 32).toNat % 2 ^ 32 ≤ (tgt m c (ix3 (img q (x 0)) (x 1) (x 2))).toNat * 19 := Nat.mod_le _ _
  omega

end Cert.Proof.Values
-- ==== Proof.Regions.lean ====
/-
  The three pallas_calls as pipelines: what their windows hold, their bodies' obligations, their arrays at the end.
-/
module

public import proofs.«01_k».proof.Proof.Gen.KernelIdeal.Launch
public import proofs.«01_k».proof.Proof.Gen.KernelIdeal.Points
public import proofs.«01_k».proof.Proof.Values
public import Idealize.ShloMosaic.Lib.Pipeline.FrameBody
public import Idealize.ShloMosaic.Lib.Pipeline.Value

@[expose] public section

noncomputable section

namespace Cert.Proof.Regions

open Cert.KernelIdeal Cert.KernelIdeal.Gen Cert.Proof.Argmax Cert.Proof.Epilogue Cert.Proof.Setup Cert.Proof.Values
open Idealize.ShloMosaic Idealize.ShloMosaic.ValueIdx
open Idealize.ShloMosaic.SparseCore (S V T)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

/-- The pairs a TensorCore's waits may have recorded before call `n`. -/
def below (c : Dev nD) (n : ℕ) : Set (SemLoc sig × HIx 2) := {p | (K (F := F)).lev (T c, p.1) p.2 ≤ 8 * (Blocks.fst (Q := 2) (N := 2) n)}

/-- The first argmax's data. -/
def dat0 (c : Dev nD) : Pipeline.Dat τ (Elt F) (HIx 2) ℕ UU ℕ cfg0 c where
  A := fun | 0 => tgt m c | 1 => outp m c | 2 => m ((T c : Thread nD τ).loc main_v16)
  after := fun
    | 0 => fun t => ((cfg0.win 0).blk t).view.read (Elt F) (tgt m c)
    | 1 => fun t => ((cfg0.win 1).blk t).view.read (Elt F) (outp m c)
    | 2 => fun t => argBlk (F := F) (((cfg0.win 0).blk t).view.read (Elt F) (tgt m c)) (((cfg0.win 1).blk t).view.read (Elt F) (outp m c))
  Φ _ := Pipeline.scopedRest spec0 c
  q _ := fullShare
  owed _ := (K (F := F)).Otc c 0
  recorded _ := below (F := F) c 0

/-- The second argmax's. -/
def dat2 (c : Dev nD) : Pipeline.Dat τ (Elt F) (HIx 2) ℕ UU ℕ cfg2 c where
  A := fun | 0 => tgt m c | 1 => outp m c | 2 => m ((T c : Thread nD τ).loc main_v18)
  after := fun
    | 0 => fun t => ((cfg2.win 0).blk t).view.read (Elt F) (tgt m c)
    | 1 => fun t => ((cfg2.win 1).blk t).view.read (Elt F) (outp m c)
    | 2 => fun t => argBlk (F := F) (((cfg2.win 0).blk t).view.read (Elt F) (tgt m c)) (((cfg2.win 1).blk t).view.read (Elt F) (outp m c))
  Φ _ := Pipeline.scopedRest spec2 c
  q _ := fullShare
  owed _ := (K (F := F)).Otc c 1
  recorded _ := below (F := F) c 1

/-- The epilogue's. -/
def dat4 (c : Dev nD) : Pipeline.Dat τ (Elt F) (HIx 2) ℕ UU ℕ cfg4 c where
  A := fun | 0 => counts m 0 c | 1 => counts m 1 c | 2 => mrow | 3 => mcol | 4 => mdiag | 5 => m ((T c : Thread nD τ).loc main_v20)
  after := fun
    | 0 => fun t => ((cfg4.win 0).blk t).view.read (Elt F) (counts m 0 c)
    | 1 => fun t => ((cfg4.win 1).blk t).view.read (Elt F) (counts m 1 c)
    | 2 => fun t => ((cfg4.win 2).blk t).view.read (Elt F) (mrow (F := F))
    | 3 => fun t => ((cfg4.win 3).blk t).view.read (Elt F) (mcol (F := F))
    | 4 => fun t => ((cfg4.win 4).blk t).view.read (Elt F) (mdiag (F := F))
    | 5 => fun _ => loss m c
  Φ _ := Pipeline.scopedRest spec4 c
  q _ := fullShare
  owed _ := (K (F := F)).Otc c 2
  recorded _ := below (F := F) c 2

/-- No table is prefetched. -/
abbrev adm : (p : Fin 3) → (pcfgs (F := F) p).Adm := fun p => (cfgs p).toPCfg_adm

/-- The three pipelines' data. -/
def pdats : (p : Fin 3) → (c : Dev nD) → Pipeline.Dat τ (Elt F) (HIx 2) ℕ UU ℕ (Pipeline.pin (pcfgs (F := F)) adm p) c
  | 0 => dat0 m
  | 1 => dat2 m
  | 2 => dat4 m

section Bodies

variable (c : Dev nD)

theorem body0 : Pipeline.BodyObligation (dat0 m c) (defs₀ (F := F)) 𝒱₀ (none : HIx 2) Set.univ := fun t => by
  have h0 : ∀ d, (dat0 m c).before 0 t d = ((cfg0.win 0).blk t).view.read (Elt F) (tgt m c) := fun d => (dat0 m c).before_fetched 0 t (fetch0_0 t) d
  have h1 : ∀ d, (dat0 m c).before 1 t d = ((cfg0.win 1).blk t).view.read (Elt F) (outp m c) := fun d => (dat0 m c).before_fetched 1 t (fetch0_1 t) d
  rw [bigSep_W0, bigSep_W0]
  rw [show (dat0 m c).Φ t.succ = (dat0 m c).Φ t.castSucc from rfl, show (dat0 m c).owesAt (none : HIx 2) t.succ = (dat0 m c).owesAt (none : HIx 2) t.castSucc from rfl]
  iintro ⟨HΦ, HO, ⟨⟨%d0, H0⟩, ⟨%d1, H1⟩, ⟨%d2, H2⟩⟩⟩
  rw [h0, h1]
  iapply (argmax_run (defs := defs₀ (F := F)) 𝒱₀ c none Set.univ (cfg0.grid.coords t) _ _ _ _ _ _ (((cfg0.win 0).blk t).view.read (Elt F) (tgt m c)) (((cfg0.win 1).blk t).view.read (Elt F) (outp m c)))
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

set_option maxRecDepth 65536 in
/-- Both argmax bodies are one program. -/
theorem body_eq : cc2__argmax_body (F := F) = cc0__argmax_body := rfl

theorem body2 : Pipeline.BodyObligation (dat2 m c) (defs₀ (F := F)) 𝒱₀ (none : HIx 2) Set.univ := fun t => by
  have h0 : ∀ d, (dat2 m c).before 0 t d = ((cfg2.win 0).blk t).view.read (Elt F) (tgt m c) := fun d => (dat2 m c).before_fetched 0 t (fetch2_0 t) d
  have h1 : ∀ d, (dat2 m c).before 1 t d = ((cfg2.win 1).blk t).view.read (Elt F) (outp m c) := fun d => (dat2 m c).before_fetched 1 t (fetch2_1 t) d
  rw [bigSep_W2, bigSep_W2]
  rw [show (dat2 m c).Φ t.succ = (dat2 m c).Φ t.castSucc from rfl, show (dat2 m c).owesAt (none : HIx 2) t.succ = (dat2 m c).owesAt (none : HIx 2) t.castSucc from rfl]
  iintro ⟨HΦ, HO, ⟨⟨%d0, H0⟩, ⟨%d1, H1⟩, ⟨%d2, H2⟩⟩⟩
  rw [h0, h1]
  have hb : cc2__argmax_body (F := F) = cc0__argmax_body := body_eq
  have hr : defs₀ (F := F) .tc cfg2.body (cfg2.bodyArgs t (cfg2.slots t)) = bodyAt2 t := rfl
  rw [hr]
  unfold bodyAt2
  rw [hb]
  iapply (argmax_run (defs := defs₀ (F := F)) 𝒱₀ c none Set.univ (cfg2.grid.coords t) _ _ _ _ _ _ (((cfg2.win 0).blk t).view.read (Elt F) (tgt m c)) (((cfg2.win 1).blk t).view.read (Elt F) (outp m c)))
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- The epilogue's windows are the whole arrays. -/
theorem whole4_0 (t : Fin cfg4.N) (f : S32x5904.Idx → Elt F .f32) : ((cfg4.win 0).blk t).view.read (Elt F) f = f :=
  funext fun j => congrArg f (funext fun a => Fin.ext (Pipeline.Window.rect_emb_val_of_index_zero win4_0 t a (by fin_cases a <;> rfl) j))
theorem whole4_1 (t : Fin cfg4.N) (f : S32x5904.Idx → Elt F .f32) : ((cfg4.win 1).blk t).view.read (Elt F) f = f :=
  funext fun j => congrArg f (funext fun a => Fin.ext (Pipeline.Window.rect_emb_val_of_index_zero win4_1 t a (by fin_cases a <;> rfl) j))
theorem whole4_2 (t : Fin cfg4.N) (f : S19x5904.Idx → Elt F .f32) : ((cfg4.win 2).blk t).view.read (Elt F) f = f :=
  funext fun j => congrArg f (funext fun a => Fin.ext (Pipeline.Window.rect_emb_val_of_index_zero win4_2 t a (by fin_cases a <;> rfl) j))
theorem whole4_3 (t : Fin cfg4.N) (f : S19x5904.Idx → Elt F .f32) : ((cfg4.win 3).blk t).view.read (Elt F) f = f :=
  funext fun j => congrArg f (funext fun a => Fin.ext (Pipeline.Window.rect_emb_val_of_index_zero win4_3 t a (by fin_cases a <;> rfl) j))
theorem whole4_4 (t : Fin cfg4.N) (f : S19x5904.Idx → Elt F .f32) : ((cfg4.win 4).blk t).view.read (Elt F) f = f :=
  funext fun j => congrArg f (funext fun a => Fin.ext (Pipeline.Window.rect_emb_val_of_index_zero win4_4 t a (by fin_cases a <;> rfl) j))
theorem whole4_5 (t : Fin cfg4.N) (f : S1x1.Idx → Elt F .f32) : ((cfg4.win 5).blk t).view.read (Elt F) f = f :=
  funext fun j => congrArg f (funext fun a => Fin.ext (Pipeline.Window.rect_emb_val_of_index_zero win4_5 t a (by fin_cases a <;> rfl) j))

/-- Before and after the body the epilogue's inputs hold the arrays. -/
theorem bef0 (t : Fin cfg4.N) (d) : (dat4 m c).before 0 t d = counts m 0 c := by rw [(dat4 m c).before_fetched 0 t (fetch4_0 t) d]; unfold Pipeline.Dat.fetched Pipeline.Dat.blockOf; dsimp only [dat4]; exact (whole4_0 (F := F) t (counts m 0 c))
theorem aft0 (t : Fin cfg4.N) : (dat4 m c).after 0 t = counts m 0 c := by dsimp only [dat4]; exact whole4_0 (F := F) t (counts m 0 c)
theorem bef1 (t : Fin cfg4.N) (d) : (dat4 m c).before 1 t d = counts m 1 c := by rw [(dat4 m c).before_fetched 1 t (fetch4_1 t) d]; unfold Pipeline.Dat.fetched Pipeline.Dat.blockOf; dsimp only [dat4]; exact (whole4_1 (F := F) t (counts m 1 c))
theorem aft1 (t : Fin cfg4.N) : (dat4 m c).after 1 t = counts m 1 c := by dsimp only [dat4]; exact whole4_1 (F := F) t (counts m 1 c)
theorem bef2 (t : Fin cfg4.N) (d) : (dat4 m c).before 2 t d = mrow := by rw [(dat4 m c).before_fetched 2 t (fetch4_2 t) d]; unfold Pipeline.Dat.fetched Pipeline.Dat.blockOf; dsimp only [dat4]; exact (whole4_2 (F := F) t (mrow))
theorem aft2 (t : Fin cfg4.N) : (dat4 m c).after 2 t = mrow := by dsimp only [dat4]; exact whole4_2 (F := F) t (mrow)
theorem bef3 (t : Fin cfg4.N) (d) : (dat4 m c).before 3 t d = mcol := by rw [(dat4 m c).before_fetched 3 t (fetch4_3 t) d]; unfold Pipeline.Dat.fetched Pipeline.Dat.blockOf; dsimp only [dat4]; exact (whole4_3 (F := F) t (mcol))
theorem aft3 (t : Fin cfg4.N) : (dat4 m c).after 3 t = mcol := by dsimp only [dat4]; exact whole4_3 (F := F) t (mcol)
theorem bef4 (t : Fin cfg4.N) (d) : (dat4 m c).before 4 t d = mdiag := by rw [(dat4 m c).before_fetched 4 t (fetch4_4 t) d]; unfold Pipeline.Dat.fetched Pipeline.Dat.blockOf; dsimp only [dat4]; exact (whole4_4 (F := F) t (mdiag))
theorem aft4 (t : Fin cfg4.N) : (dat4 m c).after 4 t = mdiag := by dsimp only [dat4]; exact whole4_4 (F := F) t (mdiag)
theorem row4 (t : Fin cfg4.N) : defs₀ (F := F) .tc cfg4.body (cfg4.bodyArgs t (cfg4.slots t)) = bodyAt4 t := rfl

theorem body4 : Pipeline.BodyObligation (dat4 m c) (defs₀ (F := F)) 𝒱₀ (none : HIx 2) Set.univ := fun t => by
  rw [bigSep_W4, bigSep_W4]
  rw [show (dat4 m c).Φ t.succ = (dat4 m c).Φ t.castSucc from rfl, show (dat4 m c).owesAt (none : HIx 2) t.succ = (dat4 m c).owesAt (none : HIx 2) t.castSucc from rfl]
  iintro ⟨HΦ, HO, ⟨⟨%d0, H0⟩, ⟨%d1, H1⟩, ⟨%d2, H2⟩, ⟨%d3, H3⟩, ⟨%d4, H4⟩, ⟨%d5, H5⟩⟩⟩
  rw [bef0, bef1, bef2, bef3, bef4]
  rw [row4]
  unfold bodyAt4
  iapply (epilogue_run (defs := defs₀ (F := F)) 𝒱₀ c none Set.univ _ _ _ _ _ _ _ _ _ _ _ _ (counts m 0 c) (counts m 1 c) mrow mcol mdiag)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  rw [aft0, aft1, aft2, aft3, aft4]
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

end Bodies

section Final

variable (c : Dev nD)

/-- The grid's coordinates are all reached. -/
theorem coords_surj : ∀ (a : Fin 4) (b : Fin 2), ∃ t : Fin grid0.N, (grid0.coords t 0).val = a.val ∧ (grid0.coords t 1).val = b.val := by decide +kernel

theorem idx0_0 (i : grid0.Coords) : cc0_transform_0 i = ![(i 0).val, (i 1).val, 0] := by
  revert i; decide +kernel
theorem idx0_1 (i : grid0.Coords) : cc0_transform_1 i = ![(i 0).val, 0, (i 1).val, 0] := by
  revert i; decide +kernel
theorem idx0_2 (i : grid0.Coords) : cc0_transform_2 i = ![(i 0).val, (i 1).val, 0] := by
  revert i; decide +kernel

theorem final0 : (dat0 m c).arrAt 2 cfg0.N = X m 0 c := by
  refine (dat0 m c).arrAt_eq_of_cover 2 (X m 0 c) (fun t _ => ?_) (fun i => ?_)
  · funext j
    have e0 : ∀ y a, ((win0_0.rect t).emb y a : ℕ) = _ := fun y a => Pipeline.Window.rect_emb_val win0_0 t y a
    have e1 : ∀ y a, ((win0_1.rect t).emb y a : ℕ) = _ := fun y a => Pipeline.Window.rect_emb_val win0_1 t y a
    have e2 : ∀ y a, ((win0_2.rect t).emb y a : ℕ) = _ := fun y a => Pipeline.Window.rect_emb_val win0_2 t y a
    have i0 : win0_0.index t = ![(grid0.coords t 0).val, (grid0.coords t 1).val, 0] := idx0_0 _
    have i1 : win0_1.index t = ![(grid0.coords t 0).val, 0, (grid0.coords t 1).val, 0] := idx0_1 _
    have i2 : win0_2.index t = ![(grid0.coords t 0).val, (grid0.coords t 1).val, 0] := idx0_2 _
    have hj : (j 0).val < 1 := (j 0).isLt
    show argBlk (F := F) (fun x => tgt m c ((win0_0.rect t).emb x)) (fun x => outp m c ((win0_1.rect t).emb x)) j = X m 0 c ((win0_2.rect t).emb j)
    rw [argBlk_apply]
    unfold X chan
    have ht : (win0_0.rect t).emb j = ix3 (img 0 ((win0_2.rect t).emb j 0)) ((win0_2.rect t).emb j 1) ((win0_2.rect t).emb j 2) := by
      funext a
      refine Fin.ext ((e0 j a).trans ?_)
      rw [i0]
      fin_cases a
      · exact ((e2 j 0).trans (by rw [i2]; rfl)).symm
      · exact ((e2 j 1).trans (by rw [i2]; rfl)).symm
      · exact ((e2 j 2).trans (by rw [i2]; rfl)).symm
    have ho : ∀ k, (win0_1.rect t).emb (ix4 0 (Fin.ofNat 19 k) (j 1) (j 2)) = ix4 (img 0 ((win0_2.rect t).emb j 0)) (Fin.ofNat 19 k) ((win0_2.rect t).emb j 1) ((win0_2.rect t).emb j 2) := by
      intro k
      funext a
      refine Fin.ext ((e1 _ a).trans ?_)
      rw [i1]
      fin_cases a
      · refine Eq.trans ?_ ((e2 j 0).trans (by rw [i2])).symm
        show (grid0.coords t 0).val * 1 + 0 = (grid0.coords t 0).val * 1 + (j 0).val
        omega
      · exact Nat.zero_add _
      · exact ((e2 j 1).trans (by rw [i2]; rfl)).symm
      · exact ((e2 j 2).trans (by rw [i2]; rfl)).symm
    rw [ht]
    exact congrArg (pix _) (funext fun k => congrArg (outp m c) (ho k))
  · have hi0 : (i 0).val < 4 := (i 0).isLt
    have hi1 : (i 1).val < 512 := (i 1).isLt
    obtain ⟨t, ht0, ht1⟩ := coords_surj (⟨(i 0).val, hi0⟩ : Fin 4) (⟨(i 1).val / 256, by omega⟩ : Fin 2)
    refine ⟨t, flush0_2 t, ?_⟩
    have i2 : win0_2.index t = ![(grid0.coords t 0).val, (grid0.coords t 1).val, 0] := idx0_2 _
    have he : (win0_2.rect t).emb (ix3 0 ⟨(i 1).val % 256, by omega⟩ (i 2) : S1x256x512.Idx) = i := by
      funext a
      refine Fin.ext ((Pipeline.Window.rect_emb_val win0_2 t _ a).trans ?_)
      rw [i2]
      fin_cases a
      · show (grid0.coords t 0).val * 1 + 0 = (i 0).val
        rw [ht0]; show (i 0).val * 1 + 0 = (i 0).val; omega
      · show (grid0.coords t 1).val * 256 + (i 1).val % 256 = (i 1).val
        rw [ht1]; show (i 1).val / 256 * 256 + (i 1).val % 256 = (i 1).val; omega
      · exact Nat.zero_add _
    rw [← he]
    exact View.emb_mem_set ((cfg0.win 2).blk t).view _

theorem idx2_0 (i : grid2.Coords) : cc2_transform_0 i = ![(i 0).val + 4, (i 1).val, 0] := by
  revert i; decide +kernel
theorem idx2_1 (i : grid2.Coords) : cc2_transform_1 i = ![(i 0).val + 4, 0, (i 1).val, 0] := by
  revert i; decide +kernel
theorem idx2_2 (i : grid2.Coords) : cc2_transform_2 i = ![(i 0).val, (i 1).val, 0] := by
  revert i; decide +kernel

theorem final2 : (dat2 m c).arrAt 2 cfg2.N = X m 1 c := by
  refine (dat2 m c).arrAt_eq_of_cover 2 (X m 1 c) (fun t _ => ?_) (fun i => ?_)
  · funext j
    have e0 : ∀ y a, ((win2_0.rect t).emb y a : ℕ) = _ := fun y a => Pipeline.Window.rect_emb_val win2_0 t y a
    have e1 : ∀ y a, ((win2_1.rect t).emb y a : ℕ) = _ := fun y a => Pipeline.Window.rect_emb_val win2_1 t y a
    have e2 : ∀ y a, ((win2_2.rect t).emb y a : ℕ) = _ := fun y a => Pipeline.Window.rect_emb_val win2_2 t y a
    have i0 : win2_0.index t = ![(grid2.coords t 0).val + 4, (grid2.coords t 1).val, 0] := idx2_0 _
    have i1 : win2_1.index t = ![(grid2.coords t 0).val + 4, 0, (grid2.coords t 1).val, 0] := idx2_1 _
    have i2 : win2_2.index t = ![(grid2.coords t 0).val, (grid2.coords t 1).val, 0] := idx2_2 _
    have hj : (j 0).val < 1 := (j 0).isLt
    show argBlk (F := F) (fun x => tgt m c ((win2_0.rect t).emb x)) (fun x => outp m c ((win2_1.rect t).emb x)) j = X m 1 c ((win2_2.rect t).emb j)
    rw [argBlk_apply]
    unfold X chan
    have ht : (win2_0.rect t).emb j = ix3 (img 1 ((win2_2.rect t).emb j 0)) ((win2_2.rect t).emb j 1) ((win2_2.rect t).emb j 2) := by
      funext a
      refine Fin.ext ((e0 j a).trans ?_)
      rw [i0]
      fin_cases a
      · refine Eq.trans ?_ (congrArg (· + 4) ((e2 j 0).trans (by rw [i2])).symm)
        show ((grid2.coords t 0).val + 4) * 1 + (j 0).val = (grid2.coords t 0).val * 1 + (j 0).val + 4
        omega
      · exact ((e2 j 1).trans (by rw [i2]; rfl)).symm
      · exact ((e2 j 2).trans (by rw [i2]; rfl)).symm
    have ho : ∀ k, (win2_1.rect t).emb (ix4 0 (Fin.ofNat 19 k) (j 1) (j 2)) = ix4 (img 1 ((win2_2.rect t).emb j 0)) (Fin.ofNat 19 k) ((win2_2.rect t).emb j 1) ((win2_2.rect t).emb j 2) := by
      intro k
      funext a
      refine Fin.ext ((e1 _ a).trans ?_)
      rw [i1]
      fin_cases a
      · refine Eq.trans ?_ (congrArg (· + 4) ((e2 j 0).trans (by rw [i2])).symm)
        show ((grid2.coords t 0).val + 4) * 1 + 0 = (grid2.coords t 0).val * 1 + (j 0).val + 4
        omega
      · exact Nat.zero_add _
      · exact ((e2 j 1).trans (by rw [i2]; rfl)).symm
      · exact ((e2 j 2).trans (by rw [i2]; rfl)).symm
    rw [ht]
    exact congrArg (pix _) (funext fun k => congrArg (outp m c) (ho k))
  · have hi0 : (i 0).val < 4 := (i 0).isLt
    have hi1 : (i 1).val < 512 := (i 1).isLt
    obtain ⟨t, ht0, ht1⟩ := coords_surj (⟨(i 0).val, hi0⟩ : Fin 4) (⟨(i 1).val / 256, by omega⟩ : Fin 2)
    refine ⟨t, flush2_2 t, ?_⟩
    have i2 : win2_2.index t = ![(grid2.coords t 0).val, (grid2.coords t 1).val, 0] := idx2_2 _
    have he : (win2_2.rect t).emb (ix3 0 ⟨(i 1).val % 256, by omega⟩ (i 2) : S1x256x512.Idx) = i := by
      funext a
      refine Fin.ext ((Pipeline.Window.rect_emb_val win2_2 t _ a).trans ?_)
      rw [i2]
      fin_cases a
      · show (grid2.coords t 0).val * 1 + 0 = (i 0).val
        rw [ht0]; show (i 0).val * 1 + 0 = (i 0).val; omega
      · show (grid2.coords t 1).val * 256 + (i 1).val % 256 = (i 1).val
        rw [ht1]; show (i 1).val / 256 * 256 + (i 1).val % 256 = (i 1).val; omega
      · exact Nat.zero_add _
    rw [← he]
    exact View.emb_mem_set ((cfg2.win 2).blk t).view _

theorem final4 : (dat4 m c).arrAt 5 cfg4.N = loss m c := by
  refine (dat4 m c).arrAt_eq_of_cover 5 (loss m c) (fun t _ => ?_) (fun i => ?_)
  · rw [show ((cfg4.win 5).blk t).view.read (Elt F) (loss m c) = loss m c from whole4_5 t (loss m c)]
    unfold Pipeline.Dat.flushed
    dsimp only [dat4]
    rfl
  · refine ⟨⟨0, by decide⟩, flush4_5 _, ?_⟩
    have he : (win4_5.rect ⟨0, by decide⟩).emb i = i := funext fun a => Fin.ext (Pipeline.Window.rect_emb_val_of_index_zero win4_5 _ a (by fin_cases a <;> rfl) i)
    have := View.emb_mem_set ((cfg4.win 5).blk ⟨0, by decide⟩).view i
    exact he ▸ this

end Final

end Cert.Proof.Regions
-- ==== Proof.Segs.lean ====
/-
  Each pallas_call as one step of @main: from the windows' arrays at their entry contents to the same arrays at the
  exit contents, the TensorCore's handshake state kept.
-/
module

public import proofs.«01_k».proof.Proof.Regions
public import Idealize.ShloMosaic.Lib.Pipeline.RegionArrays

@[expose] public section

noncomputable section

namespace Cert.Proof.Segs

open Cert.KernelIdeal Cert.KernelIdeal.Gen Cert.Proof.Memory Cert.Proof.Setup Cert.Proof.Values Cert.Proof.Regions
open Idealize.ShloMosaic Idealize.ShloMosaic.TcCoe
open Idealize.ShloMosaic.SparseCore (S V T)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

/-- What a TensorCore owes before call `n`, its recorded pairs bounded. -/
def due (c : Dev nD) (n : ℕ) : sProp 𝕄 :=
  iprop(∃ W, ⌜(K (F := F)).WBelow (T c) W (8 * Blocks.fst (Q := 2) (N := 2) n)⌝ ∗ owes (T c) ((K (F := F)).Otc c n) W)

/-- No debt sits at the index of a kernel's own waits. -/
theorem Otc_none (c : Dev nD) (n : ℕ) (g : GSem nD τ sig) : (K (F := F)).Otc c n g none = 0 := by
  unfold SparseCore.Cfg.Otc
  simp only [Finset.sum_apply, Finsupp.finset_sum_apply]
  refine Finset.sum_eq_zero fun q _ => ?_
  split
  · simp only [Finset.sum_apply, Finsupp.finset_sum_apply]
    exact Finset.sum_eq_zero fun k _ => by simp [tallyAt_apply]
  · rfl

/-- A pallas_call's segment. -/
def seg (p : Fin 3) (n : ℕ) (win : Pipeline.WinFacts₀ (pcfgs (F := F) p).spec)
    (bp : ∀ w : Fin (Pipeline.pin (pcfgs (F := F)) adm p).W, 0 < ((Pipeline.pin (pcfgs (F := F)) adm p).spec w).block.numel)
    (sw : ∀ (w : Fin (Pipeline.pin (pcfgs (F := F)) adm p).W) (s : Fin ((Pipeline.pin (pcfgs (F := F)) adm p).spec w).nbuf), (((Pipeline.pin (pcfgs (F := F)) adm p).spec w).stage s).IsWhole)
    (hK : (pcfgs (F := F) p).pre.K = 0)
    (hbody : ∀ c, Pipeline.BodyObligation (pdats m p c) (defs₀ (F := F)) 𝒱₀ (none : HIx 2) Set.univ)
    (howed : ∀ c t, (pdats m p c).owed t = (K (F := F)).Otc c n) (hrec : ∀ c t, (pdats m p c).recorded t = below (F := F) c n)
    (hΦ : ∀ c t, (pdats m p c).Φ t = Pipeline.scopedRest (Pipeline.pin (pcfgs (F := F)) adm p).spec c) :
    Pipeline.RegionSeg (pcfgs (F := F)) adm (pdats m) (none : HIx 2) (defs₀ (F := F)) 𝒱₀ (K (F := F)).L (K (F := F)).lev p where
  win := win
  block_pos := bp
  stage_whole := sw
  K := PEmpty
  osem k := k.elim
  ho := Pipeline.OwnSemFacts.none _
  hbody c := (hbody c).loose
  hwaits c := Pipeline.cellsWaits_intro (Pipeline.pin (pcfgs (F := F)) adm) (pdats m) none p c fun w s t => by
    rw [howed]; exact (K (F := F)).mayWait_none _ (Otc_none c n)
  pre c := iprop((pdats m p c).arrays ((pdats m p c).arrAt · 0) ∗ due (F := F) c n)
  post c := iprop((pdats m p c).arrays ((pdats m p c).arrAt · (Pipeline.pin (pcfgs (F := F)) adm p).N) ∗ due (F := F) c n)
  X _ := iprop(emp)
  Y _ := iprop(emp)
  Z _ := iprop(emp)
  hentry c := by
    rw [Pipeline.ownSems0_none, Pipeline.prefHeld_of_none _ hK]
    unfold due Pipeline.Dat.owesAt Pipeline.owesWithin
    rw [howed]
    iintro ⟨⟨Ha, ⟨%W, %hW, HO⟩⟩, -, -⟩
    imodintro
    isplitl [Ha]; · iexact Ha
    isplitr; · iempintro
    isplitl [HO]
    · iexists W
      isplitr
      · ipureintro
        intro q hq
        exact Or.inl (by rw [hrec]; exact hW q hq)
      iexact HO
    isplitr <;> iempintro
  hin c := by
    rw [hΦ, Pipeline.prefHeld_of_none _ hK]
    iintro ⟨-, -, H⟩; iexact H
  hout c := by
    rw [hΦ, Pipeline.ownSems0_none]
    iintro H
    isplitr; · iempintro
    isplitr; · iempintro
    iexact H
  hexit c := by
    unfold due Pipeline.Dat.owesAt Pipeline.owesWithin
    rw [howed]
    iintro ⟨Ha, ⟨%W, %hW, HO⟩, -, -⟩
    imodintro
    isplitl [Ha]; · iexact Ha
    iexists W
    isplitr
    · ipureintro
      intro q hq
      rcases hW hq with h | ⟨w, s, h⟩
      · rw [hrec] at h; exact h
      · rw [h]; exact Nat.zero_le _
    iexact HO

/-- The ghost state of a pipeline's staging cells on a core. -/
abbrev ghost (p : Fin 3) (c : Dev nD) : sProp 𝕄 :=
  iprop(Pipeline.cellsGhost (Pipeline.pin (pcfgs (F := F)) adm) EP p c ∗ Pipeline.toksInit (Pipeline.pin (pcfgs (F := F)) adm) EP p c)

/-- The call of a pipeline, in the pipelines' own effects. -/
abbrev entryCall (p : Fin 3) : Prog (TpuEff nD τ sig (Elt F) (ΛP (F := F)) .tc) PUnit :=
  .op (.customCall (Pipeline.entry p) ()) fun _ => .ret ⟨⟩

theorem lift_entry (p : Fin 3) :
    (Prog.lift (.customCall (SparseCore.inner (Pipeline.entry p)) ()) : Prog (TpuEff nD τ sig (Elt F) (SparseCore.Sig (ΛP (F := F)) 2) .tc) PUnit)
      = SparseCore.liftProg (entryCall (F := F) p) := rfl

/-- A pallas_call in @main. -/
theorem seg_run [∀ e, Nonempty (Elt F e)] {p : Fin 3} {n : ℕ}
    (R : Pipeline.RegionSeg (pcfgs (F := F)) adm (pdats m) (none : HIx 2) (defs₀ (F := F)) 𝒱₀ (K (F := F)).L (K (F := F)).lev p)
    (c : Dev nD) (A B : sProp 𝕄) (hpre : R.pre c = iprop(A ∗ due (F := F) c n))
    (hpost : R.post c = iprop(B ∗ due (F := F) c n))
    (Q : PUnit → sProp 𝕄) :
    iprop(levAts (K (F := F)).L (K (F := F)).lev ∗ boundary (T c) ∗ A ∗ (K (F := F)).tcSt EH c n ∗ ghost (F := F) p c
        ∗ ((boundary (T c) ∗ B ∗ (K (F := F)).tcSt EH c n) -∗ Q ⟨⟩))
      ⊢ wp frame (wpE ((K (F := F)).defs (D (F := F))) 𝒱 (T c) none) Set.univ (Prog.lift (.customCall (SparseCore.inner (Pipeline.entry p)) ())) Q := by
  have key := Pipeline.RegionSeg.wp (pcfgs (F := F)) adm (pdats m) (none : HIx 2) cellOf_inj EP (defs₀ (F := F)) 𝒱₀ (K (F := F)).L (K (F := F)).lev R c none
    (fun _ h => nomatch h) (fun _ => .ret ⟨⟩) Q
  rw [lift_entry]
  refine BIBase.Entails.trans ?_ ((K (F := F)).wp_liftProg (D (F := F)) 𝒱₀.lift (T c) Set.univ none (entryCall p) Q)
  refine BIBase.Entails.trans ?_ key
  rw [hpre, hpost]
  unfold SparseCore.Cfg.tcSt due
  iintro ⟨Hl, Hb, Ha, ⟨HO, Hrest⟩, ⟨Hg, Ht⟩, Hk⟩
  isplitl [Hk Hrest]
  · iintro ⟨Hb, Ha, HO⟩
    iapply (wp_done (defs := D (F := F)) 𝒱 (T c) none Set.univ)
    iapply Hk
    isplitl [Hb]; · iexact Hb
    isplitl [Ha]; · iexact Ha
    isplitl [HO]; · iexact HO
    iexact Hrest
  isplitl [Hb]; · iexact Hb
  isplitl [Ha HO]
  · isplitl [Ha]; · iexact Ha
    iexact HO
  isplitl [Hl]; · iexact Hl
  isplitl [Hg]; · iexact Hg
  iexact Ht

/-- The three. -/
def seg0 := seg m 0 0 winFacts0.to₀ block_pos0 stage_whole0 rfl (body0 m)
  (fun c t => by dsimp only [pdats, dat0]) (fun c t => by dsimp only [pdats, dat0]) (fun c t => by dsimp only [pdats, dat0]; rfl)
def seg2 := seg m 1 1 winFacts2.to₀ block_pos2 stage_whole2 rfl (body2 m)
  (fun c t => by dsimp only [pdats, dat2]) (fun c t => by dsimp only [pdats, dat2]) (fun c t => by dsimp only [pdats, dat2]; rfl)
def seg4 := seg m 2 2 winFacts4.to₀ block_pos4 stage_whole4 rfl (body4 m)
  (fun c t => by dsimp only [pdats, dat4]) (fun c t => by dsimp only [pdats, dat4]) (fun c t => by dsimp only [pdats, dat4]; rfl)

/-- A TensorCore buffer, whole, at contents. -/
abbrev pt (c : Dev nD) (b : Ref sig .tc) (f : Buf (Elt F) ((T c : Thread nD τ).loc b)) : sProp 𝕄 := (T c : Thread nD τ).loc b ↦{fullShare} f

/-- The argmax over the first four images. -/
theorem run0 [∀ e, Nonempty (Elt F e)] (c : Dev nD) (Q : PUnit → sProp 𝕄) :
    iprop(levAts (K (F := F)).L (K (F := F)).lev ∗ boundary (T c) ∗ (pt c main_arg1 (tgt m c) ∗ pt c main_arg0 (outp m c) ∗ pt c main_v16 (m ((T c : Thread nD τ).loc main_v16))) ∗ (K (F := F)).tcSt EH c 0 ∗ ghost (F := F) 0 c
        ∗ ((boundary (T c) ∗ (pt c main_arg1 (tgt m c) ∗ pt c main_arg0 (outp m c) ∗ pt c main_v16 (X m 0 c)) ∗ (K (F := F)).tcSt EH c 0) -∗ Q ⟨⟩))
      ⊢ wp frame (wpE ((K (F := F)).defs (D (F := F))) 𝒱 (T c) none) Set.univ (Prog.lift (.customCall (SparseCore.inner (Pipeline.entry 0)) ())) Q := by
  have h := seg_run m (n := 0) (seg0 m) c _ _ rfl rfl Q
  have e : ∀ G, (pdats m 0 c).arrays G = iprop(pt c main_arg1 (G 0) ∗ pt c main_arg0 (G 1) ∗ pt c main_v16 (G 2)) := fun G =>
    (Pipeline.arrays_eq (Pipeline.pin (pcfgs (F := F)) adm) (pdats m) 0 c arr_whole0 ((pdats m 0 c).share_full fun _ => rfl) G).trans (bigSep_W0 _)
  rw [e, e] at h
  rw [show (pdats m 0 c).arrAt 2 (Pipeline.pin (pcfgs (F := F)) adm 0).N = X m 0 c from final0 m c,
    show (pdats m 0 c).arrAt 0 (Pipeline.pin (pcfgs (F := F)) adm 0).N = tgt m c from (pdats m 0 c).arrAt_in 0 rfl _,
    show (pdats m 0 c).arrAt 1 (Pipeline.pin (pcfgs (F := F)) adm 0).N = outp m c from (pdats m 0 c).arrAt_in 1 rfl _] at h
  exact h

/-- The argmax over the last four images. -/
theorem run2 [∀ e, Nonempty (Elt F e)] (c : Dev nD) (Q : PUnit → sProp 𝕄) :
    iprop(levAts (K (F := F)).L (K (F := F)).lev ∗ boundary (T c) ∗ (pt c main_arg1 (tgt m c) ∗ pt c main_arg0 (outp m c) ∗ pt c main_v18 (m ((T c : Thread nD τ).loc main_v18))) ∗ (K (F := F)).tcSt EH c 1 ∗ ghost (F := F) 1 c
        ∗ ((boundary (T c) ∗ (pt c main_arg1 (tgt m c) ∗ pt c main_arg0 (outp m c) ∗ pt c main_v18 (X m 1 c)) ∗ (K (F := F)).tcSt EH c 1) -∗ Q ⟨⟩))
      ⊢ wp frame (wpE ((K (F := F)).defs (D (F := F))) 𝒱 (T c) none) Set.univ (Prog.lift (.customCall (SparseCore.inner (Pipeline.entry 1)) ())) Q := by
  have h := seg_run m (n := 1) (seg2 m) c _ _ rfl rfl Q
  have e : ∀ G, (pdats m 1 c).arrays G = iprop(pt c main_arg1 (G 0) ∗ pt c main_arg0 (G 1) ∗ pt c main_v18 (G 2)) := fun G =>
    (Pipeline.arrays_eq (Pipeline.pin (pcfgs (F := F)) adm) (pdats m) 1 c arr_whole2 ((pdats m 1 c).share_full fun _ => rfl) G).trans (bigSep_W2 _)
  rw [e, e] at h
  rw [show (pdats m 1 c).arrAt 2 (Pipeline.pin (pcfgs (F := F)) adm 1).N = X m 1 c from final2 m c,
    show (pdats m 1 c).arrAt 0 (Pipeline.pin (pcfgs (F := F)) adm 1).N = tgt m c from (pdats m 1 c).arrAt_in 0 rfl _,
    show (pdats m 1 c).arrAt 1 (Pipeline.pin (pcfgs (F := F)) adm 1).N = outp m c from (pdats m 1 c).arrAt_in 1 rfl _] at h
  exact h

set_option maxHeartbeats 2000000 in
/-- The epilogue. -/
theorem run4 [∀ e, Nonempty (Elt F e)] (c : Dev nD) (Q : PUnit → sProp 𝕄) :
    iprop(levAts (K (F := F)).L (K (F := F)).lev ∗ boundary (T c) ∗ (pt c main_v17 (counts m 0 c) ∗ pt c main_v19 (counts m 1 c) ∗ pt c main_v8 (mrow (F := F)) ∗ pt c main_v11 (mcol (F := F)) ∗ pt c main_v15 (mdiag (F := F)) ∗ pt c main_v20 (m ((T c : Thread nD τ).loc main_v20))) ∗ (K (F := F)).tcSt EH c 2 ∗ ghost (F := F) 2 c
        ∗ ((boundary (T c) ∗ (pt c main_v17 (counts m 0 c) ∗ pt c main_v19 (counts m 1 c) ∗ pt c main_v8 (mrow (F := F)) ∗ pt c main_v11 (mcol (F := F)) ∗ pt c main_v15 (mdiag (F := F)) ∗ pt c main_v20 (loss m c)) ∗ (K (F := F)).tcSt EH c 2) -∗ Q ⟨⟩))
      ⊢ wp frame (wpE ((K (F := F)).defs (D (F := F))) 𝒱 (T c) none) Set.univ (Prog.lift (.customCall (SparseCore.inner (Pipeline.entry 2)) ())) Q := by
  have h := seg_run m (n := 2) (seg4 m) c _ _ rfl rfl Q
  have e : ∀ G, (pdats m 2 c).arrays G = iprop(pt c main_v17 (G 0) ∗ pt c main_v19 (G 1) ∗ pt c main_v8 (G 2) ∗ pt c main_v11 (G 3) ∗ pt c main_v15 (G 4) ∗ pt c main_v20 (G 5)) := fun G =>
    (Pipeline.arrays_eq (Pipeline.pin (pcfgs (F := F)) adm) (pdats m) 2 c arr_whole4 ((pdats m 2 c).share_full fun _ => rfl) G).trans (bigSep_W4 _)
  rw [e, e] at h
  rw [show (pdats m 2 c).arrAt 5 (Pipeline.pin (pcfgs (F := F)) adm 2).N = loss m c from final4 m c,
    show (pdats m 2 c).arrAt 0 (Pipeline.pin (pcfgs (F := F)) adm 2).N = counts m 0 c from (pdats m 2 c).arrAt_in 0 rfl _,
    show (pdats m 2 c).arrAt 1 (Pipeline.pin (pcfgs (F := F)) adm 2).N = counts m 1 c from (pdats m 2 c).arrAt_in 1 rfl _,
    show (pdats m 2 c).arrAt 2 (Pipeline.pin (pcfgs (F := F)) adm 2).N = mrow from (pdats m 2 c).arrAt_in 2 rfl _,
    show (pdats m 2 c).arrAt 3 (Pipeline.pin (pcfgs (F := F)) adm 2).N = mcol from (pdats m 2 c).arrAt_in 3 rfl _,
    show (pdats m 2 c).arrAt 4 (Pipeline.pin (pcfgs (F := F)) adm 2).N = mdiag from (pdats m 2 c).arrAt_in 4 rfl _] at h
  exact h

end Cert.Proof.Segs
-- ==== Proof.Hlo.lean ====
/-
  @main's own host operations: the line that makes the three masks, and the last reshape, on whole buffers.
-/
module

public import proofs.«01_k».proof.Proof.Segs
public import Idealize.ShloMosaic.Lib.StableHlo.RunHlo

@[expose] public section

set_option maxRecDepth 16000

noncomputable section

namespace Cert.Proof.Hlo

open Cert.KernelIdeal Cert.KernelIdeal.Gen Cert.Proof.Memory Cert.Proof.Setup Cert.Proof.Values Cert.Proof.Segs
open Idealize.ShloMosaic Idealize.ShloMosaic.TcCoe
open Idealize.ShloMosaic.SparseCore (S V T)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

/-- The operations that make the masks, in order. -/
def maskOps : List (HloOp τ sig (Elt F)) :=
  [StableHlo.nullary main_c (constantI S19x5904 32 369#32), StableHlo.nullary main_c_0 (constantI S19x5904 32 19#32),
   StableHlo.nullary main_c_1 (constantI S19x5904 32 19#32), StableHlo.nullary main_c_2 (constantI S19x5904 32 361#32),
   StableHlo.nullary main_c_3 (constantI S19x5904 32 20#32), StableHlo.nullary main_v0 (iotaInDim S19x5904 32 1),
   StableHlo.binary main_v0 main_c main_v1 Host.remsi, StableHlo.binary main_v1 main_c_0 main_v2 Host.divsi,
   StableHlo.binary main_v1 main_c_1 main_v3 Host.remsi, StableHlo.binary main_v1 main_c_2 main_v4 (cmpi .slt),
   StableHlo.nullary main_v5 (iotaInDim S19x5904 32 0),
   StableHlo.binary main_v2 main_v5 main_v6 (cmpi .eq), StableHlo.binary main_v6 main_v4 main_v7 andi, StableHlo.unary main_v7 main_v8 (uitofp .f32),
   StableHlo.binary main_v3 main_v5 main_v9 (cmpi .eq), StableHlo.binary main_v9 main_v4 main_v10 andi, StableHlo.unary main_v10 main_v11 (uitofp .f32),
   StableHlo.binary main_c_3 main_v5 main_v12 muli, StableHlo.binary main_v1 main_v12 main_v13 (cmpi .eq), StableHlo.binary main_v13 main_v4 main_v14 andi,
   StableHlo.unary main_v14 main_v15 (uitofp .f32)]

/-- The masks and the buffers their making uses. -/
def maskRefs : Finset (Ref sig .tc) :=
  {main_v8, main_v11, main_v15, main_c, main_c_0, main_c_1, main_c_2, main_c_3, main_v0, main_v1, main_v2, main_v3, main_v4, main_v5, main_v6, main_v7, main_v9, main_v10, main_v12, main_v13, main_v14}

/-- The same as a device's buffers. -/
def maskSet : Finset (DevRef τ sig) := maskRefs.map ⟨Proc.devRef .tc, Proc.devRef_injective .tc⟩

theorem mask_bufs : ∀ op ∈ (maskOps : List (HloOp τ sig (Elt F))), op.bufs ⊆ maskSet := by
  have one : ∀ b, b ∈ maskRefs → Proc.devRef .tc b ∈ (maskSet : Finset (DevRef τ sig)) := fun b hb => Finset.mem_map_of_mem _ hb
  intro _ h
  (repeat (cases h with
    | head =>
      first
      | exact Finset.singleton_subset_iff.mpr (one _ (by decide))
      | exact Finset.insert_subset (one _ (by decide)) (Finset.singleton_subset_iff.mpr (one _ (by decide)))
      | exact Finset.insert_subset (one _ (by decide)) (Finset.insert_subset (one _ (by decide)) (Finset.singleton_subset_iff.mpr (one _ (by decide))))
    | tail _ h => ?_)); exact nomatch h

theorem mask_fresh : ∀ op ∈ (maskOps : List (HloOp τ sig (Elt F))), op.fresh = ∅ := by
  intro _ h
  (repeat (cases h with | head => rfl | tail _ h => ?_)); exact nomatch h

/-- After the line the three masks are in their buffers. -/
theorem after_v8 (V : Valuation τ sig (Elt F)) : StableHlo.after maskOps V (Proc.devRef .tc main_v8) = (mrow : S19x5904.Idx → Elt F .f32) := by
  simp only [maskOps]; after_results_simp; rfl
theorem after_v11 (V : Valuation τ sig (Elt F)) : StableHlo.after maskOps V (Proc.devRef .tc main_v11) = (mcol : S19x5904.Idx → Elt F .f32) := by
  simp only [maskOps]; after_results_simp; rfl
theorem after_v15 (V : Valuation τ sig (Elt F)) : StableHlo.after maskOps V (Proc.devRef .tc main_v15) = (mdiag : S19x5904.Idx → Elt F .f32) := by
  simp only [maskOps]; after_results_simp; rfl

/-- The masks' buffers, held one by one over the table of TensorCore references. -/
theorem held_mask (c : Dev nD) (V : Valuation τ sig (Elt F)) :
    (StableHlo.held (T c) maskSet V : sProp 𝕄) = bigSep maskRefs fun b => pt c b (V (Proc.devRef .tc b)) := by
  unfold StableHlo.held maskSet; rw [bigSep_map]; rfl

/-- The masks are made. -/
theorem masks_run (c : Dev nD) {β : Type} (k : PUnit → Prog (TpuEff nD τ sig (Elt F) (SparseCore.Sig (Pipeline.Sig Λ₀ (Fin 3) fun p => (pcfgs (F := F) p).Adm) 2) .tc) β)
    (Q : β → sProp 𝕄) :
    iprop(boundary (T c) ∗ (bigSep maskRefs fun b => pt c b (m ((T c : Thread nD τ).loc b)))
        ∗ ((boundary (T c) ∗ pt c main_v8 (mrow (F := F)) ∗ pt c main_v11 (mcol (F := F)) ∗ pt c main_v15 (mdiag (F := F)))
          -∗ wp frame (wpE ((K (F := F)).defs (D (F := F))) 𝒱 (T c) none) Set.univ (k ⟨⟩) Q))
      ⊢ wp frame (wpE ((K (F := F)).defs (D (F := F))) 𝒱 (T c) none) Set.univ (StableHlo.seq maskOps >>= k) Q := by
  have h := StableHlo.wp_seq (defs := (K (F := F)).defs (D (F := F))) 𝒱 none Set.univ c maskSet k (K := Q) maskOps mask_bufs mask_fresh (fun b => m (c, b))
  rw [show (StableHlo.held (c.tc : Thread nD τ) maskSet (fun b => m (c, b)) : sProp 𝕄) = _ from held_mask c _,
    show (StableHlo.held (c.tc : Thread nD τ) maskSet (StableHlo.after maskOps fun b => m (c, b)) : sProp 𝕄) = _ from held_mask c _] at h
  iintro ⟨Hb, Hm, Hk⟩
  iapply h $$ [Hb Hm]
  · isplitl [Hb]; · iexact Hb
    iexact Hm
  rw [show (bigSep maskRefs fun b => pt c b (StableHlo.after maskOps (fun b => m (c, b)) (Proc.devRef .tc b)) : sProp 𝕄)
    = iprop(pt c main_v8 (mrow (F := F)) ∗ pt c main_v11 (mcol (F := F)) ∗ pt c main_v15 (mdiag (F := F)) ∗ bigSep (maskRefs \ {main_v8, main_v11, main_v15}) fun b => pt c b (StableHlo.after maskOps (fun b => m (c, b)) (Proc.devRef .tc b))) by
      conv_lhs => rw [show maskRefs = insert main_v8 (insert main_v11 (insert main_v15 (maskRefs \ {main_v8, main_v11, main_v15}))) by decide]
      rw [SparseCore.bigSep_insert' (by decide), SparseCore.bigSep_insert' (by decide), SparseCore.bigSep_insert' (by decide), after_v8, after_v11, after_v15]]
  iintro ⟨Hb, H8, H11, H15, -⟩
  iapply Hk
  isplitl [Hb]; · iexact Hb
  isplitl [H8]; · iexact H8
  isplitl [H11]; · iexact H11
  iexact H15

/-- The loss as a scalar: what @main returns. -/
def res (c : Dev nD) : S_.Idx → Elt F .f32 := shapeCast S_ (loss m c) rfl

/-- The epilogue's result, reshaped, is written to @main's. -/
theorem reshape_run (c : Dev nD) (hx : main_v20.space ≠ .host ∧ (main_v20 : DevRef τ sig).isScoped = false) (hy : main_v21.space ≠ .host ∧ (main_v21 : DevRef τ sig).isScoped = false)
    (hn : main_v20.ty.shape.ShapeCasts main_v21.ty.shape)
    (Q : PUnit → sProp 𝕄) :
    iprop(boundary (T c) ∗ pt c main_v20 (loss m c) ∗ pt c main_v21 (m ((T c : Thread nD τ).loc main_v21)) ∗ ((boundary (T c) ∗ pt c main_v21 (res m c)) -∗ Q ⟨⟩))
      ⊢ wp frame (wpE ((K (F := F)).defs (D (F := F))) 𝒱 (T c) none) Set.univ (hlo rfl (StableHlo.reshape main_v20 main_v21 rfl hn hx hy) fun _ => .ret ⟨⟩) Q := by
  have hne : (main_v20 : DevRef τ sig) ≠ (main_v21 : DevRef τ sig) := by decide
  have hb : ∀ Φ : DevRef τ sig → sProp 𝕄, bigSep (StableHlo.reshape main_v20 main_v21 rfl hn hx hy : HloOp τ sig (Elt F)).bufs Φ
      = iprop(Φ (main_v20 : DevRef τ sig) ∗ Φ (main_v21 : DevRef τ sig)) := fun Φ =>
    (SparseCore.bigSep_insert' (by rw [Finset.mem_singleton]; exact hne)).trans (congrArg (fun A => iprop(Φ (main_v20 : DevRef τ sig) ∗ A)) bigSep_singleton)
  have h := wp_hlo 𝒱 (T c) none Set.univ (Γ := .empty) (defs := (K (F := F)).defs (D (F := F))) (hp := rfl) (k := fun _ => .ret ⟨⟩) (Q := Q)
    (op := StableHlo.reshape main_v20 main_v21 rfl hn hx hy) (q := fun _ => fullShare)
    (F := Function.update (fun b => m (c, b)) (main_v20 : DevRef τ sig) (loss m c)) (fun _ _ => rfl) rfl
  rw [hb, hb, StableHlo.reshape_result, Function.update_self, Function.update_of_ne hne.symm] at h
  iintro ⟨Hb, Hx, Hy, Hk⟩
  iapply h $$ [Hb Hx Hy]
  · isplitl [Hb]; · iexact Hb
    isplitl [Hx]; · iexact Hx
    iexact Hy
  iintro ⟨Hb, -, Hy⟩
  iapply (wp_done (defs := (K (F := F)).defs (D (F := F))) 𝒱 (T c) none Set.univ)
  iapply Hk
  isplitl [Hb]; · iexact Hb
  iexact Hy

end Cert.Proof.Hlo
-- ==== Proof.Main.lean ====
/-
  The kernel's run: @main on a TensorCore, and the whole program's final memory.
-/
module

public import proofs.«01_k».proof.Proof.Hlo
public import proofs.«01_k».proof.Proof.Calls

@[expose] public section

noncomputable section

namespace Cert.Proof.Main

open Cert.KernelIdeal Cert.KernelIdeal.Gen Cert.Proof.Memory Cert.Proof.Setup Cert.Proof.Values Cert.Proof.Regions Cert.Proof.Segs Cert.Proof.Hlo Cert.Proof.Calls Cert.Proof.Pieces Cert.Proof.Tile
open Idealize.ShloMosaic Idealize.ShloMosaic.TcCoe Idealize.ShloMosaic.Rounds
open Idealize.ShloMosaic.SparseCore (S V T)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ) (ρ : Dev nD → PrngReg)

/-- @main's buffers: the arguments, the masks with what makes them, the calls' results. -/
theorem unscopedBufs_eq (d : Dev nD) (W : (b : Ref sig .tc) → Buf (Elt F) ((d.tc : Thread nD τ).loc b)) :
    (unscopedBufs d W : sProp 𝕄) = iprop(pt d main_arg0 (W main_arg0) ∗ pt d main_arg1 (W main_arg1)
      ∗ pt d main_v16 (W main_v16) ∗ pt d main_v17 (W main_v17) ∗ pt d main_v18 (W main_v18) ∗ pt d main_v19 (W main_v19) ∗ pt d main_v20 (W main_v20) ∗ pt d main_v21 (W main_v21)
      ∗ bigSep maskRefs fun b => pt d b (W b)) := by
  unfold unscopedBufs
  rw [show (Finset.univ.filter fun b : Ref sig .tc => ¬ b.isScoped)
      = insert main_arg0 (insert main_arg1 (insert main_v16 (insert main_v17 (insert main_v18 (insert main_v19 (insert main_v20 (insert main_v21 maskRefs))))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide)]

/-- @main after the masks: the kernels and the reshape of the loss. -/
def rest (d : Dev nD) : Prog (TpuEff nD τ sig (Elt F) (SparseCore.Sig (Pipeline.Sig Λ₀ (Fin 3) fun p => (pcfgs (F := F) p).Adm) 2) .tc) PUnit := do
  Prog.lift (.customCall (SparseCore.inner (Pipeline.entry 0)) ())
  sc.run d 0
  Prog.lift (.customCall (SparseCore.inner (Pipeline.entry 1)) ())
  sc.run d 1
  Prog.lift (.customCall (SparseCore.inner (Pipeline.entry 2)) ())
  hlo rfl (StableHlo.reshape main_v20 main_v21 (rfl : (.f32 : EltTy) = .f32) shapeCasts_S1x1_S_) (fun _ => .ret ⟨⟩)
  pure ⟨⟩

theorem main_split (d : Dev nD) : main (F := F) d = StableHlo.seq maskOps >>= fun _ => rest d := rfl

/-- The two SparseCore calls' payloads at the pair indices. -/
abbrev PX : (K (F := F)).Pay (nD := nD) (Val := Elt F) (Name := ℕ) (U := UU) := P (X m)

/-- What @main leaves its two arguments and its result at. -/
abbrev FIN (d : Dev nD) : sProp 𝕄 := iprop(pt d main_arg0 (outp m d) ∗ pt d main_arg1 (tgt m d) ∗ pt d main_v21 (res m d))

/-- A SparseCore call in @main. -/
theorem call_run [∀ e, Nonempty (Elt F e)] (κ : GSem nD τ sig → ℕ) (d : Dev nD) (q : Fin 2) (Y : S32x5904.Idx → Elt F .f32) (Q : PUnit → sProp 𝕄) :
    iprop((K (F := F)).ctx EH (PX m) κ ∗ (K (F := F)).tcSt EH d q.val
        ∗ (owns (thr d (co p₀)) (srcA q) fullShare (X m q d : S4x512x512.Idx → Elt F .i32) ∗ owns (thr d (co p₀)) (dstA q) fullShare Y)
        ∗ (((K (F := F)).tcSt EH d (q.val + 1) ∗ owns (thr d (co p₀)) (srcA q) fullShare (X m q d : S4x512x512.Idx → Elt F .i32) ∗ owns (thr d (co p₀)) (dstA q) fullShare (counts m q d)) -∗ Q ⟨⟩))
      ⊢ wp frame (wpE ((K (F := F)).defs (D (F := F))) 𝒱 (T d) none) Set.univ ((K (F := F)).run d q) Q := by
  iintro ⟨#Hctx, Hst, Hin, Hk⟩
  iapply ((K (F := F)).wp_run (D (F := F)) 𝒱 (EH := EH) (P := PX m) κ d q)
  isplitr; · iexact Hctx
  isplitl [Hst]; · iexact Hst
  isplitl [Hin]; · iapply (st_intro (X m) d q Y); iexact Hin
  iintro ⟨Hst, Hdn⟩
  iapply Hk
  isplitl [Hst]; · iexact Hst
  iapply (dn_elim (X m) d q); iexact Hdn

/-- The first call, over @main's buffers; -/
theorem call0 [∀ e, Nonempty (Elt F e)] (κ : GSem nD τ sig → ℕ) (d : Dev nD) (Q : PUnit → sProp 𝕄) :
    iprop((K (F := F)).ctx EH (PX m) κ ∗ (K (F := F)).tcSt EH d 0 ∗ (pt d main_v16 (X m 0 d) ∗ pt d main_v17 (m ((T d : Thread nD τ).loc main_v17)))
        ∗ (((K (F := F)).tcSt EH d 1 ∗ pt d main_v16 (X m 0 d) ∗ pt d main_v17 (counts m 0 d)) -∗ Q ⟨⟩))
      ⊢ wp frame (wpE ((K (F := F)).defs (D (F := F))) 𝒱 (T d) none) Set.univ ((K (F := F)).run d 0) Q := by
  have h := call_run m κ d 0 (m ((T d : Thread nD τ).loc main_v17)) Q
  rw [show srcA 0 = Memref.whole main_v16_scv from rfl, show dstA 0 = Memref.whole main_v17_scv from rfl, owns_whole, owns_whole, owns_whole] at h
  exact h

/-- and the second. -/
theorem call1 [∀ e, Nonempty (Elt F e)] (κ : GSem nD τ sig → ℕ) (d : Dev nD) (Q : PUnit → sProp 𝕄) :
    iprop((K (F := F)).ctx EH (PX m) κ ∗ (K (F := F)).tcSt EH d 1 ∗ (pt d main_v18 (X m 1 d) ∗ pt d main_v19 (m ((T d : Thread nD τ).loc main_v19)))
        ∗ (((K (F := F)).tcSt EH d 2 ∗ pt d main_v18 (X m 1 d) ∗ pt d main_v19 (counts m 1 d)) -∗ Q ⟨⟩))
      ⊢ wp frame (wpE ((K (F := F)).defs (D (F := F))) 𝒱 (T d) none) Set.univ ((K (F := F)).run d 1) Q := by
  have h := call_run m κ d 1 (m ((T d : Thread nD τ).loc main_v19)) Q
  rw [show srcA 1 = Memref.whole main_v18_scv from rfl, show dstA 1 = Memref.whole main_v19_scv from rfl, owns_whole, owns_whole, owns_whole] at h
  exact h

/-- The pipelines' ghost state on a core. -/
abbrev G (d : Dev nD) : sProp 𝕄 := iprop(ghost (F := F) 0 d ∗ ghost (F := F) 1 d ∗ ghost (F := F) 2 d)

/-- @main on a TensorCore. -/
theorem hmain [∀ e, Nonempty (Elt F e)] (κ : GSem nD τ sig → ℕ) (d : Dev nD) :
    iprop((K (F := F)).ctx EH (PX m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  rw [unscopedBufs_eq, main_split]
  iintro ⟨#Hctx, Hst, ⟨Hb, ⟨Ho, Ht, H0, H1, H2, H3, H4, H5, HM⟩, Hts, -⟩, ⟨G0, G1, G2⟩⟩
  iapply (masks_run m d)
  isplitl [Hb]; · iexact Hb
  isplitl [HM]; · iexact HM
  iintro ⟨Hb, Hr, Hc, Hd⟩
  simp only [rest, wp_bind, wp_pure]
  iapply (run0 m d)
  isplitr; · iapply ((K (F := F)).ctx_levAts (EH := EH) (P := PX m) κ); iexact Hctx
  isplitl [Hb]; · iexact Hb
  isplitl [Ho Ht H0]
  · isplitl [Ht]; · iexact Ht
    isplitl [Ho]; · iexact Ho
    iexact H0
  isplitl [Hst]; · iexact Hst
  isplitl [G0]; · iexact G0
  iintro ⟨Hb, ⟨Ht, Ho, H0⟩, Hst⟩
  iapply (call0 m κ d)
  isplitr; · iexact Hctx
  isplitl [Hst]; · iexact Hst
  isplitl [H0 H1]
  · isplitl [H0]; · iexact H0
    iexact H1
  iintro ⟨Hst, -, H1⟩
  iapply (run2 m d)
  isplitr; · iapply ((K (F := F)).ctx_levAts (EH := EH) (P := PX m) κ); iexact Hctx
  isplitl [Hb]; · iexact Hb
  isplitl [Ho Ht H2]
  · isplitl [Ht]; · iexact Ht
    isplitl [Ho]; · iexact Ho
    iexact H2
  isplitl [Hst]; · iexact Hst
  isplitl [G1]; · iexact G1
  iintro ⟨Hb, ⟨Ht, Ho, H2⟩, Hst⟩
  iapply (call1 m κ d)
  isplitr; · iexact Hctx
  isplitl [Hst]; · iexact Hst
  isplitl [H2 H3]
  · isplitl [H2]; · iexact H2
    iexact H3
  iintro ⟨Hst, -, H3⟩
  iapply (run4 m d)
  isplitr; · iapply ((K (F := F)).ctx_levAts (EH := EH) (P := PX m) κ); iexact Hctx
  isplitl [Hb]; · iexact Hb
  isplitl [H1 H3 Hr Hc Hd H4]
  · isplitl [H1]; · iexact H1
    isplitl [H3]; · iexact H3
    isplitl [Hr]; · iexact Hr
    isplitl [Hc]; · iexact Hc
    isplitl [Hd]; · iexact Hd
    iexact H4
  isplitl [Hst]; · iexact Hst
  isplitl [G2]; · iexact G2
  iintro ⟨Hb, ⟨-, -, -, -, -, H4⟩, Hst⟩
  iapply (reshape_run m d)
  isplitl [Hb]; · iexact Hb
  isplitl [H4]; · iexact H4
  isplitl [H5]; · iexact H5
  iintro ⟨Hb, H5⟩
  imodintro
  isplitl [Hst]; · iexact Hst
  isplitr [Hb Hts]
  · isplitl [Ho]; · iexact Ho
    isplitl [Ht]; · iexact Ht
    iexact H5
  isplitl [Hb] <;> iassumption

/-- The launch's ghost state: the handshakes' rounds, and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PX m).x q thr) := by
  have hx : (bigSep Finset.univ fun thr : Thread nD τ => bigSep Finset.univ fun q : Fin 2 => (PX m).x q thr) = (iprop(emp) : sProp 𝕄) := by
    rw [show (fun thr : Thread nD τ => bigSep Finset.univ fun q : Fin 2 => (PX m).x q thr) = fun _ => iprop(emp) from funext fun thr => bigSep_emp_const _]
    exact bigSep_emp_const _
  have hG : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
      ⊢ (bigSep Finset.univ fun d : Dev nD => G (F := F) d : sProp 𝕄) := by
    rw [← bigSep_sep']
    refine BI.bigSep_mono fun d _ => ?_
    rw [← bigSep_sep', bigSep_univ_eq_bigSepL [0, 1, 2] (by decide) (by decide)]
    exact fun _ h => h
  unfold u₀
  iintro Hu
  ihave H := (ownU_split _ _) $$ Hu
  icases H with ⟨HH, HP⟩
  imod (Pipeline.fund_ghost (cfgs := Pipeline.pin (pcfgs (F := F)) adm) EP cellOf_inj) $$ HP with HP
  imodintro
  isplitl [HH]; · iexact HH
  isplitl [HP]; · iapply hG; iexact HP
  rw [hx]; iempintro

/-- What the launch's end says of the memory. -/
def fq (d : Dev nD) (s' : Phys nD τ sig (Elt F)) : Prop :=
  s'.mem.mem ((T d : Thread nD τ).loc main_arg0) = outp m d ∧ s'.mem.mem ((T d : Thread nD τ).loc main_arg1) = tgt m d ∧ s'.mem.mem ((T d : Thread nD τ).loc main_v21) = res m d

/-- A buffer held whole is at the contents it is held at. -/
theorem agree (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H := (SI_pointsTo_agree (st := s') (ℓ := ℓ) (I := Finset.univ) (q := fullShare) (f := f)) $$ H
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨Ho, Ht, Hr⟩, HSI⟩
  ihave H := (persistent_entails_right (agree s' ((T d : Thread nD τ).loc main_arg0) (outp m d))) $$ [HSI Ho]
  · isplitl [HSI] <;> iassumption
  icases H with ⟨%h1, HSI, -⟩
  ihave H := (persistent_entails_right (agree s' ((T d : Thread nD τ).loc main_arg1) (tgt m d))) $$ [HSI Ht]
  · isplitl [HSI] <;> iassumption
  icases H with ⟨%h2, HSI, -⟩
  ihave H := (agree s' ((T d : Thread nD τ).loc main_v21) (res m d)) $$ [HSI Hr]
  · isplitl [HSI] <;> iassumption
  icases H with %h3
  ipureintro; exact ⟨h1, h2, h3⟩

/-- The program's run: its arguments kept, its result the loss, its counters zero. -/
def QC : PUnit × MemSt nD τ sig (Elt F) → Prop := fun r =>
  (∀ c : Dev nD, r.2.mem ((T c : Thread nD τ).loc main_arg0) = m ((T c : Thread nD τ).loc main_arg0) ∧ r.2.mem ((T c : Thread nD τ).loc main_arg1) = m ((T c : Thread nD τ).loc main_arg1)
    ∧ r.2.mem ((T c : Thread nD τ).loc main_v21) = res m c) ∧ r.2.sem = fun _ => 0

theorem run_main [∀ e, Nonempty (Elt F e)] (ht : ∀ c y, (tgt m c y).toNat < 19) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PX m) (A := ∅) facts v₀
    (fun q hq => match q with | 0 => nomatch hq | 1 => nomatch hq)
    (fun q _ => match q with | 0 => tileObl0 (X m) (X_lt m ht) | 1 => tileObl1 (X m) (X_lt m ht))
    (fun q _ => SparseCore.Cfg.VecSplit.of_plain (vecSplit (X m) q))
    m ρ main (fun d => G (F := F) d) (FIN m) (u₀ (F := F)) (sep_elim_left.trans (hu₀ m)) (hmain m ρ) (fq m) (hfin m) (QC m) (fun _ h hz => ⟨h, hz⟩)

end Cert.Proof.Main
-- ==== Proof.Same.lean ====
/-
  The kernel as printed and its idealisation are one text: their bodies, tables and @main are equal, at any floats.
-/
module

public import proofs.«01_k».proof.Proof.Gen.Kernel
public import proofs.«01_k».proof.Proof.Gen.KernelIdeal

@[expose] public section

noncomputable section

namespace Cert.Proof.Same

open Cert.KernelIdeal (Λ₀ τ nD)
open Idealize.ShloMosaic Idealize.SL.Sem

variable {F : FTy → Type} [FloatOps F]

/-- The kernels' bodies. -/
theorem cc0_eq : Cert.Kernel.cc0__argmax_body (F := F) = Cert.KernelIdeal.cc0__argmax_body := rfl
theorem cc1_eq : Cert.Kernel.cc1__bincount_wrapper (F := F) = Cert.KernelIdeal.cc1__bincount_wrapper := rfl
theorem cc4_eq : Cert.Kernel.cc4__epilogue_body (F := F) = Cert.KernelIdeal.cc4__epilogue_body := rfl

set_option maxHeartbeats 4000000

/-- The table of bodies, on a TensorCore, -/
theorem tc_eq (ℓ : Λ₀.Label) (a : Λ₀.Args ℓ) : Cert.Kernel.defs₀ (F := F) .tc ℓ a = Cert.KernelIdeal.defs₀ .tc ℓ a := by
  match ℓ, a with
  | 0, (t, s) => rfl
  | 1, _ => rfl
  | 2, (t, s) => rfl
  | 3, _ => rfl
  | 4, (t, s) => rfl

/-- on a SparseCore's scalar subcore, -/
theorem scalar_eq (c : Fin τ.nSC) (ℓ : Λ₀.Label) (a : Λ₀.Args ℓ) : Cert.Kernel.defs₀ (F := F) (.scScalar c) ℓ a = Cert.KernelIdeal.defs₀ (.scScalar c) ℓ a := by
  match ℓ, a with
  | 0, _ => rfl
  | 1, _ => rfl
  | 2, _ => rfl
  | 3, _ => rfl
  | 4, _ => rfl

/-- and on a vector subcore. -/
theorem vector_eq (c : Fin τ.nSC) (s : Fin τ.nSub) (ℓ : Λ₀.Label) (a : Λ₀.Args ℓ) : Cert.Kernel.defs₀ (F := F) (.scVector c s) ℓ a = Cert.KernelIdeal.defs₀ (.scVector c s) ℓ a := by
  match ℓ, a with
  | 0, _ => rfl
  | 1, _ => rfl
  | 2, _ => rfl
  | 3, _ => rfl
  | 4, _ => rfl

theorem defs₀_eq : Cert.Kernel.defs₀ (F := F) = Cert.KernelIdeal.defs₀ := by
  funext p ℓ a
  match p with
  | .tc => exact tc_eq ℓ a
  | .scScalar c => exact scalar_eq c ℓ a
  | .scVector c s => exact vector_eq c s ℓ a

theorem defs_eq : Cert.Kernel.defs (F := F) = Cert.KernelIdeal.defs :=
  congrArg (fun d => Cert.KernelIdeal.sc.defs (Pipeline.defs Cert.KernelIdeal.pcfgs d)) defs₀_eq

/-- @main. -/
theorem main_eq (d : Dev nD) : Cert.Kernel.main (F := F) d = Cert.KernelIdeal.main d := rfl

theorem threads_eq : Cert.Kernel.threads (F := F) = Cert.KernelIdeal.threads :=
  congrArg Cert.KernelIdeal.sc.threads (funext main_eq)

end Cert.Proof.Same
-- ==== Proof.Pre.lean ====
/-
  What the preconditions say: every label is below 19, and, for the value claim, every logit is finite too.
-/
module

public import proofs.«01_k».proof.Defs
public import proofs.«01_k».proof.Proof.Gen.Pre_drawn
public import proofs.«01_k».proof.Proof.Gen.Pre_labels
public import Idealize.ShloMosaic.Lib.ReduceAll
public import Idealize.ShloMosaic.Lib.Affine
public import Idealize.ShloMosaic.Lib.Pointwise.ElementwiseCore

@[expose] public section

noncomputable section

namespace Cert.Proof.Pre

open Idealize.ShloMosaic Idealize.SL.Sem Cert.Pre_drawn

variable {F : FTy → Type} [FloatOps F]

instance : Subsingleton S_.Idx := ⟨fun a b => funext fun i => i.elim0⟩

theorem and_one {c d : BitVec 1} (h : IntOp.andi c d = 1#1) : c = 1#1 ∧ d = 1#1 := by revert c d; decide

/-- A word at least 0 and below 19, as a signed number, is below 19. -/
theorem word_lt {v : BitVec 32} (h0 : IntOp.cmpi .sge v 0#32 = 1#1) (h1 : IntOp.cmpi .slt v 19#32 = 1#1) : v.toNat < 19 := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond, BitVec.toNat_ofNat, Nat.reducePow, Nat.reduceMod] at h0 h1
  omega

/-- The value claim's precondition, element by element. -/
theorem parts (o : FVec F S8x19x512x512 .f32) (t : IVec S8x512x512 32) (h : Cert.Pre_drawn.fn (F := F) o t = fun _ => 1#1) :
    (∀ i, FloatOps.cmpf .olt (FloatOps.hostAbsf (o i)) (FloatOps.ofBits (F := F) .f32 0x7F800000#32) = 1#1) ∧ ∀ y, (t y).toNat < 19 := by
  have e := congrFun h (Shape.Idx.first Facts.h_S_)
  unfold Cert.Pre_drawn.fn at e
  obtain ⟨e1, e2⟩ := and_one e
  obtain ⟨e2, e3⟩ := and_one e2
  exact ⟨fun i => Host.reduce_andi_all _ _ _ _ _ e1 i, fun y => word_lt (Host.reduce_andi_all _ _ _ _ _ e2 y) (Host.reduce_andi_all _ _ _ _ _ e3 y)⟩

/-- The frames' precondition, element by element. -/
theorem bounds (o : FVec F S8x19x512x512 .f32) (t : IVec S8x512x512 32) (h : Cert.Pre_labels.fn (F := F) o t = fun _ => 1#1) :
    ∀ y, (t y).toNat < 19 := by
  have e := congrFun h (Shape.Idx.first Facts.h_S_)
  unfold Cert.Pre_labels.fn at e
  obtain ⟨e1, e2⟩ := and_one e
  exact fun y => word_lt (Host.reduce_andi_all _ _ _ _ _ e1 y) (Host.reduce_andi_all _ _ _ _ _ e2 y)

end Cert.Proof.Pre
-- ==== Proof.Frames.lean ====
/-
  The kernel's frames, as printed and idealised: it runs, its arguments end unchanged, its counters at zero.
-/
module

public import proofs.«01_k».proof.Proof.Main
public import proofs.«01_k».proof.Proof.Same
public import proofs.«01_k».proof.Proof.Pre

@[expose] public section

noncomputable section

namespace Cert.Proof.Frames

open Idealize.ShloMosaic Idealize.SL.Sem

instance nonempty_ideal (e : EltTy) : Nonempty (Elt Ideal e) := by cases e <;> exact ⟨(0 : _)⟩

theorem ideal (m : (ℓ : Loc Cert.KernelIdeal.nD Cert.KernelIdeal.τ Cert.KernelIdeal.sig) → Buf (Elt Ideal) ℓ) (ρ : Dev Cert.KernelIdeal.nD → PrngReg)
    (ht : ∀ c y, (Values.tgt m c y).toNat < 19) :
    θ_run (Cert.KernelIdeal.defs (F := Ideal)) (Cert.KernelIdeal.threads (F := Ideal)) ⟨m, fun _ => 0, ρ⟩ (Main.QC m) :=
  Main.run_main m ρ ht

theorem frame_KernelIdeal : Cert.quiescent_KernelIdeal := fun m ρ h =>
  (θ_run _ _ _).mono (fun _ hr => ⟨fun c => ⟨(hr.1 c).1, (hr.1 c).2.1⟩, hr.2⟩) (ideal m ρ fun c => Pre.bounds _ _ (h c))

theorem frame_KernelIdeal_drawn : Cert.quiescent_KernelIdeal_pre_drawn := fun m ρ h =>
  (θ_run _ _ _).mono (fun _ hr => ⟨fun c => ⟨(hr.1 c).1, (hr.1 c).2.1⟩, hr.2⟩) (ideal m ρ fun c => (Pre.parts _ _ (h c)).2)

theorem frame_Kernel : Cert.quiescent_Kernel := fun m ρ h => by
  rw [Same.defs_eq, Same.threads_eq]
  exact (θ_run _ _ _).mono (fun _ hr => ⟨fun c => ⟨(hr.1 c).1, (hr.1 c).2.1⟩, hr.2⟩)
    (Main.run_main (F := Bits) m ρ fun c => Pre.bounds _ _ (h c))

end Cert.Proof.Frames
-- ==== Proof.RefRun.lean ====
/-
  The reference's run: its `main` is two straight lines of host operations, the calls' bodies in their places.
-/
module

public import proofs.«01_k».proof.Defs
public import proofs.«01_k».proof.Proof.Gen.ReferenceIdeal
public import Idealize.ShloMosaic.Lib.StableHlo.RunHlo
public import Idealize.ShloMosaic.Lib.Pipeline.Frame

@[expose] public section

set_option maxRecDepth 16000
set_option pp.maxSteps 2000

noncomputable section

namespace Cert.Proof.Ref

open Idealize.ShloMosaic Idealize.ShloMosaic.StableHlo Idealize.SL.Sem
open Cert.ReferenceIdeal

variable {F : FTy → Type} [FloatOps F] [Cert.ReferenceIdeal.Facts]

section Line

variable {nD : Nat} {τ : Topo} {sig : RefSig} {Val : EltTy → Type} {Λ : Labels}

/-- Two lines, one after the other. -/
theorem line_append {p : Prog (TpuEff nD τ sig Val Λ .tc) PUnit} {k : Prog (TpuEff nD τ sig Val Λ .tc) PUnit}
    {l₁ l₂ : List (HloOp τ sig Val)} (h₁ : IsSeq p l₁) (h₂ : IsSeq k l₂) : IsSeq (p >>= fun _ => k) (l₁ ++ l₂) := by
  unfold IsSeq at h₁ h₂ ⊢; rw [h₁, h₂, seq_append]

end Line

/-- The operations of the one-hot call, in order. -/
def oneHotOps : { l : List (HloOp τ sig (Elt F)) // IsSeq (fn_one_hot.body (F := F) (.of main_arg1) main_call0) l } :=
  by apply Subtype.mk; unfold fn_one_hot.body; hlo_seq

/-- The operations of an argmax call, in order. -/
def argmaxOps (x : TRef sig ⟨S8x19x512x512, .f32⟩) (φ : fn_argmax.Bufs) :
    { l : List (HloOp τ sig (Elt F)) // IsSeq (fn_argmax.body (F := F) x φ) l } :=
  by apply Subtype.mk; unfold fn_argmax.body; hlo_seq

/-- The operations of the clip call, in order. -/
def clipOps : { l : List (HloOp τ sig (Elt F)) // IsSeq (fn_clip.body (F := F) (.of main_v19) (.of main_c_3) main_call3) l } :=
  by apply Subtype.mk; unfold fn_clip.body; hlo_seq

set_option maxHeartbeats 4000000 in
/-- The operations of the first window, in order. -/
def ops0 : { l : List (HloOp τ sig (Elt F)) // ∀ d, IsSeq (main_part0 (F := F) d) l } :=
  by
    apply Subtype.mk
    intro d
    unfold main_part0
    apply line_append (oneHotOps (F := F)).2
    iterate 15 apply IsSeq.cons
    apply line_append (argmaxOps (F := F) _ _).2
    apply IsSeq.cons
    apply line_append (argmaxOps (F := F) _ _).2
    iterate 8 apply IsSeq.cons
    apply line_append (clipOps (F := F)).2
    repeat apply IsSeq.cons
    exact IsSeq.nil

set_option maxHeartbeats 4000000 in
/-- The operations of the second window, in order. -/
def ops1 : { l : List (HloOp τ sig (Elt F)) // ∀ d, IsSeq (main_part1 (F := F) d) l } :=
  by apply Subtype.mk; intro d; unfold main_part1; hlo_seq

theorem main_line (d : Dev nD) : IsSeq (main (F := F) d) (ops0.1 ++ ops1.1) := by
  unfold main
  exact line_append (ops0.2 d) (ops1.2 d)

/-- The operations touch TensorCore buffers only. -/
theorem line_bufs : (ops0.1 ++ ops1.1 : List (HloOp τ sig (Elt F))).Forall fun op => op.bufs ⊆ tcRefs τ sig := by
  simp [ops0, ops1, oneHotOps, argmaxOps, clipOps]

theorem line_fresh : ∀ op ∈ (ops0.1 ++ ops1.1 : List (HloOp τ sig (Elt F))), op.fresh = ∅ := by
  intro _ h
  simp only [ops0, ops1, oneHotOps, argmaxOps, clipOps, List.cons_append, List.nil_append] at h
  (repeat (cases h with | head => rfl | tail _ h => ?_)); exact nomatch h

theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after ops1.1 (after ops0.1 (launchContents m d)) (Proc.devRef .tc b) := by
  refine θ_run_mono (run_hlo _ _ main_line (by decide) (by decide) line_bufs line_fresh m ρ) ?_
  intro r h d b
  rw [h d b, after_append]

/-- The arguments end as they were. -/
theorem end_arg0 (V : Valuation τ sig (Elt F)) :
    after ops1.1 (after ops0.1 V) (Proc.devRef .tc main_arg0) = V (Proc.devRef .tc main_arg0) := by
  simp only [ops0, ops1, oneHotOps, argmaxOps, clipOps, List.cons_append, List.nil_append]
  after_results_simp

theorem end_arg1 (V : Valuation τ sig (Elt F)) :
    after ops1.1 (after ops0.1 V) (Proc.devRef .tc main_arg1) = V (Proc.devRef .tc main_arg1) := by
  simp only [ops0, ops1, oneHotOps, argmaxOps, clipOps, List.cons_append, List.nil_append]
  after_results_simp

/-- The reference runs; its arguments end unchanged, and it has no counter. -/
theorem ends (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  θ_run_mono (run m ρ) fun r h =>
    ⟨fun c => ⟨(h c main_arg0).trans (end_arg0 _), (h c main_arg1).trans (end_arg1 _)⟩,
      funext fun g => by rcases g with ⟨_, s | s⟩ <;> exact Fin.elim0 s⟩

theorem frame [Cert.Pre_drawn.Facts] : Cert.quiescent_ReferenceIdeal := fun m ρ _ => ends m ρ
theorem frame_drawn [Cert.Pre_drawn.Facts] : Cert.quiescent_ReferenceIdeal_pre_drawn := fun m ρ _ => ends m ρ

end Cert.Proof.Ref
-- ==== Proof.Fold.lean ====
/-
  A fold of which each step adds one amount at one place: what it leaves at a place is what was there and the amount, as
  many times as steps fell on the place. The counts of pixels by their pair index (`num`).
-/
module

public import proofs.«01_k».proof.Proof.Argmax
public import Idealize.ShloMosaic.PureOps.Ideal.Laws
public import Mathlib.Data.BitVec

@[expose] public section

noncomputable section

namespace Cert.Proof.Fold

open Idealize.ShloMosaic Idealize.ShloMosaic.ValueIdx
open Cert.Proof.Argmax

/-- The fold's result at a place. -/
theorem foldl_count {ι κ M : Type} [AddCommMonoid M] [DecidableEq κ] (c : M) (g : ι → κ) (step : (κ → M) → ι → κ → M)
    (h1 : ∀ r n, step r n (g n) = r (g n) + c) (h2 : ∀ r n i, g n ≠ i → step r n i = r i) (l : List ι) (x : κ → M) (i : κ) :
    l.foldl step x i = x i + ((l.map fun n => if g n = i then 1 else 0).sum : ℕ) • c := by
  induction l generalizing x with
  | nil => simp
  | cons n l ih =>
    rw [List.foldl_cons, ih, List.map_cons, List.sum_cons, add_nsmul]
    by_cases h : g n = i
    · subst h
      rw [h1, if_pos rfl, one_nsmul, add_assoc]
    · rw [h2 _ _ _ h, if_neg h, zero_nsmul, zero_add]

/-- The fold over all of a finite range. -/
theorem foldl_count_fin {n : ℕ} {κ M : Type} [AddCommMonoid M] [DecidableEq κ] (c : M) (g : Fin n → κ) (step : (κ → M) → Fin n → κ → M)
    (h1 : ∀ r n, step r n (g n) = r (g n) + c) (h2 : ∀ r n i, g n ≠ i → step r n i = r i) (x : κ → M) (i : κ) :
    (List.finRange n).foldl step x i = x i + (∑ k : Fin n, if g k = i then 1 else 0 : ℕ) • c := by
  rw [foldl_count c g step h1 h2, Fin.sum_univ_def]

/-- The pixels of the batch. -/
abbrev Px : Shape := ⟨3, ![8, 512, 512]⟩
/-- The logits' shape. -/
abbrev Lg : Shape := ⟨4, ![8, 19, 512, 512]⟩

/-- A pixel's pair index: 19 times the label plus the class of the largest logit. -/
def pr (o : Lg.Idx → EReal) (t : Px.Idx → BitVec 32) : Px.Idx → BitVec 32 := fun y =>
  pix (F := Ideal) (t y) fun k => o (ix4 (y 0) (Fin.ofNat 19 k) (y 1) (y 2))

/-- How many pixels have an index with `P`. -/
def num (v : Px.Idx → BitVec 32) (P : ℕ → Prop) [DecidablePred P] : ℕ := ∑ y : Px.Idx, if P (v y).toNat then 1 else 0

theorem card_idx (s : Shape) : Fintype.card s.Idx = s.numel := by
  rw [Fintype.card_congr (Shape.rowMajor s), Fintype.card_fin]

theorem sum_le_card {ι : Type} [Fintype ι] (P : ι → Prop) [DecidablePred P] : (∑ y : ι, if P y then 1 else 0) ≤ Fintype.card ι := by
  rw [← Finset.card_filter]
  exact Finset.card_le_univ _

theorem sum_true {ι : Type} [Fintype ι] : (∑ _y : ι, if True then 1 else 0) = Fintype.card ι := by
  simp

/-- How many pixels there are. -/
theorem card_px : Fintype.card Px.Idx = 2097152 := by
  rw [card_idx, Shape.numel, Fin.prod_univ_three]
  rfl

theorem num_le (v : Px.Idx → BitVec 32) (P : ℕ → Prop) [DecidablePred P] : num v P ≤ 2097152 :=
  le_of_le_of_eq (sum_le_card fun y : Px.Idx => P (v y).toNat) card_px

/-- Every pixel counted. -/
theorem num_true (v : Px.Idx → BitVec 32) : num v (fun _ => True) = 2097152 :=
  Eq.trans (sum_true (ι := Px.Idx)) card_px

/-- Counts of disjoint classes add up. -/
theorem sum_num {n : ℕ} (v : Px.Idx → BitVec 32) (P : Fin n → ℕ → Prop) [∀ k, DecidablePred (P k)] (Q : ℕ → Prop) [DecidablePred Q]
    (h : ∀ y, (∑ k : Fin n, if P k (v y).toNat then 1 else 0) = if Q (v y).toNat then 1 else 0) :
    ∑ k : Fin n, num v (P k) = num v Q := by
  unfold num
  rw [Finset.sum_comm]
  exact Finset.sum_congr rfl fun y _ => h y

theorem arg_le (f : ℕ → EReal) (k : ℕ) : (arg (F := Ideal) f k).toNat ≤ k := by
  induction k with
  | zero => show (0#32).toNat ≤ 0; decide
  | succ k ih =>
    show (Scalar.select _ _ _ : BitVec 32).toNat ≤ k + 1
    unfold Scalar.select
    split
    · rw [BitVec.toNat_ofNat]; exact Nat.mod_le _ _
    · omega

theorem pr_lt (o : Lg.Idx → EReal) (t : Px.Idx → BitVec 32) (ht : ∀ y, (t y).toNat < 19) (y : Px.Idx) : (pr o t y).toNat < 361 := by
  have h1 := ht y
  unfold pr pix
  have h2 := arg_le (fun k => o (ix4 (y 0) (Fin.ofNat 19 k) (y 1) (y 2))) 18
  generalize arg (F := Ideal) (fun k => o (ix4 (y 0) (Fin.ofNat 19 k) (y 1) (y 2))) 18 = a at h2 ⊢
  rw [BitVec.toNat_add, BitVec.toNat_mul]
  have h3 : (19#32 : BitVec 32).toNat = 19 := rfl
  have h4 : (t y).toNat * 19 < 2 ^ 32 := by omega
  have h5 : (t y).toNat * 19 + a.toNat < 2 ^ 32 := by omega
  rw [h3, Nat.mod_eq_of_lt h4, Nat.mod_eq_of_lt h5]
  omega

end Cert.Proof.Fold
-- ==== Proof.Bins.lean ====
/-
  The tiles' histograms at extended reals: at each place the number of pixels counted there.
-/
module

public import proofs.«01_k».proof.Proof.Values
public import proofs.«01_k».proof.Proof.Fold
public import Idealize.ShloMosaic.Lib.IdealHost

@[expose] public section

noncomputable section

namespace Cert.Proof.Bins

open Cert.KernelIdeal Cert.KernelIdeal.Gen
open Idealize.ShloMosaic Idealize.ShloMosaic.ValueIdx
open Cert.Proof.Tile Cert.Proof.Pieces Cert.Proof.Fold

/-- A store that adds the same amount in every lane, at a place. -/
theorem store_same {n : ℕ} {s : Shape} (f : s.Idx → EReal) (idxs : Fin s.rank → IVec ⟨1, ![n]⟩ 32) (v : FVec Ideal ⟨1, ![n]⟩ .f32) (c : EReal)
    (hv : ∀ x, v x = c) (h : ∀ a x, (idxs a x).toNat < s.size a) (i : s.Idx) :
    storeIdx (F := Ideal) (e := .f32) f idxs v (fun _ => 1#1) true h i
      = f i + (∑ l : Fin n, if idxAt idxs h (Shape.ofLane (d := ![n]) l) = i then 1 else 0 : ℕ) • c := by
  unfold storeIdx
  refine foldl_count_fin c (fun l : Fin n => idxAt idxs h (Shape.ofLane (d := ![n]) l)) _ ?_ ?_ f i
  · intro g l
    simp only [if_true, hv]
    exact if_pos fun _ => rfl
  · intro g l i' hne
    simp only [if_true]
    exact if_neg fun e => hne (funext fun a => Fin.ext (e a).symm)

/-- A count, of places and of their one coordinate. -/
theorem count_coord {ι : Type} [Fintype ι] {n : ℕ} (f : ι → Shape.Idx ⟨1, ![n]⟩) (g : ι → ℕ) (h : ∀ l, (f l 0).val = g l) (i : Shape.Idx ⟨1, ![n]⟩) :
    (∑ l : ι, if f l = i then 1 else 0) = ∑ l : ι, if g l = (i 0).val then 1 else 0 :=
  Finset.sum_congr rfl fun l _ => if_congr ⟨fun e => by rw [← h, e], fun e => by
    funext a
    obtain rfl : a = 0 := Subsingleton.elim _ _
    exact Fin.ext ((h l).trans e)⟩ rfl rfl

/-- A store that adds ones, at a place. -/
theorem addOnes_apply (h : Hist Ideal) (v : IVec S16 32) (hv : k1_chk1 v) (i : S5904.Idx) :
    addOnes (F := Ideal) h v i = h i + ((∑ l : Fin 16, if (v (ix1 l)).toNat = (i 0).val then 1 else 0 : ℕ) : EReal) := by
  have eo : ∀ l : Fin 16, (Shape.ofLane (d := ![16]) l : S16.Idx) = ix1 l := fun l => by funext a; fin_cases a; rfl
  have e : addOnes (F := Ideal) h v = storeIdx (F := Ideal) (e := .f32) h ![v] (k1_pay67 (F := Ideal)) (fun _ => 1#1) true (k1_idx1_inb v hv) := by
    unfold addOnes
    exact dif_pos hv
  rw [e]
  refine (store_same (n := 16) (s := S5904) h ![v] (k1_pay67 (F := Ideal)) 1 (fun _ => Ideal.ofBits_one_f32) (k1_idx1_inb v hv) i).trans ?_
  rw [nsmul_one]
  refine congrArg (fun z : ℕ => h i + (z : EReal)) ?_
  exact count_coord _ (fun l : Fin 16 => (v (ix1 l)).toNat) (fun l => congrArg (fun x => (v x).toNat) (eo l)) i

/-- How many of a group's words fall at a place. -/
def hits (A : Slab) (k : Fin 4) (m n : ℕ) : ℕ := ∑ l : Fin 16, if 369 * l.val + (A (at2 (4 * (m % 16) + k.val) (16 * (m / 16) + l.val))).toNat = n then 1 else 0

theorem lanes_nat {A : Slab} (hA : InRange A) (r t : ℕ) (l : Fin 16) : (lanes A r t (ix1 l)).toNat = 369 * l.val + (A (at2 r (16 * t + l.val))).toNat := by
  have h := hA (at2 r (16 * t + l.val))
  have hb : (k1_pay68 (ix1 l)).toNat = 369 * l.val := by
    unfold k1_pay68
    show (BitVec.toNat (iota .scVector S16 32 [0] iota_S16_d0_w32_scVector (ix1 l) * 369#32)) = _
    rw [iota_single_apply .scVector S16 32 0 iota_S16_d0_w32_scVector (ix1 l), BitVec.toNat_mul, BitVec.toNat_ofNat]
    show l.val % 2 ^ 32 * 369 % 2 ^ 32 = _
    omega
  show (k1_pay68 (ix1 l) + A (at2 r (16 * t + l.val))).toNat = _
  rw [BitVec.toNat_add, hb]
  exact Nat.mod_eq_of_lt (by omega)

theorem hist_apply {A : Slab} (hA : InRange A) (k : Fin 4) (n : ℕ) (i : S5904.Idx) :
    hist (F := Ideal) A k n i = ((∑ m ∈ Finset.range n, hits A k m (i 0).val : ℕ) : EReal) := by
  induction n with
  | zero =>
    rw [Finset.sum_range_zero, Nat.cast_zero]
    exact Ideal.ofBits_zero_f32
  | succ n ih =>
    show addOnes (F := Ideal) (hist A k n) (lanes A (4 * (n % 16) + k.val) (n / 16)) i = _
    rw [addOnes_apply _ _ (chk_lanes hA _ _), ih, Finset.sum_range_succ, Nat.cast_add]
    refine congrArg (fun z : ℕ => ((∑ m ∈ Finset.range n, hits A k m (i 0).val : ℕ) : EReal) + (z : EReal)) ?_
    unfold hits
    exact Finset.sum_congr rfl fun l _ => by rw [lanes_nat hA]

/-- A tile's row of counts. -/
theorem tileRow_apply {A : Slab} (hA : InRange A) (i : S5904.Idx) :
    tileRow (F := Ideal) A i = ((∑ k : Fin 4, ∑ m : Fin 512, hits A k m.val (i 0).val : ℕ) : EReal) := by
  have h : tileRow (F := Ideal) A i = ((hist (F := Ideal) A 0 512 i + hist (F := Ideal) A 1 512 i) + hist (F := Ideal) A 2 512 i) + hist (F := Ideal) A 3 512 i := rfl
  rw [h, hist_apply hA, hist_apply hA, hist_apply hA, hist_apply hA, ← Nat.cast_add, ← Nat.cast_add, ← Nat.cast_add]
  refine congrArg Nat.cast ?_
  rw [Fin.sum_univ_four]
  simp only [Finset.sum_range]

/-- A slab's word is the index array's at the tile's image and rows. -/
theorem slab_at (X : S4x512x512.Idx → BitVec 32) (w : Fin 32) (r c : ℕ) (hr : r < 64) (hc : c < 512) :
    slab X (tileOf w) (at2 r c) = X (ix3 ⟨w.val / 8, by omega⟩ ⟨w.val % 8 * 64 + r, by omega⟩ ⟨c, hc⟩) := by
  obtain ⟨h0, h1, h2⟩ := off1_val (tileOf w)
  rw [tileOf_wid] at h0 h1
  have e : Shape.reshapeEquiv squeezes_S1x64x512_S64x512.numel_eq (at2 r c) = (Fin.cons ⟨0, Nat.one_pos⟩ (at2 r c) : S1x64x512.Idx) := Shape.reshapeEquiv_cons_one _ _
  unfold slab
  congr 1
  rw [e]
  apply Rect.emb_eq_of_coords
  intro a
  fin_cases a
  · show w.val / 8 = k1_off1 (co (tileOf w)) 0 + 1 * 0
    omega
  · show w.val % 8 * 64 + r = k1_off1 (co (tileOf w)) 1 + 1 * (r % 64)
    omega
  · show c = k1_off1 (co (tileOf w)) 2 + 1 * (c % 512)
    omega

end Cert.Proof.Bins
-- ==== Proof.Pixels.lean ====
/-
  The tiles' counts of both calls, summed: at a place, the pixels counted there. Every pixel is counted once: a pixel's
  call, tile, histogram, group and lane, and back.
-/
module

public import proofs.«01_k».proof.Proof.Bins

@[expose] public section

noncomputable section

namespace Cert.Proof.Pixels

open Cert.KernelIdeal Cert.KernelIdeal.Gen
open Idealize.ShloMosaic Idealize.ShloMosaic.ValueIdx
open Cert.Proof.Tile Cert.Proof.Pieces Cert.Proof.Fold Cert.Proof.Bins Cert.Proof.Values

/-- Call, tile, histogram, group and lane. -/
abbrev Slot : Type := Fin 2 × Fin 32 × Fin 4 × Fin 512 × Fin 16

/-- The pixel counted by a slot. -/
def pixel (s : Slot) : Px.Idx :=
  ix3 ⟨s.2.1.val / 8 + 4 * s.1.val, by omega⟩ ⟨s.2.1.val % 8 * 64 + (4 * (s.2.2.2.1.val % 16) + s.2.2.1.val), by omega⟩
    ⟨16 * (s.2.2.2.1.val / 16) + s.2.2.2.2.val, by omega⟩

/-- The slot that counts a pixel. -/
def slot (y : Px.Idx) : Slot :=
  have h0 : (y 0).val < 8 := (y 0).isLt
  have h1 : (y 1).val < 512 := (y 1).isLt
  have h2 : (y 2).val < 512 := (y 2).isLt
  (⟨(y 0).val / 4, by omega⟩, ⟨(y 0).val % 4 * 8 + (y 1).val / 64, by omega⟩, ⟨(y 1).val % 4, by omega⟩,
    ⟨(y 1).val % 64 / 4 + 16 * ((y 2).val / 16), by omega⟩, ⟨(y 2).val % 16, by omega⟩)

theorem slot_pixel (s : Slot) : slot (pixel s) = s := by
  obtain ⟨q, w, k, m, l⟩ := s
  unfold slot pixel
  refine Prod.ext (Fin.ext ?_) (Prod.ext (Fin.ext ?_) (Prod.ext (Fin.ext ?_) (Prod.ext (Fin.ext ?_) (Fin.ext ?_))))
  · show (w.val / 8 + 4 * q.val) / 4 = q.val
    omega
  · show (w.val / 8 + 4 * q.val) % 4 * 8 + (w.val % 8 * 64 + (4 * (m.val % 16) + k.val)) / 64 = w.val
    omega
  · show (w.val % 8 * 64 + (4 * (m.val % 16) + k.val)) % 4 = k.val
    omega
  · show (w.val % 8 * 64 + (4 * (m.val % 16) + k.val)) % 64 / 4 + 16 * ((16 * (m.val / 16) + l.val) / 16) = m.val
    omega
  · show (16 * (m.val / 16) + l.val) % 16 = l.val
    omega

theorem ix3_eq {a a' : Fin 8} {b b' c c' : Fin 512} (ha : a = a') (hb : b = b') (hc : c = c') : (ix3 a b c : Px.Idx) = ix3 a' b' c' := by
  rw [ha, hb, hc]

theorem pixel_slot (y : Px.Idx) : pixel (slot y) = y := by
  have h0 : (y 0).val < 8 := (y 0).isLt
  have h1 : (y 1).val < 512 := (y 1).isLt
  have h2 : (y 2).val < 512 := (y 2).isLt
  refine Eq.trans ?_ (eq_ix3 y).symm
  unfold slot pixel
  refine ix3_eq (Fin.ext ?_) (Fin.ext ?_) (Fin.ext ?_)
  · show ((y 0).val % 4 * 8 + (y 1).val / 64) / 8 + 4 * ((y 0).val / 4) = (y 0).val
    omega
  · show ((y 0).val % 4 * 8 + (y 1).val / 64) % 8 * 64 + (4 * (((y 1).val % 64 / 4 + 16 * ((y 2).val / 16)) % 16) + (y 1).val % 4) = (y 1).val
    omega
  · show 16 * (((y 1).val % 64 / 4 + 16 * ((y 2).val / 16)) / 16) + (y 2).val % 16 = (y 2).val
    omega

/-- The slots are the pixels. -/
def slots : Slot ≃ Px.Idx := ⟨pixel, slot, slot_pixel, pixel_slot⟩

/-- The place a pixel is counted at. -/
def place (v : Px.Idx → BitVec 32) (y : Px.Idx) : ℕ := 369 * ((y 2).val % 16) + (v y).toNat

/-- The counts of all slots are those of all pixels. -/
theorem sum_slots (v : Px.Idx → BitVec 32) (n : ℕ) :
    (∑ q : Fin 2, ∑ w : Fin 32, ∑ k : Fin 4, ∑ m : Fin 512, ∑ l : Fin 16, if 369 * l.val + (v (pixel (q, w, k, m, l))).toNat = n then 1 else 0)
      = ∑ y : Px.Idx, if place v y = n then 1 else 0 := by
  have h : ∀ s : Slot, (if 369 * s.2.2.2.2.val + (v (pixel s)).toNat = n then 1 else 0) = if place v (slots s) = n then 1 else 0 := by
    intro s
    have e : ((pixel s) 2).val % 16 = s.2.2.2.2.val := congrArg (fun t : Slot => t.2.2.2.2.val) (slot_pixel s)
    unfold place
    show _ = if 369 * ((pixel s 2).val % 16) + (v (pixel s)).toNat = n then 1 else 0
    rw [e]
  rw [← Equiv.sum_comp slots fun y => if place v y = n then 1 else 0, Finset.sum_congr rfl fun s _ => (h s).symm]
  simp only [Fintype.sum_prod_type]

/-- A half of the batch. -/
def half (v : Px.Idx → BitVec 32) (q : Fin 2) : S4x512x512.Idx → BitVec 32 := fun x => v (ix3 (img q (x 0)) (x 1) (x 2))

theorem half_slab (v : Px.Idx → BitVec 32) (q : Fin 2) (w : Fin 32) (k : Fin 4) (m : Fin 512) (l : Fin 16) :
    slab (half v q) (tileOf w) (at2 (4 * (m.val % 16) + k.val) (16 * (m.val / 16) + l.val)) = v (pixel (q, w, k, m, l)) := by
  rw [slab_at _ _ _ _ (by omega) (by omega)]
  rfl

theorem half_inRange (v : Px.Idx → BitVec 32) (hv : ∀ y, (v y).toNat < 361) (q : Fin 2) (p : Tile) : InRange (slab (half v q) p) :=
  fun _ => lt_trans (hv _) (by decide)

/-- One call's counts at a place. -/
theorem out_apply (v : Px.Idx → BitVec 32) (hv : ∀ y, (v y).toNat < 361) (q : Fin 2) (w : Fin 32) (j : Fin 5904) :
    out (F := Ideal) (half v q) (ix2 w j)
      = ((∑ k : Fin 4, ∑ m : Fin 512, ∑ l : Fin 16, if 369 * l.val + (v (pixel (q, w, k, m, l))).toNat = j.val then 1 else 0 : ℕ) : EReal) := by
  refine (tileRow_apply (half_inRange v hv q (tileOf w)) (col j)).trans ?_
  refine congrArg Nat.cast (Finset.sum_congr rfl fun k _ => Finset.sum_congr rfl fun m _ => ?_)
  unfold hits
  refine Finset.sum_congr rfl fun l _ => ?_
  rw [half_slab]
  rfl

/-- Both calls' counts at a place. -/
theorem both (v : Px.Idx → BitVec 32) (hv : ∀ y, (v y).toNat < 361) (j : Fin 5904) :
    (∑ w : Fin 32, out (F := Ideal) (half v 0) (ix2 w j)) + ∑ w : Fin 32, out (F := Ideal) (half v 1) (ix2 w j)
      = ((∑ y : Px.Idx, if place v y = j.val then 1 else 0 : ℕ) : EReal) := by
  rw [← sum_slots, Fin.sum_univ_two, Nat.cast_add, Nat.cast_sum, Nat.cast_sum]
  exact congrArg₂ (· + ·) (Finset.sum_congr rfl fun w _ => out_apply v hv 0 w j) (Finset.sum_congr rfl fun w _ => out_apply v hv 1 w j)

end Cert.Proof.Pixels
-- ==== Proof.Masks.lean ====
/-
  The epilogue's masks at extended reals: ones where the place within a lane's counts is a pair index of the row's class.
-/
module

public import proofs.«01_k».proof.Proof.Values
public import proofs.«01_k».proof.Proof.Fold

@[expose] public section

noncomputable section

namespace Cert.Proof.Masks

open Cert.KernelIdeal
open Idealize.ShloMosaic Idealize.ShloMosaic.ValueIdx
open Cert.Proof.Values

theorem toInt_small (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by omega), e]

theorem no_corner (x y : ℕ) (hx : x < 2 ^ 31) (hy : y < 2 ^ 31) (h0 : 0 < y) : ¬ IntOp.SDivCorner (BitVec.ofNat 32 x) (BitVec.ofNat 32 y) := by
  rintro (h | ⟨_, h⟩)
  · have := congrArg BitVec.toInt h
    rw [toInt_small y hy] at this
    have e : (0 : BitVec 32).toInt = 0 := by decide
    omega
  · have := congrArg BitVec.toInt h
    rw [toInt_small y hy] at this
    have e : (-1 : BitVec 32).toInt = -1 := by decide
    omega

/-- The remainder and the quotient of words that are not negative. -/
theorem rem_nat (x y : ℕ) (hx : x < 2 ^ 31) (hy : y < 2 ^ 31) (h0 : 0 < y) :
    IntOp.remsi .host (BitVec.ofNat 32 x) (BitVec.ofNat 32 y) = BitVec.ofNat 32 (x % y) := by
  unfold IntOp.remsi
  rw [if_neg (no_corner x y hx hy h0)]
  have hm : x % y < 2 ^ 31 := lt_of_le_of_lt (Nat.mod_le _ _) hx
  apply BitVec.eq_of_toInt_eq
  rw [BitVec.toInt_srem, toInt_small x hx, toInt_small y hy, toInt_small _ hm]
  rfl

theorem div_nat (x y : ℕ) (hx : x < 2 ^ 31) (hy : y < 2 ^ 31) (h0 : 0 < y) :
    IntOp.divsi .host (BitVec.ofNat 32 x) (BitVec.ofNat 32 y) = BitVec.ofNat 32 (x / y) := by
  unfold IntOp.divsi
  rw [if_neg (no_corner x y hx hy h0)]
  have hm : x / y < 2 ^ 31 := lt_of_le_of_lt (Nat.div_le_self _ _) hx
  apply BitVec.eq_of_toInt_eq
  rw [BitVec.toInt_sdiv, toInt_small x hx, toInt_small y hy, toInt_small _ hm]
  have e : (x : ℤ).tdiv (y : ℤ) = ((x / y : ℕ) : ℤ) := rfl
  rw [e]
  generalize x / y = q at hm
  exact Int.bmod_eq_of_le (by omega) (by omega)

theorem eq_nat (x y : ℕ) (hx : x < 2 ^ 31) (hy : y < 2 ^ 31) :
    IntOp.cmpi .eq (BitVec.ofNat 32 x) (BitVec.ofNat 32 y) = BitVec.ofBool (decide (x = y)) := by
  by_cases h : x = y
  · subst h; simp [IntOp.cmpi]
  · have e : (BitVec.ofNat 32 x == BitVec.ofNat 32 y) = false := beq_false_of_ne fun h' => h (by
      have := congrArg BitVec.toInt h'
      rw [toInt_small x hx, toInt_small y hy] at this
      exact_mod_cast this)
    simp [IntOp.cmpi, e, h]

theorem lt_nat (x y : ℕ) (hx : x < 2 ^ 31) (hy : y < 2 ^ 31) :
    IntOp.cmpi .slt (BitVec.ofNat 32 x) (BitVec.ofNat 32 y) = BitVec.ofBool (decide (x < y)) := by
  simp [IntOp.cmpi, BitVec.slt, toInt_small x hx, toInt_small y hy]

/-- Two conditions, as a mask. -/
theorem mask_nat (p q : Prop) [Decidable p] [Decidable q] :
    FloatOps.uitofp (F := Ideal) .f32 (IntOp.andi (BitVec.ofBool (decide p)) (BitVec.ofBool (decide q))) = if p ∧ q then 1 else 0 := by
  have h1 : FloatOps.uitofp (F := Ideal) .f32 (1#1) = 1 := by
    show (((1#1).toNat : ℝ) : EReal) = 1
    simp
  have h0 : FloatOps.uitofp (F := Ideal) .f32 (0#1) = 0 := by
    show (((0#1).toNat : ℝ) : EReal) = 0
    simp
  by_cases hp : p <;> by_cases hq : q
  · rw [if_pos ⟨hp, hq⟩, decide_eq_true hp, decide_eq_true hq]; exact h1
  · rw [if_neg fun h => hq h.2, decide_eq_true hp, decide_eq_false hq]; exact h0
  · rw [if_neg fun h => hp h.1, decide_eq_false hp, decide_eq_true hq]; exact h0
  · rw [if_neg fun h => hp h.1, decide_eq_false hp, decide_eq_false hq]; exact h0

variable (r : Fin 19) (j : Fin 5904)

theorem mj_apply : mj (ix2 r j) = BitVec.ofNat 32 (j.val % 369) := by
  have := j.isLt
  exact rem_nat j.val 369 (by omega) (by omega) (by omega)

theorem mv_apply : mv (ix2 r j) = BitVec.ofBool (decide (j.val % 369 < 361)) := by
  have h : mv (ix2 r j) = IntOp.cmpi .slt (mj (ix2 r j)) (BitVec.ofNat 32 361) := rfl
  rw [h, mj_apply, lt_nat _ _ (by omega) (by omega)]

theorem mrow_apply : mrow (F := Ideal) (ix2 r j) = if j.val % 369 / 19 = r.val ∧ j.val % 369 < 361 then 1 else 0 := by
  have := r.isLt
  have h : mrow (F := Ideal) (ix2 r j) = FloatOps.uitofp (F := Ideal) .f32 (IntOp.andi
      (IntOp.cmpi .eq (IntOp.divsi .host (mj (ix2 r j)) (BitVec.ofNat 32 19)) (BitVec.ofNat 32 r.val)) (mv (ix2 r j))) := rfl
  rw [h, mv_apply, mj_apply, div_nat _ _ (by omega) (by omega) (by omega), eq_nat _ _ (by omega) (by omega), mask_nat]

theorem mcol_apply : mcol (F := Ideal) (ix2 r j) = if j.val % 369 % 19 = r.val ∧ j.val % 369 < 361 then 1 else 0 := by
  have := r.isLt
  have h : mcol (F := Ideal) (ix2 r j) = FloatOps.uitofp (F := Ideal) .f32 (IntOp.andi
      (IntOp.cmpi .eq (IntOp.remsi .host (mj (ix2 r j)) (BitVec.ofNat 32 19)) (BitVec.ofNat 32 r.val)) (mv (ix2 r j))) := rfl
  rw [h, mv_apply, mj_apply, rem_nat _ _ (by omega) (by omega) (by omega), eq_nat _ _ (by omega) (by omega), mask_nat]

theorem mdiag_apply : mdiag (F := Ideal) (ix2 r j) = if j.val % 369 = 20 * r.val ∧ j.val % 369 < 361 then 1 else 0 := by
  have := r.isLt
  have h : mdiag (F := Ideal) (ix2 r j) = FloatOps.uitofp (F := Ideal) .f32 (IntOp.andi
      (IntOp.cmpi .eq (mj (ix2 r j)) (BitVec.ofNat 32 20 * BitVec.ofNat 32 r.val)) (mv (ix2 r j))) := rfl
  rw [h, mv_apply, mj_apply, ← BitVec.ofNat_mul, eq_nat _ _ (by omega) (by omega), mask_nat]

end Cert.Proof.Masks
-- ==== Proof.LossVal.lean ====
/-
  The loss as a number: of each class's label count, class count and hits, all natural, the one extended real that both
  programs leave (`lossV`). The real arithmetic that joins the two ways of writing it.
-/
module

public import proofs.«01_k».proof.Proof.Fold
public import Idealize.ShloMosaic.Lib.IdealHost

@[expose] public section

noncomputable section

namespace Cert.Proof.LossVal

open Idealize.ShloMosaic
open Cert.Proof.Fold

/-- A label's pixels, a class's pixels, and the pixels of the class that have the label. -/
def hN (v : Px.Idx → BitVec 32) (r : Fin 19) : ℕ := num v fun n => n / 19 = r.val
def pN (v : Px.Idx → BitVec 32) (r : Fin 19) : ℕ := num v fun n => n % 19 = r.val
def dN (v : Px.Idx → BitVec 32) (r : Fin 19) : ℕ := num v fun n => n = 20 * r.val

/-- The smoothing constant. -/
def eps : EReal := Ideal.ofBits .f32 0x358637BD#32
/-- One half. -/
def half : EReal := Ideal.ofBits .f32 0x3F000000#32
/-- The number of classes. -/
def classes : EReal := Ideal.ofBits .f32 0x41980000#32
/-- The number of pixels. -/
def pixels : EReal := Ideal.ofBits .f32 0x4A000000#32

theorem eps_real : ∃ e : ℝ, eps = (e : EReal) := by
  unfold eps
  simp [Ideal.ofBits, Ideal.ieee, -EReal.coe_mul]

theorem pixels_eq : pixels = ((2097152 : ℝ) : EReal) := by
  unfold pixels
  simp [Ideal.ofBits, Ideal.ieee, -EReal.coe_mul]
  norm_num

/-- A class's sensitivity, of its pixels `p` and hits `d`. -/
def sensV (p d : ℕ) : EReal := Ideal.div ((d : EReal) + eps) ((p : EReal) + eps)
/-- A class's specificity, of its labels `h`, pixels `p` and hits `d`. -/
def specV (h p d : ℕ) : EReal := Ideal.div (((pixels - (h : EReal)) - (p : EReal)) + (d : EReal) + eps) ((pixels - (p : EReal)) + eps)
/-- The loss. -/
def lossV (h p d : Fin 19 → ℕ) : EReal :=
  1 - Ideal.div (∑ r : Fin 19, (half * sensV (p r) (d r) + half * specV (h r) (p r) (d r))) classes

theorem sens_den (p d : ℕ) : ((d : EReal) + ((p : EReal) - (d : EReal))) + 1 * eps = (p : EReal) + eps := by
  rw [one_mul]
  congr 1
  rw [← EReal.coe_coe_eq_natCast, ← EReal.coe_coe_eq_natCast, ← EReal.coe_sub, ← EReal.coe_add, add_sub_cancel]

/-- The true negatives, as the reference writes them. -/
def tnV (h p d : ℕ) : EReal := ((1 * ((2097152 : ℕ) : EReal) - (d : EReal)) - ((h : EReal) - (d : EReal))) - ((p : EReal) - (d : EReal))

theorem tnV_eq (h p d : ℕ) : tnV h p d = ((2097152 - h - p + d : ℝ) : EReal) := by
  unfold tnV
  rw [one_mul, ← EReal.coe_coe_eq_natCast, ← EReal.coe_coe_eq_natCast, ← EReal.coe_coe_eq_natCast, ← EReal.coe_coe_eq_natCast, ← EReal.coe_sub,
    ← EReal.coe_sub, ← EReal.coe_sub, ← EReal.coe_sub, ← EReal.coe_sub]
  congr 1
  push_cast
  ring

theorem spec_num (h p d : ℕ) : tnV h p d + 1 * eps = (((pixels - (h : EReal)) - (p : EReal)) + (d : EReal)) + eps := by
  rw [one_mul, tnV_eq, pixels_eq, ← EReal.coe_coe_eq_natCast h, ← EReal.coe_coe_eq_natCast p, ← EReal.coe_coe_eq_natCast d, ← EReal.coe_sub,
    ← EReal.coe_sub, ← EReal.coe_add]

theorem spec_den (h p d : ℕ) : (tnV h p d + ((h : EReal) - (d : EReal))) + 1 * eps = (pixels - (p : EReal)) + eps := by
  rw [one_mul, tnV_eq, pixels_eq, ← EReal.coe_coe_eq_natCast h, ← EReal.coe_coe_eq_natCast p, ← EReal.coe_coe_eq_natCast d, ← EReal.coe_sub,
    ← EReal.coe_sub, ← EReal.coe_add]
  congr 2
  ring

/-- One among a finite range that has the property, or none. -/
theorem sum_one {n : ℕ} (P : Fin n → Prop) [DecidablePred P] (i : Fin n) (h : ∀ k, P k ↔ k = i) : (∑ k : Fin n, if P k then 1 else 0) = 1 := by
  simp [h]
theorem sum_none {n : ℕ} (P : Fin n → Prop) [DecidablePred P] (h : ∀ k, ¬ P k) : (∑ k : Fin n, if P k then 1 else 0) = 0 := by
  simp [h]

theorem sum_row (a : Fin 19) (n : ℕ) : (∑ b : Fin 19, if n = 19 * a.val + b.val then 1 else 0) = if n / 19 = a.val then 1 else 0 := by
  by_cases h : n / 19 = a.val
  · rw [if_pos h]
    exact sum_one _ ⟨n % 19, by omega⟩ fun k => ⟨fun e => Fin.ext (by show k.val = n % 19; omega), fun e => by subst e; show n = 19 * a.val + n % 19; omega⟩
  · rw [if_neg h]
    exact sum_none _ fun k e => h (by omega)

theorem sum_col (b : Fin 19) (n : ℕ) (hn : n < 361) : (∑ a : Fin 19, if n = 19 * a.val + b.val then 1 else 0) = if n % 19 = b.val then 1 else 0 := by
  by_cases h : n % 19 = b.val
  · rw [if_pos h]
    exact sum_one _ ⟨n / 19, by omega⟩ fun k => ⟨fun e => Fin.ext (by show k.val = n / 19; omega), fun e => by subst e; show n = 19 * (n / 19) + b.val; omega⟩
  · rw [if_neg h]
    exact sum_none _ fun k e => h (by omega)

theorem sum_all (n : ℕ) (hn : n < 361) : (∑ a : Fin 19, if n / 19 = a.val then 1 else 0) = if True then 1 else 0 := by
  rw [if_pos trivial]
  exact sum_one _ ⟨n / 19, by omega⟩ fun k => ⟨fun e => Fin.ext e.symm, fun e => by subst e; rfl⟩

end Cert.Proof.LossVal
-- ==== Proof.LossEq.lean ====
/-
  The kernel's loss at extended reals: its masked sums of the counts are counts of pixels by class, and its loss is the
  number of those.
-/
module

public import proofs.«01_k».proof.Proof.Pixels
public import proofs.«01_k».proof.Proof.Masks
public import proofs.«01_k».proof.Proof.LossVal

@[expose] public section

set_option pp.maxSteps 2000

noncomputable section

namespace Cert.Proof.LossEq

open Cert.KernelIdeal Cert.KernelIdeal.Gen
open Idealize.ShloMosaic Idealize.ShloMosaic.ValueIdx
open Cert.Proof.Pieces Cert.Proof.Fold Cert.Proof.Values Cert.Proof.Masks Cert.Proof.Pixels Cert.Proof.LossVal Cert.Proof.Epilogue

/-- A sum of counts masked by a condition is the count of what meets the condition. -/
theorem masked {ι : Type} [Fintype ι] {n : ℕ} (g : ι → ℕ) (hg : ∀ y, g y < n) (Q : ℕ → Prop) [DecidablePred Q] :
    (∑ j : Fin n, (if Q j.val then (1 : EReal) else 0) * ((∑ y : ι, if g y = j.val then 1 else 0 : ℕ) : EReal))
      = ((∑ y : ι, if Q (g y) then 1 else 0 : ℕ) : EReal) := by
  have h : ∀ j : Fin n, (if Q j.val then (1 : EReal) else 0) * ((∑ y : ι, if g y = j.val then 1 else 0 : ℕ) : EReal)
      = ((∑ y : ι, if (⟨g y, hg y⟩ : Fin n) = j then (if Q (g y) then 1 else 0) else 0 : ℕ) : EReal) := by
    intro j
    by_cases hQ : Q j.val
    · rw [if_pos hQ, one_mul]
      refine congrArg Nat.cast (Finset.sum_congr rfl fun y _ => ?_)
      by_cases e : g y = j.val
      · rw [if_pos e, if_pos (Fin.ext e), if_pos (e ▸ hQ)]
      · rw [if_neg e, if_neg fun e' => e (congrArg Fin.val e')]
    · rw [if_neg hQ, zero_mul]
      refine (Nat.cast_zero (R := EReal)).symm.trans (congrArg Nat.cast ?_)
      refine (Finset.sum_eq_zero fun y _ => ?_).symm
      by_cases e : (⟨g y, hg y⟩ : Fin n) = j
      · have : ¬ Q (g y) := fun q => hQ (by rw [← e]; exact q)
        rw [if_pos e, if_neg this]
      · rw [if_neg e]
  rw [Finset.sum_congr rfl fun j _ => h j, ← Nat.cast_sum]
  refine congrArg Nat.cast ?_
  rw [Finset.sum_comm]
  exact Finset.sum_congr rfl fun y _ => (Finset.sum_ite_eq Finset.univ _ _).trans (if_pos (Finset.mem_univ _))

/-- The places' sums' indices: a class's along the places, a place's along the tiles. -/
theorem red1 : S19x5904.Reduces [1] S19 := reduces_S19x5904_S19
theorem lift1 (r : Fin 19) (j : Fin 5904) : red1.lift (ix1 r) j = (ix2 r j : S19x5904.Idx) := by
  funext a; fin_cases a <;> rfl
theorem red0 : S32x5904.Reduces [0] S5904 := reduces_S32x5904_S5904
theorem lift0 (j : Fin 5904) (w : Fin 32) : red0.lift (ix1 j) w = (ix2 w j : S32x5904.Idx) := by
  funext a; fin_cases a <;> rfl

/-- The sum along the tiles, of both calls. -/
theorem pay2_apply (A B : S32x5904.Idx → EReal) (j : Fin 5904) :
    k4_pay2 (F := Ideal) A B (ix2 (0 : Fin 1) j) = (∑ w : Fin 32, A (ix2 w j)) + ∑ w : Fin 32, B (ix2 w j) := by
  unfold k4_pay2
  rw [shapeCast_apply _ _ _ (ix1 j) (by
    rw [Shape.rowMajor_val_one, Shape.rowMajor_val_two]
    show j.val = 0 * 5904 + j.val
    omega)]
  rw [shapeCast_self, shapeCast_self]
  refine congrArg₂ (· + ·) ?_ ?_
  · exact (Ideal.multiReduction_add_single A _ red0 _ _ (ix1 j)).trans (Finset.sum_congr rfl fun w _ => congrArg A (lift0 j w))
  · exact (Ideal.multiReduction_add_single B _ red0 _ _ (ix1 j)).trans (Finset.sum_congr rfl fun w _ => congrArg B (lift0 j w))

/-- A masked sum, as the kernel writes it. -/
theorem masked_sum (A B : S32x5904.Idx → EReal) (C : S19x5904.Idx → EReal) (r : Fin 19) :
    multiReduction (F := Ideal) .add [1] S19 (mulf (F := Ideal) (φ := .f32) (shapeCast S19x5904 C shapeCasts_S19x5904_S19x5904)
        (broadcastTo S19x5904 (k4_pay2 (F := Ideal) A B) broadcasts_S1x5904_S19x5904)) 0x00000000#32 reduces_S19x5904_S19 (.inl rfl) rfl (ix1 r)
      = ∑ j : Fin 5904, C (ix2 r j) * ((∑ w : Fin 32, A (ix2 w j)) + ∑ w : Fin 32, B (ix2 w j)) := by
  refine (Ideal.multiReduction_add_single _ _ red1 _ _ (ix1 r)).trans (Finset.sum_congr rfl fun j _ => ?_)
  refine (congrArg _ (lift1 r j)).trans ?_
  refine congrArg₂ (· * ·) ?_ ?_
  · exact congrFun (shapeCast_self C _) _
  · refine Eq.trans ?_ (pay2_apply A B j)
    unfold broadcastTo
    refine congrArg _ ?_
    funext a
    fin_cases a <;> rfl

section Counts

variable (v : Px.Idx → BitVec 32) (hv : ∀ y, (v y).toNat < 361)

include hv in
theorem place_lt (y : Px.Idx) : place v y < 5904 := by
  have := hv y
  unfold place
  omega

include hv in
theorem place_mod (y : Px.Idx) : place v y % 369 = (v y).toNat := by
  have := hv y
  unfold place
  omega

include hv in
/-- A masked sum of the tiles' counts is a count of pixels. -/
theorem masked_num (C : S19x5904.Idx → EReal) (P : ℕ → Prop) [DecidablePred P] (r : Fin 19)
    (hC : ∀ j : Fin 5904, C (ix2 r j) = if P (j.val % 369) ∧ j.val % 369 < 361 then 1 else 0) :
    (∑ j : Fin 5904, C (ix2 r j) * ((∑ w : Fin 32, out (F := Ideal) (half v 0) (ix2 w j)) + ∑ w : Fin 32, out (F := Ideal) (half v 1) (ix2 w j)))
      = ((num v P : ℕ) : EReal) := by
  have h : ∀ j : Fin 5904, C (ix2 r j) * ((∑ w : Fin 32, out (F := Ideal) (half v 0) (ix2 w j)) + ∑ w : Fin 32, out (F := Ideal) (half v 1) (ix2 w j))
      = (if P (j.val % 369) ∧ j.val % 369 < 361 then (1 : EReal) else 0) * ((∑ y : Px.Idx, if place v y = j.val then 1 else 0 : ℕ) : EReal) :=
    fun j => congrArg₂ (· * ·) (hC j) (both v hv j)
  refine (Finset.sum_congr rfl fun j _ => h j).trans ((masked (place v) (place_lt v hv) fun n => P (n % 369) ∧ n % 369 < 361).trans ?_)
  refine congrArg Nat.cast (Finset.sum_congr rfl fun y _ => if_congr ?_ rfl rfl)
  rw [place_mod v hv]
  exact ⟨fun h => h.1, fun h => ⟨h, hv y⟩⟩

include hv in
theorem pay3_apply (r : Fin 19) : k4_pay3 (F := Ideal) (out (F := Ideal) (half v 0)) (out (F := Ideal) (half v 1)) (mcol (F := Ideal)) (ix1 r) = (pN v r : EReal) :=
  (masked_sum _ _ _ r).trans (masked_num v hv (mcol (F := Ideal)) (fun n => n % 19 = r.val) r fun j => mcol_apply r j)

include hv in
theorem pay4_apply (r : Fin 19) : k4_pay4 (F := Ideal) (out (F := Ideal) (half v 0)) (out (F := Ideal) (half v 1)) (mdiag (F := Ideal)) (ix1 r) = (dN v r : EReal) :=
  (masked_sum _ _ _ r).trans (masked_num v hv (mdiag (F := Ideal)) (fun n => n = 20 * r.val) r fun j => mdiag_apply r j)

/-- The two ratios at a class, of any counts and masks. -/
theorem pay5_def (A B : S32x5904.Idx → EReal) (C D : S19x5904.Idx → EReal) (r : Fin 19) : k4_pay5 (F := Ideal) A B C D (ix1 r)
    = Ideal.div (k4_pay4 (F := Ideal) A B D (ix1 r) + eps) (k4_pay3 (F := Ideal) A B C (ix1 r) + eps) := by
  unfold k4_pay5
  generalize k4_pay4 (F := Ideal) A B D = z
  generalize k4_pay3 (F := Ideal) A B C = w
  rfl
theorem pay6_def (A B : S32x5904.Idx → EReal) (R C D : S19x5904.Idx → EReal) (r : Fin 19) : k4_pay6 (F := Ideal) A B R C D (ix1 r)
    = Ideal.div ((((pixels - k4_pay3 (F := Ideal) A B R (ix1 r)) - k4_pay3 (F := Ideal) A B C (ix1 r)) + k4_pay4 (F := Ideal) A B D (ix1 r)) + eps)
        ((pixels - k4_pay3 (F := Ideal) A B C (ix1 r)) + eps) := by
  unfold k4_pay6
  generalize k4_pay4 (F := Ideal) A B D = z
  generalize k4_pay3 (F := Ideal) A B C = w
  unfold k4_pay3
  generalize multiReduction (F := Ideal) .add [1] S19 _ 0x00000000#32 reduces_S19x5904_S19 (.inl rfl) rfl = x
  rfl

include hv in
theorem pay5_apply (r : Fin 19) : k4_pay5 (F := Ideal) (out (F := Ideal) (half v 0)) (out (F := Ideal) (half v 1)) (mcol (F := Ideal)) (mdiag (F := Ideal)) (ix1 r)
    = sensV (pN v r) (dN v r) := by
  rw [pay5_def, pay3_apply v hv, pay4_apply v hv]
  rfl

include hv in
theorem pay6_apply (r : Fin 19) : k4_pay6 (F := Ideal) (out (F := Ideal) (half v 0)) (out (F := Ideal) (half v 1)) (mrow (F := Ideal)) (mcol (F := Ideal)) (mdiag (F := Ideal)) (ix1 r)
    = specV (hN v r) (pN v r) (dN v r) := by
  have hr : k4_pay3 (F := Ideal) (out (F := Ideal) (half v 0)) (out (F := Ideal) (half v 1)) (mrow (F := Ideal)) (ix1 r) = (hN v r : EReal) :=
    (masked_sum _ _ _ r).trans (masked_num v hv (mrow (F := Ideal)) (fun n => n / 19 = r.val) r fun j => mrow_apply r j)
  rw [pay6_def, hr, pay3_apply v hv, pay4_apply v hv]
  rfl

theorem redL : S1x19.Reduces [1] S1 := reduces_S1x19_S1
theorem liftL (i : S1.Idx) (k : Fin 19) : redL.lift i k = (ix2 (0 : Fin 1) k : S1x19.Idx) := by
  funext a
  fin_cases a
  · exact Subsingleton.elim (α := Fin 1) _ _
  · rfl

/-- The mean over the classes, and one less it. -/
theorem pay1_apply (S Q : S19.Idx → EReal) (i : S1x1.Idx) :
    k4_pay1 (F := Ideal) S Q i = 1 - Ideal.div (∑ r : Fin 19, (LossVal.half * S (ix1 r) + LossVal.half * Q (ix1 r))) classes := by
  have hs : ∀ z : FVec Ideal S19 .f32, ∀ q : S1.Idx, multiReduction (F := Ideal) .add [1] S1 (shapeCast S1x19 z shapeCasts_S19_S1x19) 0x00000000#32 reduces_S1x19_S1 (.inl rfl) rfl q
      = ∑ r : Fin 19, z (ix1 r) := by
    intro z q
    refine (Ideal.multiReduction_add_single _ _ redL _ _ q).trans (Finset.sum_congr rfl fun r _ => ?_)
    refine (congrArg _ (liftL q r)).trans ?_
    exact shapeCast_apply _ _ _ (ix1 (r : Fin 19)) (by
      rw [Shape.rowMajor_val_one, Shape.rowMajor_val_two]
      show (r : Fin 19).val = 0 * 19 + (r : Fin 19).val
      omega)
  have h : k4_pay1 (F := Ideal) S Q i = Ideal.ofBits .f32 0x3F800000#32 - Ideal.div
      (extractAt ![0, 0] (shapeCast S1x1 (multiReduction (F := Ideal) .add [1] S1 (shapeCast S1x19
        (addf (F := Ideal) (φ := .f32) (mulf (F := Ideal) (φ := .f32) (broadcast S19 LossVal.half) S) (mulf (F := Ideal) (φ := .f32) (broadcast S19 LossVal.half) Q)) shapeCasts_S19_S1x19) 0x00000000#32 reduces_S1x19_S1 (.inl rfl) rfl) shapeCasts_S1_S1x1) inpos_S1x1_p0_0) classes := rfl
  rw [h, Ideal.ofBits_one_f32]
  refine congrArg (fun z : EReal => 1 - Ideal.div z classes) ?_
  exact hs (addf (F := Ideal) (φ := .f32) (mulf (F := Ideal) (φ := .f32) (broadcast S19 LossVal.half) S) (mulf (F := Ideal) (φ := .f32) (broadcast S19 LossVal.half) Q)) _

include hv in
/-- The kernel's loss. -/
theorem epi_eq (i : S1x1.Idx) : epi (F := Ideal) (out (F := Ideal) (half v 0)) (out (F := Ideal) (half v 1)) (mrow (F := Ideal)) (mcol (F := Ideal)) (mdiag (F := Ideal)) i = lossV (hN v) (pN v) (dN v) := by
  unfold epi
  rw [pay1_apply]
  unfold lossV
  refine congrArg (fun z : EReal => 1 - Ideal.div z classes) (Finset.sum_congr rfl fun r _ => ?_)
  rw [pay5_apply v hv, pay6_apply v hv]

end Counts

end Cert.Proof.LossEq
-- ==== Proof.RefVal.lean ====
/-
  The value the reference ends with, as one expression in its arguments: the labels' one-hot array, the softmax, the
  class indices, the pair indices, the confusion matrix, the loss.
-/
module

public import proofs.«01_k».proof.Proof.RefRun
public import Idealize.ShloMosaic.Lib.Tactic.CleanTypes

@[expose] public section

set_option maxRecDepth 16000
set_option pp.maxSteps 2000

noncomputable section

namespace Cert.Proof.RefVal

open Idealize.ShloMosaic Idealize.ShloMosaic.StableHlo Idealize.SL.Sem
open Cert.ReferenceIdeal Cert.Proof.Ref
open Cert.ReferenceIdeal.Facts₀ Cert.ReferenceIdeal.Facts

variable {F : FTy → Type} [FloatOps F] [Cert.ReferenceIdeal.Facts]

/-- The labels, one-hot along the class axis. -/
def hot (t : IVec S8x512x512 32) : FVec F S8x19x512x512 .f32 :=
  transpose S8x19x512x512 [0, 3, 1, 2]
    (uitofp .f32 (cmpi .eq
      (broadcastInDim S8x512x512x19 ![0, 1, 2, 3] bcast_S8x512x512x1_S8x512x512x19_0_1_2_3 (broadcastInDim S8x512x512x1 ![0, 1, 2] bcast_S8x512x512_S8x512x512x1_0_1_2 t))
      (broadcastInDim S8x512x512x19 ![0, 1, 2, 3] bcast_S1x1x1x19_S8x512x512x19_0_1_2_3 (iotaInDim S1x1x1x19 32 3))))
    transposes_S8x512x512x19_S8x19x512x512_0_3_1_2

/-- A per-pixel value at every class. -/
def wide (v : FVec F S8x512x512 .f32) : FVec F S8x19x512x512 .f32 :=
  broadcastInDim S8x19x512x512 ![0, 1, 2, 3] bcast_S8x1x512x512_S8x19x512x512_0_1_2_3 (broadcastInDim S8x1x512x512 ![0, 2, 3] bcast_S8x512x512_S8x1x512x512_0_2_3 v)

/-- Each pixel's largest logit. -/
def top (o : FVec F S8x19x512x512 .f32) : FVec F S8x512x512 .f32 :=
  maximumf (broadcastInDim S8x512x512 ![] bcast_S_S8x512x512 (constant S_ .f32 0xFF800000#32))
    (Host.reduce FloatOps.maximumf o (constant S_ .f32 0xFF800000#32) reducesTo_S8x19x512x512_S8x512x512_d1 h_S_)

/-- The softmax's numerators. -/
def ex (o : FVec F S8x19x512x512 .f32) : FVec F S8x19x512x512 .f32 := Host.exp (subf o (wide (top o)))

/-- The softmax. -/
def probs (o : FVec F S8x19x512x512 .f32) : FVec F S8x19x512x512 .f32 :=
  Host.divf (ex o) (wide (Host.reduceAdd (ex o) (constant S_ .f32 0x00000000#32) reducesTo_S8x19x512x512_S8x512x512_d1 h_S_))

/-- The second component of a family of pairs. -/
def snds {ι α β : Type} (f : ι → α × β) : ι → β := fun j => (f j).2

theorem snds_eq {ι α β : Type} {f : ι → α × β} {j : ι} {p : α × β} (h : f j = p) : snds f j = p.2 := congrArg Prod.snd h

/-- The class index of the largest entry of each pixel. -/
def amax (x : FVec F S8x19x512x512 .f32) : IVec S8x512x512 32 :=
  snds (Host.argReduce reducer_argmax_f32_i32 x (iotaInDim S8x19x512x512 32 1) (constant S_ .f32 0xFF800000#32) (constantI S_ 32 0#32)
    reducesTo_S8x19x512x512_S8x512x512_d1 h_S_)

/-- The pair index of each pixel. -/
def ind (o : FVec F S8x19x512x512 .f32) (t : IVec S8x512x512 32) : IVec S2097152 32 :=
  addi (muli (broadcastInDim S2097152 ![] bcast_S_S2097152 (constantI S_ 32 19#32)) (shapeCast S2097152 (amax (F := F) (hot t)) shapeCasts_S8x512x512_S2097152))
    (shapeCast S2097152 (amax (probs o)) shapeCasts_S8x512x512_S2097152)

/-- The pair index, negative ones raised to 0. -/
def clip0 (v : IVec S2097152 32) : IVec S2097152 32 := maxsi (broadcastInDim S2097152 ![] bcast_S_S2097152 (constantI S_ 32 0#32)) v

/-- The pair index as the scatter reads it. -/
def spot (v : IVec S2097152 32) : IVec S2097152 32 :=
  select (cmpi .slt (clip0 v) (broadcastInDim S2097152 ![] bcast_S_S2097152 (constantI S_ 32 0#32)))
    (addi (clip0 v) (broadcastInDim S2097152 ![] bcast_S_S2097152 (constantI S_ 32 361#32))) (clip0 v)

/-- The counts of the pair indices. -/
def tally (v : IVec S2097152 32) : IVec S361 32 :=
  Host.scatter scatter_S361_S2097152x1_S2097152_n_0_0_1 IntOp.addi (broadcastInDim S361 ![] bcast_S_S361 (constantI S_ 32 0#32))
    (broadcastInDim S2097152x1 ![0] bcast_S2097152_S2097152x1_0 (spot v)) (broadcastInDim S2097152 ![] bcast_S_S2097152 (constantI S_ 32 1#32))

/-- The confusion matrix. -/
def conf (k : IVec S361 32) : FVec F S19x19 .f32 := shapeCast S19x19 (sitofp .f32 k) shapeCasts_S361_S19x19

/-- The matrix's row sums, column sums and diagonal. -/
def rows (c : FVec F S19x19 .f32) : FVec F S19 .f32 := Host.reduceAdd c (constant S_ .f32 0x00000000#32) reducesTo_S19x19_S19_d1 h_S_
def cols (c : FVec F S19x19 .f32) : FVec F S19 .f32 := Host.reduceAdd c (constant S_ .f32 0x00000000#32) reducesTo_S19x19_S19_d0 h_S_
def diag (c : FVec F S19x19 .f32) : FVec F S19 .f32 :=
  Host.reduceAdd (mulf c (uitofp .f32 (cmpi .eq (addi (iotaInDim S19x19 32 0) (broadcastInDim S19x19 ![] bcast_S_S19x19 (constantI S_ 32 0#32))) (iotaInDim S19x19 32 1))))
    (constant S_ .f32 0x00000000#32) reducesTo_S19x19_S19_d1 h_S_

/-- A number at every class. -/
def each (v : BitVec 32) : FVec F S19 .f32 := broadcastInDim S19 ![] bcast_S_S19 (constant S_ .f32 v)

/-- The loss, of the matrix `c`, its row sums `h`, column sums `p` and diagonal `d`. -/
def tn (c : FVec F S19x19 .f32) (h p d : FVec F S19 .f32) : FVec F S19 .f32 :=
  subf (subf (subf (mulf (each 0x3F800000#32) (broadcastInDim S19 ![] bcast_S_S19 (Host.reduceAdd c (constant S_ .f32 0x00000000#32) reducesTo_S19x19_S_d0_1 h_S_))) d)
    (subf h d)) (subf p d)
def smooth : FVec F S19 .f32 := mulf (each 0x3F800000#32) (each 0x358637BD#32)
def sens (p d : FVec F S19 .f32) : FVec F S19 .f32 := Host.divf (addf d smooth) (addf (addf d (subf p d)) smooth)
def spec (c : FVec F S19x19 .f32) (h p d : FVec F S19 .f32) : FVec F S19 .f32 :=
  Host.divf (addf (tn c h p d) smooth) (addf (addf (tn c h p d) (subf h d)) smooth)
def lossOf (c : FVec F S19x19 .f32) (h p d : FVec F S19 .f32) : FVec F S_ .f32 :=
  subf (constant S_ .f32 0x3F800000#32) (Host.divf
    (Host.reduceAdd (addf (mulf (each 0x3F000000#32) (sens p d)) (mulf (each 0x3F000000#32) (spec c h p d))) (constant S_ .f32 0x00000000#32) reducesTo_S19_S_d0 h_S_)
    (constant S_ .f32 0x41980000#32))

section Steps

variable (V : Valuation τ sig (Elt F))

/-- The second window, of what the first leaves. -/
theorem second : after ops1.1 V (Proc.devRef .tc main_v69)
    = subf (constant S_ .f32 0x3F800000#32) (Host.divf
        (Host.reduceAdd (addf
          (mulf (each 0x3F000000#32) (Host.divf (addf (V (Proc.devRef .tc main_v41)) smooth) (addf (addf (V (Proc.devRef .tc main_v41)) (V (Proc.devRef .tc main_v43))) smooth)))
          (mulf (each 0x3F000000#32) (Host.divf
            (addf (subf (subf (subf (mulf (V (Proc.devRef .tc main_v44)) (broadcastInDim S19 ![] bcast_S_S19 (Host.reduceAdd (V (Proc.devRef .tc main_v31)) (V (Proc.devRef .tc main_cst_12)) reducesTo_S19x19_S_d0_1 h_S_)))
              (V (Proc.devRef .tc main_v41))) (V (Proc.devRef .tc main_v42))) (V (Proc.devRef .tc main_v43))) smooth)
            (addf (addf (subf (subf (subf (mulf (V (Proc.devRef .tc main_v44)) (broadcastInDim S19 ![] bcast_S_S19 (Host.reduceAdd (V (Proc.devRef .tc main_v31)) (V (Proc.devRef .tc main_cst_12)) reducesTo_S19x19_S_d0_1 h_S_)))
              (V (Proc.devRef .tc main_v41))) (V (Proc.devRef .tc main_v42))) (V (Proc.devRef .tc main_v43))) (V (Proc.devRef .tc main_v42))) smooth))))
          (constant S_ .f32 0x00000000#32) reducesTo_S19_S_d0 h_S_)
        (constant S_ .f32 0x41980000#32)) := by
  simp only [ops1]
  after_results_simp
  rfl

/-- The first window cut after its first operations, and what follows cut again. -/
theorem cut (n : ℕ) : after ops0.1 V = after (ops0.1.drop n) (after (ops0.1.take n) V) := by
  rw [← after_append, List.take_append_drop]
theorem cut2 (n k n' : ℕ) (h : n + k = n') : after (ops0.1.drop n) V = after (ops0.1.drop n') (after ((ops0.1.drop n).take k) V) := by
  subst h; rw [← List.drop_drop, ← after_append, List.take_append_drop]

theorem a_v1 : after (ops0.1.take 21) V (Proc.devRef .tc main_v1) = hot (F := F) (V (Proc.devRef .tc main_arg1)) := by
  simp only [ops0, oneHotOps, argmaxOps, clipOps, List.cons_append, List.nil_append, List.take_succ_cons, List.take_zero, List.drop_succ_cons, List.drop_zero]
  after_results_simp
  simp -implicitDefEqProofs only [TRef.toBuf, TRef.ofBuf, cast_cast, cast_eq]
  rfl

theorem a_v12 : after (ops0.1.take 21) V (Proc.devRef .tc main_v12) = probs (F := F) (V (Proc.devRef .tc main_arg0)) := by
  simp only [ops0, oneHotOps, argmaxOps, clipOps, List.cons_append, List.nil_append, List.take_succ_cons, List.take_zero, List.drop_succ_cons, List.drop_zero]
  after_results_simp
  rfl

theorem b_v13 : after ((ops0.1.drop 21).take 5) V (Proc.devRef .tc main_v13) = amax (F := F) (V (Proc.devRef .tc main_v1)) := by
  have h : ∀ w : IVec S8x512x512 32, (main_call1.v1_1).toBuf (Val := Elt F) w = w := fun _ => rfl
  have h' : ∀ w : FVec F S8x19x512x512 .f32, (TRef.of main_v1 : TRef sig ⟨S8x19x512x512, .f32⟩).ofBuf (Val := Elt F) w = w := fun _ => rfl
  simp only [ops0, oneHotOps, argmaxOps, clipOps, List.cons_append, List.nil_append, List.take_succ_cons, List.take_zero, List.drop_succ_cons, List.drop_zero]
  after_results_simp
  simp only [TRef.ofBuf_toBuf]
  refine (h _).trans ?_
  rw [h']
  rfl

theorem b_v12 : after ((ops0.1.drop 21).take 5) V (Proc.devRef .tc main_v12) = V (Proc.devRef .tc main_v12) := by
  simp only [ops0, oneHotOps, argmaxOps, clipOps, List.cons_append, List.nil_append, List.take_succ_cons, List.take_zero, List.drop_succ_cons, List.drop_zero]
  after_results_simp

theorem c_v14 : after ((ops0.1.drop 26).take 1) V (Proc.devRef .tc main_v14)
    = shapeCast S2097152 (V (Proc.devRef .tc main_v13) : IVec S8x512x512 32) shapeCasts_S8x512x512_S2097152 := by
  simp only [ops0, oneHotOps, argmaxOps, clipOps, List.cons_append, List.nil_append, List.take_succ_cons, List.take_zero, List.drop_succ_cons, List.drop_zero]
  after_results_simp
  rfl

theorem c_v12 : after ((ops0.1.drop 26).take 1) V (Proc.devRef .tc main_v12) = V (Proc.devRef .tc main_v12) := by
  simp only [ops0, oneHotOps, argmaxOps, clipOps, List.cons_append, List.nil_append, List.take_succ_cons, List.take_zero, List.drop_succ_cons, List.drop_zero]
  after_results_simp

theorem d_v15 : after ((ops0.1.drop 27).take 5) V (Proc.devRef .tc main_v15) = amax (F := F) (V (Proc.devRef .tc main_v12)) := by
  have h : ∀ w : IVec S8x512x512 32, (main_call2.v1_1).toBuf (Val := Elt F) w = w := fun _ => rfl
  have h' : ∀ w : FVec F S8x19x512x512 .f32, (TRef.of main_v12 : TRef sig ⟨S8x19x512x512, .f32⟩).ofBuf (Val := Elt F) w = w := fun _ => rfl
  simp only [ops0, oneHotOps, argmaxOps, clipOps, List.cons_append, List.nil_append, List.take_succ_cons, List.take_zero, List.drop_succ_cons, List.drop_zero]
  after_results_simp
  simp only [TRef.ofBuf_toBuf]
  refine (h _).trans ?_
  rw [h']
  rfl

theorem d_v14 : after ((ops0.1.drop 27).take 5) V (Proc.devRef .tc main_v14) = V (Proc.devRef .tc main_v14) := by
  simp only [ops0, oneHotOps, argmaxOps, clipOps, List.cons_append, List.nil_append, List.take_succ_cons, List.take_zero, List.drop_succ_cons, List.drop_zero]
  after_results_simp

theorem e_v19 : after ((ops0.1.drop 32).take 8) V (Proc.devRef .tc main_v19)
    = addi (muli (broadcastInDim S2097152 ![] bcast_S_S2097152 (constantI S_ 32 19#32)) (V (Proc.devRef .tc main_v14)))
        (shapeCast S2097152 (V (Proc.devRef .tc main_v15) : IVec S8x512x512 32) shapeCasts_S8x512x512_S2097152) := by
  simp only [ops0, oneHotOps, argmaxOps, clipOps, List.cons_append, List.nil_append, List.take_succ_cons, List.take_zero, List.drop_succ_cons, List.drop_zero]
  after_results_simp
  rfl

theorem e_v20 : after ((ops0.1.drop 32).take 8) V (Proc.devRef .tc main_v20) = broadcastInDim S361 ![] bcast_S_S361 (constantI S_ 32 0#32) := by
  simp only [ops0, oneHotOps, argmaxOps, clipOps, List.cons_append, List.nil_append, List.take_succ_cons, List.take_zero, List.drop_succ_cons, List.drop_zero]
  after_results_simp

theorem e_c3 : after ((ops0.1.drop 32).take 8) V (Proc.devRef .tc main_c_3) = constantI S_ 32 0#32 := by
  simp only [ops0, oneHotOps, argmaxOps, clipOps, List.cons_append, List.nil_append, List.take_succ_cons, List.take_zero, List.drop_succ_cons, List.drop_zero]
  after_results_simp

theorem f_v21 : after ((ops0.1.drop 40).take 3) V (Proc.devRef .tc main_v21)
    = maxsi (broadcastInDim S2097152 ![] bcast_S_S2097152 (V (Proc.devRef .tc main_c_3) : IVec S_ 32)) (V (Proc.devRef .tc main_v19)) := by
  have h : ∀ w : IVec S2097152 32, (main_call3.v2).toBuf (Val := Elt F) w = w := fun _ => rfl
  have h' : ∀ w : IVec S2097152 32, (TRef.of main_v19 : TRef sig ⟨S2097152, .i32⟩).ofBuf (Val := Elt F) w = w := fun _ => rfl
  have h'' : ∀ w : IVec S_ 32, (TRef.of main_c_3 : TRef sig ⟨S_, .i32⟩).ofBuf (Val := Elt F) w = w := fun _ => rfl
  simp only [ops0, oneHotOps, argmaxOps, clipOps, List.cons_append, List.nil_append, List.take_succ_cons, List.take_zero, List.drop_succ_cons, List.drop_zero]
  after_results_simp
  simp only [TRef.ofBuf_toBuf]
  refine (h _).trans ?_
  rw [h', h'']
  rfl

theorem f_v20 : after ((ops0.1.drop 40).take 3) V (Proc.devRef .tc main_v20) = V (Proc.devRef .tc main_v20) := by
  simp only [ops0, oneHotOps, argmaxOps, clipOps, List.cons_append, List.nil_append, List.take_succ_cons, List.take_zero, List.drop_succ_cons, List.drop_zero]
  after_results_simp

/-- The matrix, of the clipped indices and the zeros. -/
theorem g_v31 : after ((ops0.1.drop 43).take 13) V (Proc.devRef .tc main_v31)
    = conf (F := F) (Host.scatter scatter_S361_S2097152x1_S2097152_n_0_0_1 IntOp.addi (V (Proc.devRef .tc main_v20))
        (broadcastInDim S2097152x1 ![0] bcast_S2097152_S2097152x1_0
          (select (cmpi .slt (V (Proc.devRef .tc main_v21) : IVec S2097152 32) (broadcastInDim S2097152 ![] bcast_S_S2097152 (constantI S_ 32 0#32)))
            (addi (V (Proc.devRef .tc main_v21)) (broadcastInDim S2097152 ![] bcast_S_S2097152 (constantI S_ 32 361#32))) (V (Proc.devRef .tc main_v21))))
        (broadcastInDim S2097152 ![] bcast_S_S2097152 (constantI S_ 32 1#32))) := by
  simp only [ops0, oneHotOps, argmaxOps, clipOps, List.cons_append, List.nil_append, List.take_succ_cons, List.take_zero, List.drop_succ_cons, List.drop_zero]
  after_results_simp
  rfl

theorem h_v31 : after (ops0.1.drop 56) V (Proc.devRef .tc main_v31) = V (Proc.devRef .tc main_v31) := by
  simp only [ops0, oneHotOps, argmaxOps, clipOps, List.cons_append, List.nil_append, List.take_succ_cons, List.take_zero, List.drop_succ_cons, List.drop_zero]
  after_results_simp

theorem h_v41 : after (ops0.1.drop 56) V (Proc.devRef .tc main_v41) = diag (F := F) (V (Proc.devRef .tc main_v31)) := by
  simp only [ops0, oneHotOps, argmaxOps, clipOps, List.cons_append, List.nil_append, List.take_succ_cons, List.take_zero, List.drop_succ_cons, List.drop_zero]
  after_results_simp
  rfl

theorem h_v42 : after (ops0.1.drop 56) V (Proc.devRef .tc main_v42) = subf (rows (F := F) (V (Proc.devRef .tc main_v31))) (diag (V (Proc.devRef .tc main_v31))) := by
  simp only [ops0, oneHotOps, argmaxOps, clipOps, List.cons_append, List.nil_append, List.take_succ_cons, List.take_zero, List.drop_succ_cons, List.drop_zero]
  after_results_simp
  rfl

theorem h_v43 : after (ops0.1.drop 56) V (Proc.devRef .tc main_v43) = subf (cols (F := F) (V (Proc.devRef .tc main_v31))) (diag (V (Proc.devRef .tc main_v31))) := by
  simp only [ops0, oneHotOps, argmaxOps, clipOps, List.cons_append, List.nil_append, List.take_succ_cons, List.take_zero, List.drop_succ_cons, List.drop_zero]
  after_results_simp
  rfl

theorem h_v44 : after (ops0.1.drop 56) V (Proc.devRef .tc main_v44) = each (F := F) 0x3F800000#32 := by
  simp only [ops0, oneHotOps, argmaxOps, clipOps, List.cons_append, List.nil_append, List.take_succ_cons, List.take_zero, List.drop_succ_cons, List.drop_zero]
  after_results_simp
  rfl

theorem h_cst : after (ops0.1.drop 56) V (Proc.devRef .tc main_cst_12) = constant (F := F) S_ .f32 0x00000000#32 := by
  simp only [ops0, oneHotOps, argmaxOps, clipOps, List.cons_append, List.nil_append, List.take_succ_cons, List.take_zero, List.drop_succ_cons, List.drop_zero]
  after_results_simp

/-- The matrix after the first window, in the arguments. -/
theorem first_v31 : after ops0.1 V (Proc.devRef .tc main_v31)
    = conf (F := F) (tally (ind (F := F) (V (Proc.devRef .tc main_arg0)) (V (Proc.devRef .tc main_arg1)))) := by
  rw [cut V 21, cut2 _ 21 5 26 rfl, cut2 _ 26 1 27 rfl, cut2 _ 27 5 32 rfl, cut2 _ 32 8 40 rfl, cut2 _ 40 3 43 rfl, cut2 _ 43 13 56 rfl,
    h_v31, g_v31, f_v20, f_v21, e_v20, e_v19, e_c3, d_v15, d_v14, c_v14, c_v12, b_v13, b_v12, a_v1, a_v12]
  rfl

/-- The reference's result, in its arguments. -/
theorem result : after ops1.1 (after ops0.1 V) (Proc.devRef .tc main_v69)
    = (fun c => lossOf (F := F) c (rows c) (cols c) (diag c)) (conf (tally (ind (F := F) (V (Proc.devRef .tc main_arg0)) (V (Proc.devRef .tc main_arg1))))) := by
  rw [← first_v31, second]
  rw [cut V 56]
  rw [h_v31, h_v41, h_v42, h_v43, h_v44, h_cst]
  rfl

end Steps

end Cert.Proof.RefVal
-- ==== Proof.ArgFold.lean ====
/-
  The class of the largest score, at extended reals: what it is (`IsArg`), that there is one only, that the kernel's
  running comparison finds it, and that the reference's two-operand reduction finds it.
-/
module

public import proofs.«01_k».proof.Proof.RefVal
public import proofs.«01_k».proof.Proof.Argmax
public import Idealize.ShloMosaic.PureOps.Ideal.Laws

@[expose] public section

set_option maxRecDepth 16000
set_option pp.maxSteps 2000

noncomputable section

namespace Cert.Proof.ArgFold

open Idealize.ShloMosaic Idealize.ShloMosaic.ValueIdx
open Cert.Proof.Argmax Cert.Proof.RefVal
open Cert.ReferenceIdeal
open Cert.ReferenceIdeal.Facts₀ Cert.ReferenceIdeal.Facts

/-- `i` names the first class below `n` of largest score. -/
def IsArg (f : ℕ → EReal) (n : ℕ) (i : BitVec 32) : Prop :=
  ∃ k < n, i = BitVec.ofNat 32 k ∧ ∀ k' < n, f k' < f k ∨ (f k' = f k ∧ k ≤ k')

theorem IsArg.unique {f : ℕ → EReal} {n : ℕ} {i j : BitVec 32} (hi : IsArg f n i) (hj : IsArg f n j) : i = j := by
  obtain ⟨k, hk, rfl, h⟩ := hi
  obtain ⟨l, hl, rfl, h'⟩ := hj
  congr 1
  rcases h l hl with a | ⟨a, b⟩ <;> rcases h' k hk with c | ⟨c, d⟩
  · exact absurd (a.trans c) (lt_irrefl _)
  · exact absurd (c ▸ a) (lt_irrefl _)
  · exact absurd (a ▸ c) (lt_irrefl _)
  · omega

/-- Scores in the same order have the same class of largest score. -/
theorem IsArg.congr {f g : ℕ → EReal} {n : ℕ} {i : BitVec 32} (h : IsArg f n i)
    (hl : ∀ a < n, ∀ b < n, f a < f b → g a < g b) (he : ∀ a < n, ∀ b < n, f a = f b → g a = g b) : IsArg g n i := by
  obtain ⟨k, hk, e, H⟩ := h
  refine ⟨k, hk, e, fun k' hk' => ?_⟩
  rcases H k' hk' with a | ⟨a, b⟩
  · exact .inl (hl _ hk' _ hk a)
  · exact .inr ⟨he _ hk' _ hk a, b⟩

/-- The running comparison finds it. -/
theorem arg_isArg (f : ℕ → EReal) (n : ℕ) :
    ∃ k ≤ n, arg (F := Ideal) f n = BitVec.ofNat 32 k ∧ best (F := Ideal) f n = f k ∧ ∀ k' ≤ n, f k' < f k ∨ (f k' = f k ∧ k ≤ k') := by
  induction n with
  | zero => exact ⟨0, le_rfl, rfl, rfl, fun k' h => .inr ⟨by rw [Nat.le_zero.mp h], Nat.zero_le _⟩⟩
  | succ n ih =>
    obtain ⟨k, hk, ha, hb, H⟩ := ih
    have ea : arg (F := Ideal) f (n + 1)
      = Scalar.select (Ideal.cmp .ogt (f (n + 1)) (best (F := Ideal) f n)) (BitVec.ofNat 32 (n + 1)) (arg (F := Ideal) f n) := rfl
    have eb : best (F := Ideal) f (n + 1)
      = Scalar.select (Ideal.cmp .ogt (f (n + 1)) (best (F := Ideal) f n)) (f (n + 1)) (best (F := Ideal) f n) := rfl
    rw [hb] at ea eb
    by_cases h : f k < f (n + 1)
    · have hc : Ideal.cmp .ogt (f (n + 1)) (f k) = 1#1 := by simp [Ideal.cmp, h]
      rw [hc, select_one] at ea eb
      refine ⟨n + 1, le_rfl, ea, eb, fun k' hk' => ?_⟩
      rcases Nat.lt_or_ge k' (n + 1) with h' | h'
      · rcases H k' (by omega) with c | ⟨c, _⟩
        · exact .inl (c.trans h)
        · exact .inl (c ▸ h)
      · obtain rfl : k' = n + 1 := by omega
        exact .inr ⟨rfl, le_rfl⟩
    · have hc : Ideal.cmp .ogt (f (n + 1)) (f k) = 0#1 := by simp [Ideal.cmp, h]
      rw [hc, select_zero] at ea eb
      refine ⟨k, by omega, ea.trans ha, eb, fun k' hk' => ?_⟩
      rcases Nat.lt_or_ge k' (n + 1) with h' | h'
      · exact H k' (by omega)
      · obtain rfl : k' = n + 1 := by omega
        rcases lt_or_eq_of_le (not_lt.mp h) with c | c
        · exact .inl c
        · exact .inr ⟨c, by omega⟩

theorem arg18 (f : ℕ → EReal) : IsArg f 19 (arg (F := Ideal) f 18) := by
  obtain ⟨k, hk, ha, -, H⟩ := arg_isArg f 18
  exact ⟨k, by omega, ha, fun k' hk' => H k' (by omega)⟩

/-- A pair comes before another: a larger score, or the same and no larger an index. -/
def Before (p q : EReal × BitVec 32) : Prop := q.1 < p.1 ∨ (q.1 = p.1 ∧ p.2.toInt ≤ q.2.toInt)

theorem Before.rfl' (p : EReal × BitVec 32) : Before p p := .inr ⟨rfl, le_rfl⟩
theorem Before.trans {p q r : EReal × BitVec 32} (h : Before p q) (h' : Before q r) : Before p r := by
  rcases h with a | ⟨a, b⟩ <;> rcases h' with c | ⟨c, d⟩
  · exact .inl (c.trans a)
  · exact .inl (c ▸ a)
  · exact .inl (a ▸ c)
  · exact .inr ⟨c.trans a, b.trans d⟩

/-- The reduction's body keeps one of two pairs, and that one comes before the other. -/
theorem reducer_spec (p q : EReal × BitVec 32) :
    (reducer_argmax_f32_i32 (F := Ideal) p q = p ∨ reducer_argmax_f32_i32 (F := Ideal) p q = q)
      ∧ Before (reducer_argmax_f32_i32 (F := Ideal) p q) p ∧ Before (reducer_argmax_f32_i32 (F := Ideal) p q) q := by
  obtain ⟨a, i⟩ := p
  obtain ⟨b, j⟩ := q
  have e : reducer_argmax_f32_i32 (F := Ideal) (a, i) (b, j)
      = (Scalar.select (IntOp.ori (Ideal.cmp .ogt a b) (Ideal.cmp .une a a)) a b,
        Scalar.select (IntOp.ori (IntOp.ori (Ideal.cmp .ogt a b) (Ideal.cmp .une a a)) (IntOp.andi (Ideal.cmp .oeq a b) (IntOp.cmpi .slt i j))) i j) := rfl
  have hu : Ideal.cmp .une a a = 0#1 := by simp [Ideal.cmp]
  rw [e, hu]
  rcases lt_trichotomy a b with h | h | h
  · have h1 : Ideal.cmp .ogt a b = 0#1 := by simp [Ideal.cmp, not_lt.mpr h.le]
    have h2 : Ideal.cmp .oeq a b = 0#1 := by simp [Ideal.cmp, h.ne]
    rw [h1, h2]
    have h3 : IntOp.ori (IntOp.ori (0#1) (0#1)) (IntOp.andi (0#1) (IntOp.cmpi .slt i j)) = 0#1 := by simp [IntOp.ori, IntOp.andi]
    have h4 : IntOp.ori (0#1) (0#1) = 0#1 := by decide
    rw [h3, h4, select_zero, select_zero]
    exact ⟨.inr rfl, .inl h, Before.rfl' _⟩
  · subst h
    have h1 : Ideal.cmp .ogt a a = 0#1 := by simp [Ideal.cmp]
    have h2 : Ideal.cmp .oeq a a = 1#1 := by simp [Ideal.cmp]
    rw [h1, h2]
    have h4 : IntOp.ori (0#1) (0#1) = 0#1 := by decide
    rw [h4, select_zero]
    by_cases hij : i.toInt < j.toInt
    · have h3 : IntOp.cmpi .slt i j = 1#1 := by simp [IntOp.cmpi, BitVec.slt, hij]
      rw [h3, show IntOp.ori (0#1) (IntOp.andi (1#1) (1#1)) = 1#1 by decide, select_one]
      exact ⟨.inl rfl, Before.rfl' _, .inr ⟨rfl, hij.le⟩⟩
    · have h3 : IntOp.cmpi .slt i j = 0#1 := by simp [IntOp.cmpi, BitVec.slt, hij]
      rw [h3, show IntOp.ori (0#1) (IntOp.andi (1#1) (0#1)) = 0#1 by decide, select_zero]
      exact ⟨.inr rfl, .inr ⟨rfl, not_lt.mp hij⟩, Before.rfl' _⟩
  · have h1 : Ideal.cmp .ogt a b = 1#1 := by simp [Ideal.cmp, h]
    rw [h1]
    have h4 : IntOp.ori (1#1) (0#1) = 1#1 := by decide
    have h3 : ∀ x : BitVec 1, IntOp.ori (1#1) x = 1#1 := by decide
    rw [h4, h3, select_one, select_one]
    exact ⟨.inl rfl, Before.rfl' _, .inl h⟩

/-- The reduction over a list of pairs, from a first one. -/
theorem foldl_spec (l : List (EReal × BitVec 32)) (a : EReal × BitVec 32) :
    (l.foldl (reducer_argmax_f32_i32 (F := Ideal)) a = a ∨ l.foldl (reducer_argmax_f32_i32 (F := Ideal)) a ∈ l)
      ∧ Before (l.foldl (reducer_argmax_f32_i32 (F := Ideal)) a) a ∧ ∀ b ∈ l, Before (l.foldl (reducer_argmax_f32_i32 (F := Ideal)) a) b := by
  induction l generalizing a with
  | nil => exact ⟨.inl rfl, Before.rfl' _, fun b hb => absurd hb List.not_mem_nil⟩
  | cons q l ih =>
    obtain ⟨hm, h1, h2⟩ := ih (reducer_argmax_f32_i32 (F := Ideal) a q)
    obtain ⟨rm, r1, r2⟩ := reducer_spec a q
    rw [List.foldl_cons]
    refine ⟨?_, h1.trans r1, fun b hb => ?_⟩
    · rcases hm with hm | hm
      · rw [hm]
        rcases rm with rm | rm
        · exact .inl rm
        · right; rw [rm]; exact List.mem_cons_self
      · exact .inr (List.mem_cons_of_mem _ hm)
    · rcases List.mem_cons.mp hb with rfl | hb
      · exact h1.trans r2
      · exact h2 b hb

/-- The two-operand reduction along one axis keeps the pair of one coordinate, and that one comes before the others', when
    every score is above the initial one. -/
theorem argReduce_spec {s t u : Shape} {a : Fin s.rank} (h' : s.ReducesTo [a] t) (h : s.Reduces [a] t) (x : FVec Ideal s .f32) (y : s.Idx → BitVec 32)
    (ix : u.Idx → EReal) (iy : u.Idx → BitVec 32) (hu : 0 < u.numel) (j : t.Idx) (k₀ : Fin (s.size a))
    (hb : ∀ k, ix (Shape.Idx.first hu) < x (h.lift j k)) :
    ∃ k : Fin (s.size a), Host.argReduce (reducer_argmax_f32_i32 (F := Ideal)) x y ix iy h' hu j = (x (h.lift j k), y (h.lift j k))
      ∧ ∀ k', Before (x (h.lift j k), y (h.lift j k)) (x (h.lift j k'), y (h.lift j k')) := by
  rw [Ideal.argReduce_eq_reduce2, Host.reduce2_eq_foldl_fiber]
  have hmem : ∀ p, p ∈ Host.argReduceFiber x y h' j ↔ ∃ k, p = (x (h.lift j k), y (h.lift j k)) := by
    intro p
    unfold Host.argReduceFiber
    rw [List.mem_map]
    constructor
    · rintro ⟨n, hn, rfl⟩
      have hd := of_decide_eq_true (List.mem_filter.mp hn).2
      rw [Shape.ReducesTo.drop_eq_drop h' h] at hd
      refine ⟨s.rowMajor.symm n a, ?_⟩
      rw [← hd, h.lift_drop]
    · rintro ⟨k, rfl⟩
      refine ⟨s.rowMajor (h.lift j k), List.mem_filter.mpr ⟨List.mem_finRange _, decide_eq_true ?_⟩, ?_⟩
      · rw [Equiv.symm_apply_apply, Shape.ReducesTo.drop_eq_drop h' h, h.drop_lift]
      · rw [Equiv.symm_apply_apply]
  obtain ⟨hm, -, hB⟩ := foldl_spec (Host.argReduceFiber x y h' j) (ix (Shape.Idx.first hu), iy (Shape.Idx.first hu))
  generalize List.foldl _ _ _ = r at hm hB ⊢
  have hr : ∃ k, r = (x (h.lift j k), y (h.lift j k)) := by
    rcases hm with rfl | hm
    · exfalso
      rcases hB _ ((hmem _).mpr ⟨k₀, rfl⟩) with c | ⟨c, -⟩
      · exact absurd (c.trans (hb k₀)) (lt_irrefl _)
      · exact (hb k₀).ne' c
    · exact (hmem r).mp hm
  obtain ⟨k, rfl⟩ := hr
  exact ⟨k, rfl, fun k' => hB _ ((hmem _).mpr ⟨k', rfl⟩)⟩

end Cert.Proof.ArgFold
-- ==== Proof.Amax.lean ====
/-
  The reference's class index of a pixel, at extended reals, is the class of its largest entry.
-/
module

public import proofs.«01_k».proof.Proof.ArgFold
public import Idealize.ShloMosaic.Lib.Pipeline.Value

@[expose] public section

set_option maxRecDepth 16000
set_option pp.maxSteps 2000

noncomputable section

namespace Cert.Proof.Amax

open Idealize.ShloMosaic Idealize.ShloMosaic.ValueIdx
open Cert.Proof.Argmax Cert.Proof.RefVal Cert.Proof.ArgFold
open Cert.ReferenceIdeal
open Cert.ReferenceIdeal.Facts₀ Cert.ReferenceIdeal.Facts

variable [Cert.ReferenceIdeal.Facts]

theorem red1 : S8x19x512x512.Reduces [1] S8x512x512 := by decide

theorem lift1 (j : S8x512x512.Idx) (k : Fin 19) : red1.lift j k = (ix4 (j 0) k (j 1) (j 2) : S8x19x512x512.Idx) := by
  funext a
  fin_cases a <;> rfl

theorem negInf (i : S_.Idx) : constant (F := Ideal) S_ .f32 0xFF800000#32 i = ⊥ := by
  have h : Ideal.ofBits .f32 0xFF800000#32 = ⊥ := by simp [Ideal.ofBits, Ideal.ieee]
  exact h

/-- The class index, of the reduction's pair. -/
theorem amax_eq (x : FVec Ideal S8x19x512x512 .f32) (j : S8x512x512.Idx) (p : EReal × BitVec 32)
    (e : Host.argReduce (F := Ideal) (φ := .f32) (reducer_argmax_f32_i32 (F := Ideal)) x (iotaInDim S8x19x512x512 32 1)
      (constant (F := Ideal) S_ .f32 0xFF800000#32) (constantI S_ 32 0#32) reducesTo_S8x19x512x512_S8x512x512_d1 h_S_ j = p) :
    amax x j = p.2 := snds_eq e

/-- The reference's class index of a pixel is the class of its largest entry, when the entries are above −∞. -/
theorem amax_isArg (x : FVec Ideal S8x19x512x512 .f32) (j : S8x512x512.Idx) (f : ℕ → EReal)
    (hf : ∀ k : Fin 19, x (ix4 (j 0) k (j 1) (j 2)) = f k.val) (hb : ∀ k < 19, ⊥ < f k) : IsArg f 19 (amax x j) := by
  have q : ∀ i : Fin 19, (x (red1.lift j i), iotaInDim S8x19x512x512 32 1 (red1.lift j i)) = (f i.val, BitVec.ofNat 32 i.val) :=
    fun i => Prod.ext ((congrArg x (lift1 j i)).trans (hf i)) (congrArg (iotaInDim S8x19x512x512 32 1) (lift1 j i))
  obtain ⟨k, e, H⟩ := argReduce_spec reducesTo_S8x19x512x512_S8x512x512_d1 red1 x (iotaInDim S8x19x512x512 32 1)
    (constant (F := Ideal) S_ .f32 0xFF800000#32) (constantI S_ 32 0#32) h_S_ j (0 : Fin 19)
    (fun k => lt_of_eq_of_lt (negInf _) (lt_of_lt_of_eq (hb _ (k : Fin 19).isLt) (congrArg Prod.fst (q k)).symm))
  have ea : amax x j = BitVec.ofNat 32 (k : Fin 19).val := (amax_eq x j _ e).trans (congrArg Prod.snd (q k))
  rw [ea]
  refine ⟨(k : Fin 19).val, (k : Fin 19).isLt, rfl, fun k' hk' => ?_⟩
  have hB : Before (f (k : Fin 19).val, BitVec.ofNat 32 (k : Fin 19).val) (f k', BitVec.ofNat 32 k') :=
    Eq.mp (congrArg₂ Before (q k) (q ⟨k', hk'⟩)) (H (⟨k', hk'⟩ : Fin 19))
  rcases hB with h | ⟨h, h'⟩
  · exact .inl h
  · refine .inr ⟨h, ?_⟩
    have hk : (k : Fin 19).val < 19 := (k : Fin 19).isLt
    have hi : ∀ n < 19, (BitVec.ofNat 32 n).toInt = (n : ℤ) := by decide
    have h'' : (BitVec.ofNat 32 (k : Fin 19).val).toInt ≤ (BitVec.ofNat 32 k').toInt := h'
    rw [hi _ hk, hi _ hk'] at h''
    omega

end Cert.Proof.Amax
-- ==== Proof.RefArg.lean ====
/-
  The reference's two class indices at extended reals: of the one-hot labels, the label; of the softmax of finite logits,
  the class of the largest logit.
-/
module

public import proofs.«01_k».proof.Proof.Amax
public import proofs.«01_k».proof.Proof.Pre
public import Idealize.ShloMosaic.Lib.Pipeline.Value

@[expose] public section

set_option maxRecDepth 16000
set_option pp.maxSteps 2000

noncomputable section

namespace Cert.Proof.RefArg

open Idealize.ShloMosaic Idealize.ShloMosaic.ValueIdx
open Cert.Proof.Argmax Cert.Proof.RefVal Cert.Proof.ArgFold Cert.Proof.Amax
open Cert.ReferenceIdeal
open Cert.ReferenceIdeal.Facts₀ Cert.ReferenceIdeal.Facts

variable [Cert.ReferenceIdeal.Facts]

/-- The one-hot labels at an index. -/
theorem hot_apply (t : IVec S8x512x512 32) (a : Fin 8) (k : Fin 19) (b c : Fin 512) :
    hot (F := Ideal) t (ix4 a k b c) = FloatOps.uitofp (F := Ideal) .f32 (IntOp.cmpi .eq (t (ix3 a b c)) (BitVec.ofNat 32 k.val)) := by
  unfold hot
  refine (transpose_apply _ _ _ _ (ix4 a b c k) fun x => ?_).trans ?_
  · fin_cases x <;> rfl
  · show FloatOps.uitofp (F := Ideal) .f32 (IntOp.cmpi .eq (broadcastInDim _ _ _ (broadcastInDim _ _ _ t) _) (broadcastInDim _ _ _ _ _)) = _
    congr 2
    refine (broadcastInDim_apply _ _ _ _ (ix4 a b c 0) fun x => ?_).trans ((broadcastInDim_apply _ _ _ _ (ix3 a b c) fun x => ?_))
    · fin_cases x <;> rfl
    · fin_cases x <;> rfl

theorem hot_of_eq (t : IVec S8x512x512 32) (a : Fin 8) (k : Fin 19) (b c : Fin 512) (h : t (ix3 a b c) = BitVec.ofNat 32 k.val) :
    hot (F := Ideal) t (ix4 a k b c) = 1 := by
  rw [hot_apply, h]
  have : IntOp.cmpi .eq (BitVec.ofNat 32 k.val) (BitVec.ofNat 32 k.val) = 1#1 := by simp [IntOp.cmpi]
  rw [this]
  show (((1#1).toNat : ℝ) : EReal) = 1
  simp
theorem hot_of_ne (t : IVec S8x512x512 32) (a : Fin 8) (k : Fin 19) (b c : Fin 512) (h : t (ix3 a b c) ≠ BitVec.ofNat 32 k.val) :
    hot (F := Ideal) t (ix4 a k b c) = 0 := by
  rw [hot_apply]
  have : IntOp.cmpi .eq (t (ix3 a b c)) (BitVec.ofNat 32 k.val) = 0#1 := by
    have e : (t (ix3 a b c) == BitVec.ofNat 32 k.val) = false := beq_false_of_ne h
    simp [IntOp.cmpi, e]
  rw [this]
  show (((0#1).toNat : ℝ) : EReal) = 0
  simp

/-- The class of the largest entry of the one-hot labels is the label. -/
theorem amax_hot (t : IVec S8x512x512 32) (j : S8x512x512.Idx) (ht : (t j).toNat < 19) : amax (F := Ideal) (hot t) j = t j := by
  have ej : (ix3 (j 0) (j 1) (j 2) : S8x512x512.Idx) = j := (eq_ix3 j).symm
  have eo : ∀ k : Fin 19, (t j).toNat = k.val → t j = BitVec.ofNat 32 k.val := fun k h => by rw [← h, BitVec.ofNat_toNat, BitVec.setWidth_eq]
  have en : ∀ k : Fin 19, (t j).toNat ≠ k.val → t j ≠ BitVec.ofNat 32 k.val := fun k h e => h (by
    rw [e, BitVec.toNat_ofNat]; exact Nat.mod_eq_of_lt (lt_trans k.isLt (by decide)))
  have hA := amax_isArg (hot (F := Ideal) t) j (fun k => if (t j).toNat = k then 1 else 0) (fun k => by
      by_cases h : (t j).toNat = k.val
      · rw [if_pos h]; exact hot_of_eq t (j 0) k (j 1) (j 2) ((congrArg t ej).trans (eo k h))
      · rw [if_neg h]; exact hot_of_ne t (j 0) k (j 1) (j 2) (fun e => en k h ((congrArg t ej).symm.trans e)))
    (fun k _ => by split; exacts [EReal.bot_lt_coe 1, EReal.bot_lt_coe 0])
  refine hA.unique ⟨(t j).toNat, ht, by rw [BitVec.ofNat_toNat, BitVec.setWidth_eq], fun k' _ => ?_⟩
  by_cases h : (t j).toNat = k'
  · exact .inr ⟨by rw [h], h.le⟩
  · refine .inl ?_
    simp only [if_neg h, if_true]
    exact zero_lt_one

/-- A per-pixel value at every class, at an index. -/
theorem wide_apply (v : FVec Ideal S8x512x512 .f32) (j : S8x512x512.Idx) (k : Fin 19) :
    wide (F := Ideal) v (ix4 (j 0) k (j 1) (j 2)) = v j := by
  unfold wide
  refine (broadcastInDim_apply _ _ _ _ (ix4 (j 0) 0 (j 1) (j 2)) fun x => ?_).trans ((broadcastInDim_apply _ _ _ _ j fun x => ?_))
  · fin_cases x <;> rfl
  · fin_cases x <;> rfl

/-- A reduction by maximum along one axis. -/
theorem reduce_max {s t u : Shape} {a : Fin s.rank} (h' : s.ReducesTo [a] t) (h : s.Reduces [a] t) (x : FVec Ideal s .f32) (init : u.Idx → EReal)
    (hu : 0 < u.numel) (j : t.Idx) (b : EReal) (hb : init (Shape.Idx.first hu) = b) :
    Host.reduce (FloatOps.maximumf (F := Ideal) (φ := .f32)) x init h' hu j = (Finset.univ : Finset (Fin (s.size a))).fold max b fun k => x (h.lift j k) := by
  rw [Host.reduce_eq_fold_single _ x init h' h hu j, hb]
  rfl

section Soft

variable (o : FVec Ideal S8x19x512x512 .f32) (j : S8x512x512.Idx) (r : Fin 19 → ℝ)

/-- A pixel's largest logit, from the reduction; -/
theorem top_eq : top (F := Ideal) o j
    = max ⊥ (Host.reduce (FloatOps.maximumf (F := Ideal) (φ := .f32)) o (constant (F := Ideal) S_ .f32 0xFF800000#32) reducesTo_S8x19x512x512_S8x512x512_d1 h_S_ j) := by
  have h : broadcastInDim S8x512x512 ![] bcast_S_S8x512x512 (constant (F := Ideal) S_ .f32 0xFF800000#32) j = ⊥ := by
    unfold broadcastInDim
    exact negInf _
  unfold top
  rw [maximumf_apply, h]
  have q : ∀ z : EReal, FloatOps.maximumf (F := Ideal) (φ := .f32) ⊥ z = max ⊥ z := fun _ => rfl
  exact q _

/-- the reduction, as a maximum over the classes. -/
theorem reduceMax_eq : Host.reduce (FloatOps.maximumf (F := Ideal) (φ := .f32)) o (constant (F := Ideal) S_ .f32 0xFF800000#32) reducesTo_S8x19x512x512_S8x512x512_d1 h_S_ j
    = (Finset.univ : Finset (Fin (S8x19x512x512.size 1))).fold max ⊥ fun k => o (red1.lift j k) :=
  reduce_max _ red1 o _ _ j _ (negInf _)

/-- A pixel's largest logit is finite. -/
theorem top_real (hr : ∀ k : Fin 19, o (ix4 (j 0) k (j 1) (j 2)) = (r k : EReal)) : ∃ M : ℝ, top (F := Ideal) o j = (M : EReal) := by
  have hx : ∀ k : Fin 19, o (red1.lift j k) = (r k : EReal) := fun k => (congrArg o (lift1 j k)).trans (hr k)
  have e : top (F := Ideal) o j = max ⊥ ((Finset.univ : Finset (Fin 19)).fold max ⊥ fun k => (r k : EReal)) :=
    (top_eq o j).trans (congrArg (max ⊥) ((reduceMax_eq o j).trans (congrArg ((Finset.univ : Finset (Fin 19)).fold max ⊥) (funext hx))))
  have hlo : ⊥ < top (F := Ideal) o j := by
    rw [e]
    refine lt_max_of_lt_right ((Finset.lt_fold_max _).mpr (.inr ⟨0, Finset.mem_univ _, EReal.bot_lt_coe _⟩))
  have hhi : top (F := Ideal) o j < ⊤ := by
    rw [e]
    refine max_lt (by simp) ((Finset.fold_max_lt _).mpr ⟨by simp, fun k _ => EReal.coe_lt_top _⟩)
  exact ⟨(top (F := Ideal) o j).toReal, (EReal.coe_toReal hhi.ne hlo.ne').symm⟩

/-- A sum of reals, as an extended real. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The softmax of finite logits: exponentials over one positive number. -/
theorem probs_apply (hr : ∀ k : Fin 19, o (ix4 (j 0) k (j 1) (j 2)) = (r k : EReal)) :
    ∃ M S : ℝ, 0 < S ∧ ∀ k : Fin 19, probs (F := Ideal) o (ix4 (j 0) k (j 1) (j 2)) = ((Real.exp (r k - M) * S⁻¹ : ℝ) : EReal) := by
  obtain ⟨M, hM⟩ := top_real o j r hr
  have he : ∀ k : Fin 19, ex (F := Ideal) o (ix4 (j 0) k (j 1) (j 2)) = ((Real.exp (r k - M) : ℝ) : EReal) := by
    intro k
    have h1 : ex (F := Ideal) o (ix4 (j 0) k (j 1) (j 2)) = Ideal.exp (o (ix4 (j 0) k (j 1) (j 2)) - wide (F := Ideal) (top o) (ix4 (j 0) k (j 1) (j 2))) := rfl
    rw [h1, wide_apply, hM, hr, ← EReal.coe_sub]
    rfl
  have hS : Host.reduceAdd (ex (F := Ideal) o) (constant (F := Ideal) S_ .f32 0x00000000#32) reducesTo_S8x19x512x512_S8x512x512_d1 h_S_ j
      = ((∑ k : Fin 19, Real.exp (r k - M) : ℝ) : EReal) := by
    refine (Ideal.hostReduceAdd_single _ red1 _ _ j).trans ?_
    have h2 : ∀ k : Fin 19, ex (F := Ideal) o (red1.lift j k) = ((Real.exp (r k - M) : ℝ) : EReal) := fun k =>
      (congrArg (ex (F := Ideal) o) (lift1 j k)).trans (he k)
    have h3 : (∑ k : Fin 19, ex (F := Ideal) o (red1.lift j k)) = ((∑ k : Fin 19, Real.exp (r k - M) : ℝ) : EReal) :=
      (Finset.sum_congr rfl fun k _ => h2 k).trans (coe_sum _ _)
    refine (congrArg₂ (· + ·) (Ideal.ofBits_zero_f32) h3).trans ?_
    exact zero_add _
  refine ⟨M, ∑ k : Fin 19, Real.exp (r k - M), Finset.sum_pos (fun k _ => Real.exp_pos _) ⟨0, Finset.mem_univ _⟩, fun k => ?_⟩
  have h4 : probs (F := Ideal) o (ix4 (j 0) k (j 1) (j 2)) = Ideal.div (ex (F := Ideal) o (ix4 (j 0) k (j 1) (j 2)))
      (wide (F := Ideal) (Host.reduceAdd (ex (F := Ideal) o) (constant (F := Ideal) S_ .f32 0x00000000#32) reducesTo_S8x19x512x512_S8x512x512_d1 h_S_) (ix4 (j 0) k (j 1) (j 2))) := rfl
  have hpos : (0 : ℝ) < ∑ k : Fin 19, Real.exp (r k - M) := Finset.sum_pos (fun k _ => Real.exp_pos _) ⟨0, Finset.mem_univ _⟩
  rw [h4, wide_apply, hS, he]
  unfold Ideal.div
  rw [if_neg (by exact_mod_cast hpos.ne'), ← EReal.coe_inv, ← EReal.coe_mul]

/-- The class of the largest probability is the class of the largest logit. -/
theorem amax_probs (hr : ∀ k : Fin 19, o (ix4 (j 0) k (j 1) (j 2)) = (r k : EReal)) :
    amax (F := Ideal) (probs o) j = arg (F := Ideal) (fun k => o (ix4 (j 0) (Fin.ofNat 19 k) (j 1) (j 2))) 18 := by
  obtain ⟨M, S, hS, hp⟩ := probs_apply o j r hr
  have hk : ∀ k : Fin 19, Fin.ofNat 19 k.val = k := fun k => Fin.ext (Nat.mod_eq_of_lt k.isLt)
  have hA := amax_isArg (probs (F := Ideal) o) j (fun k => ((Real.exp (r (Fin.ofNat 19 k) - M) * S⁻¹ : ℝ) : EReal))
    (fun k => by simp only [hk]; exact hp k) (fun k _ => EReal.bot_lt_coe _)
  have hB := arg18 (fun k => o (ix4 (j 0) (Fin.ofNat 19 k) (j 1) (j 2)))
  refine hA.unique (hB.congr (fun a _ b _ h => ?_) (fun a _ b _ h => ?_))
  · rw [hr, hr, EReal.coe_lt_coe_iff] at h
    rw [EReal.coe_lt_coe_iff]
    exact mul_lt_mul_of_pos_right (Real.exp_lt_exp.mpr (by linarith)) (inv_pos.mpr hS)
  · rw [hr, hr, EReal.coe_eq_coe_iff] at h
    rw [h]

end Soft

end Cert.Proof.RefArg
-- ==== Proof.Scatter.lean ====
/-
  The reference's confusion matrix at extended reals: each entry is the number of pixels of that pair index.
-/
module

public import proofs.«01_k».proof.Proof.RefArg
public import proofs.«01_k».proof.Proof.Fold

@[expose] public section

set_option maxRecDepth 16000
set_option pp.maxSteps 2000

noncomputable section

namespace Cert.Proof.Scatter

open Idealize.ShloMosaic Idealize.ShloMosaic.ValueIdx
open Cert.Proof.Argmax Cert.Proof.RefVal Cert.Proof.RefArg Cert.Proof.Fold
open Cert.ReferenceIdeal
open Cert.ReferenceIdeal.Facts₀ Cert.ReferenceIdeal.Facts

/-- A scatter of ones, every one of which lands, adds at each place how many land there. -/
theorem scatter_count {s si u : Shape} (d : ScatterDims s si u) (x : s.Idx → BitVec 32) (idx : IVec si 32) (upd : u.Idx → BitVec 32)
    (g : u.Idx → s.Idx) (hg : ∀ j, d.resultIdx? j idx = some (g j)) (hu : ∀ j, upd j = 1#32) (i : s.Idx) :
    Host.scatter d IntOp.addi x idx upd i = x i + (∑ j : u.Idx, if g j = i then 1 else 0 : ℕ) • 1#32 := by
  unfold Host.scatter
  refine (foldl_count_fin (1#32) (fun n => g (u.rowMajor.symm n)) _ ?_ ?_ x i).trans ?_
  · intro r n
    simp only [hg, hu, if_true]
    rfl
  · intro r n i' h
    simp only [hg]
    exact if_neg fun e => h e.symm
  · rw [Equiv.sum_comp u.rowMajor.symm (fun j => if g j = i then 1 else 0)]

theorem sum_ite {ι : Type} [Fintype ι] {n : ℕ} (f : ι → ℕ) (hf : ∀ j, f j < n) (i : Fin n) :
    (∑ j : ι, if (ix1 ⟨f j, hf j⟩ : Shape.Idx ⟨1, ![n]⟩) = ix1 i then 1 else 0) = ∑ j : ι, if f j = i.val then 1 else 0 :=
  Finset.sum_congr rfl fun j _ => if_congr
    ⟨fun h => congrArg (fun z : Shape.Idx ⟨1, ![n]⟩ => (z 0).val) h, fun h => congrArg ix1 (Fin.ext h)⟩ rfl rfl

theorem ofNat_nsmul (n : ℕ) : n • 1#32 = BitVec.ofNat 32 n := by
  induction n with
  | zero => rfl
  | succ n ih => rw [succ_nsmul, ih, BitVec.ofNat_add]

variable [Cert.ReferenceIdeal.Facts]

/-- The index as the scatter reads it, in range. -/
theorem spot_eq (v : IVec S2097152 32) (j : S2097152.Idx) (hv : (v j).toNat < 361) : spot v j = v j := by
  have hi : (v j).toInt = ((v j).toNat : ℤ) := BitVec.toInt_eq_toNat_of_lt (by omega)
  have hc : clip0 v j = v j := by
    show IntOp.maxsi (0#32) (v j) = v j
    have h0 : (0#32 : BitVec 32).toInt = 0 := rfl
    unfold IntOp.maxsi
    simp only [BitVec.sle, BitVec.slt, h0, hi]
    simp
  show Scalar.select (IntOp.cmpi .slt (clip0 v j) (0#32)) (IntOp.addi (clip0 v j) (361#32)) (clip0 v j) = v j
  rw [hc]
  have h : IntOp.cmpi .slt (v j) (0#32) = 0#1 := by
    have h0 : (0#32 : BitVec 32).toInt = 0 := rfl
    have hd : decide (((v j).toNat : ℤ) < 0) = false := decide_eq_false (by omega)
    simp only [IntOp.cmpi, BitVec.slt, h0, hi, hd]
    rfl
  rw [h, select_zero]

/-- Where a pixel's one lands. -/
theorem lands (v : IVec S2097152 32) (hv : ∀ j, (v j).toNat < 361) (j : S2097152.Idx) :
    scatter_S361_S2097152x1_S2097152_n_0_0_1.resultIdx? j (broadcastInDim S2097152x1 ![0] bcast_S2097152_S2097152x1_0 (spot v))
      = some (ix1 ⟨(v j).toNat, hv j⟩) := by
  have hi : (v j).toInt = ((v j).toNat : ℤ) := BitVec.toInt_eq_toNat_of_lt (by have := hv j; omega)
  have hs : ∀ a, scatter_S361_S2097152x1_S2097152_n_0_0_1.start j (broadcastInDim S2097152x1 ![0] bcast_S2097152_S2097152x1_0 (spot v)) a = ((v j).toNat : ℤ) := by
    intro a
    obtain rfl : a = 0 := Subsingleton.elim _ _
    rw [← hi, ← spot_eq v j (hv j)]
    unfold ScatterDims.start
    rw [dif_pos (by exact List.mem_singleton.mpr rfl)]
    congr 1
    refine (broadcastInDim_apply _ _ _ _ j fun b => ?_)
    obtain rfl : b = 0 := Subsingleton.elim _ _
    rfl
  have hw : ∀ a, scatter_S361_S2097152x1_S2097152_n_0_0_1.window j a = 0 := by
    intro a
    obtain rfl : a = 0 := Subsingleton.elim _ _
    rfl
  have hlt := hv j
  unfold ScatterDims.resultIdx?
  rw [dif_pos]
  · congr 1
    funext a
    apply Fin.ext
    show (scatter_S361_S2097152x1_S2097152_n_0_0_1.start j _ a + (scatter_S361_S2097152x1_S2097152_n_0_0_1.window j a : ℤ)).toNat = _
    rw [hs, hw]
    obtain rfl : a = 0 := Subsingleton.elim _ _
    show (((v j).toNat : ℤ) + ((0 : ℕ) : ℤ)).toNat = (v j).toNat
    omega
  · intro a
    rw [hs, hw]
    obtain rfl : a = 0 := Subsingleton.elim _ _
    show 0 ≤ ((v j).toNat : ℤ) + ((0 : ℕ) : ℤ) ∧ ((v j).toNat : ℤ) + ((0 : ℕ) : ℤ) < ((361 : ℕ) : ℤ)
    omega

/-- The reference's counts. -/
theorem tally_eq (v : IVec S2097152 32) (hv : ∀ j, (v j).toNat < 361) (i : Fin 361) :
    tally v (ix1 i) = BitVec.ofNat 32 (∑ j : S2097152.Idx, if (v j).toNat = i.val then 1 else 0) := by
  unfold tally
  refine (scatter_count _ _ _ _ (fun j => ix1 ⟨(v j).toNat, hv j⟩) (lands v hv) (fun _ => rfl) _).trans ?_
  rw [ofNat_nsmul]
  refine (BitVec.zero_add _).trans (congrArg (BitVec.ofNat 32) ?_)
  exact sum_ite (fun j => (v j).toNat) hv i

/-- The reference's pair indices are the pixels'. -/
theorem ind_eq (o : FVec Ideal S8x19x512x512 .f32) (t : IVec S8x512x512 32) (r : S8x19x512x512.Idx → ℝ) (hr : ∀ i, o i = (r i : EReal))
    (ht : ∀ y, (t y).toNat < 19) (j : S2097152.Idx) :
    ind (F := Ideal) o t j = pr o t (Shape.reshapeEquiv shapeCasts_S8x512x512_S2097152 j) := by
  have e1 := amax_hot t (Shape.reshapeEquiv shapeCasts_S8x512x512_S2097152 j) (ht _)
  have e2 := amax_probs o (Shape.reshapeEquiv shapeCasts_S8x512x512_S2097152 j) _ (fun k => hr (ix4 _ k _ _))
  have e : ind (F := Ideal) o t j = 19#32 * amax (F := Ideal) (hot t) (Shape.reshapeEquiv shapeCasts_S8x512x512_S2097152 j)
    + amax (F := Ideal) (probs o) (Shape.reshapeEquiv shapeCasts_S8x512x512_S2097152 j) := rfl
  rw [e, e1, e2]
  unfold pr pix
  rw [BitVec.mul_comm]

/-- The confusion matrix, entry by entry. -/
theorem conf_eq (o : FVec Ideal S8x19x512x512 .f32) (t : IVec S8x512x512 32) (r : S8x19x512x512.Idx → ℝ) (hr : ∀ i, o i = (r i : EReal))
    (ht : ∀ y, (t y).toNat < 19) (a b : Fin 19) :
    conf (F := Ideal) (tally (ind o t)) (ix2 a b) = ((num (pr o t) (fun n => n = 19 * a.val + b.val) : ℕ) : EReal) := by
  have hv : ∀ j, (ind (F := Ideal) o t j).toNat < 361 := fun j => by rw [ind_eq o t r hr ht]; exact pr_lt o t ht _
  unfold conf
  have hab : 19 * a.val + b.val < 361 := by omega
  rw [shapeCast_apply _ _ _ (ix1 ⟨19 * a.val + b.val, hab⟩) (by
    rw [Shape.rowMajor_val_one, Shape.rowMajor_val_two]
    show 19 * a.val + b.val = a.val * 19 + b.val
    omega)]
  show (((tally (ind (F := Ideal) o t) (ix1 ⟨19 * a.val + b.val, hab⟩)).toInt : ℝ) : EReal) = _
  rw [tally_eq _ hv]
  have hn : (∑ j : S2097152.Idx, if (ind (F := Ideal) o t j).toNat = 19 * a.val + b.val then 1 else 0)
      = num (pr o t) (fun n => n = 19 * a.val + b.val) := by
    unfold num
    rw [← Equiv.sum_comp (Shape.reshapeEquiv shapeCasts_S8x512x512_S2097152)]
    exact Finset.sum_congr rfl fun j _ => by rw [ind_eq o t r hr ht]
  rw [hn]
  have hle := num_le (pr o t) (fun n => n = 19 * a.val + b.val)
  generalize num (pr o t) (fun n => n = 19 * a.val + b.val) = N at hle
  have hN : (BitVec.ofNat 32 N).toNat = N := by rw [BitVec.toNat_ofNat]; omega
  rw [BitVec.toInt_eq_toNat_of_lt (by omega), hN]
  rfl

end Cert.Proof.Scatter
-- ==== Proof.RefSum.lean ====
/-
  The reference's sums of its confusion matrix, as counts of pixels, and its loss of them.
-/
module

public import proofs.«01_k».proof.Proof.Scatter
public import proofs.«01_k».proof.Proof.LossVal

@[expose] public section

set_option maxRecDepth 16000
set_option pp.maxSteps 2000

noncomputable section

namespace Cert.Proof.RefSum

open Idealize.ShloMosaic Idealize.ShloMosaic.ValueIdx
open Cert.Proof.RefVal Cert.Proof.Fold Cert.Proof.LossVal
open Cert.ReferenceIdeal
open Cert.ReferenceIdeal.Facts₀ Cert.ReferenceIdeal.Facts

variable [Cert.ReferenceIdeal.Facts]

theorem red1 : S19x19.Reduces [1] S19 := by decide
theorem red0 : S19x19.Reduces [0] S19 := by decide

theorem lift1 (r k : Fin 19) : red1.lift (ix1 r) k = (ix2 r k : S19x19.Idx) := by
  funext a; fin_cases a <;> rfl
theorem lift0 (r k : Fin 19) : red0.lift (ix1 r) k = (ix2 k r : S19x19.Idx) := by
  funext a; fin_cases a <;> rfl

/-- A sum over a rank-1 shape's indices is one over its coordinate. -/
theorem sum_coord {n : ℕ} (f : Shape.Idx ⟨1, ![n]⟩ → EReal) : (∑ i, f i) = ∑ k : Fin n, f (ix1 k) := by
  refine (Function.Bijective.sum_comp (e := fun k : Fin n => (ix1 k : Shape.Idx ⟨1, ![n]⟩)) ⟨fun x y h => ?_, fun i => ⟨i 0, ?_⟩⟩ f).symm
  · exact congrFun h 0
  · funext a
    obtain rfl : a = 0 := Subsingleton.elim _ _
    rfl

theorem zero_const (i : S_.Idx) : constant (F := Ideal) S_ .f32 0x00000000#32 i = 0 := Ideal.ofBits_zero_f32

theorem rows_eq (c : FVec Ideal S19x19 .f32) (r : Fin 19) : rows (F := Ideal) c (ix1 r) = ∑ k : Fin 19, c (ix2 r k) := by
  refine (Ideal.hostReduceAdd_single _ red1 c _ (ix1 r)).trans ?_
  refine (congrArg₂ (· + ·) (zero_const _) (Finset.sum_congr rfl fun k _ => congrArg c (lift1 r k))).trans (zero_add _)

theorem cols_eq (c : FVec Ideal S19x19 .f32) (r : Fin 19) : cols (F := Ideal) c (ix1 r) = ∑ k : Fin 19, c (ix2 k r) := by
  refine (Ideal.hostReduceAdd_single _ red0 c _ (ix1 r)).trans ?_
  refine (congrArg₂ (· + ·) (zero_const _) (Finset.sum_congr rfl fun k _ => congrArg c (lift0 r k))).trans (zero_add _)

/-- The mask the diagonal is taken with. -/
theorem eye (r k : Fin 19) : FloatOps.uitofp (F := Ideal) .f32 (IntOp.cmpi .eq (BitVec.ofNat 32 r.val + 0#32) (BitVec.ofNat 32 k.val))
    = if k = r then 1 else 0 := by
  have h : IntOp.cmpi .eq (BitVec.ofNat 32 r.val + 0#32) (BitVec.ofNat 32 k.val) = if k = r then 1#1 else 0#1 := by revert r k; decide
  rw [h]
  split
  · show (((1#1).toNat : ℝ) : EReal) = 1
    simp
  · show (((0#1).toNat : ℝ) : EReal) = 0
    simp

theorem diag_eq (c : FVec Ideal S19x19 .f32) (r : Fin 19) : diag (F := Ideal) c (ix1 r) = c (ix2 r r) := by
  refine (Ideal.hostReduceAdd_single _ red1 _ _ (ix1 r)).trans ?_
  have h : ∀ k : Fin 19, mulf (F := Ideal) c (uitofp .f32 (cmpi .eq (addi (iotaInDim S19x19 32 0) (broadcastInDim S19x19 ![] bcast_S_S19x19 (constantI S_ 32 0#32))) (iotaInDim S19x19 32 1))) (red1.lift (ix1 r) k)
      = c (ix2 r k) * (if k = r then 1 else 0) := fun k => (congrArg _ (lift1 r k)).trans (congrArg (c (ix2 r k) * ·) (eye r k))
  refine (congrArg₂ (· + ·) (zero_const _) ((Finset.sum_congr rfl fun k _ => h k).trans ?_)).trans (zero_add _)
  have e : ∀ k : Fin 19, c (ix2 r k) * (if k = r then 1 else 0) = if k = r then c (ix2 r k) else 0 := fun k => by
    split
    · exact mul_one _
    · exact mul_zero _
  refine (Finset.sum_congr rfl fun k _ => e k).trans ?_
  exact (Finset.sum_ite_eq' Finset.univ r _).trans (if_pos (Finset.mem_univ _))

theorem total_eq (c : FVec Ideal S19x19 .f32) (i : S_.Idx) :
    Host.reduceAdd c (constant (F := Ideal) S_ .f32 0x00000000#32) reducesTo_S19x19_S_d0_1 h_S_ i = ∑ a : Fin 19, ∑ b : Fin 19, c (ix2 a b) := by
  refine (Ideal.hostReduceAdd_total _ (fun b => b.elim0) c _ i).trans ?_
  exact (congrArg₂ (· + ·) (zero_const _) (sum_idx2 c)).trans (zero_add _)

section Loss

variable (v : Px.Idx → BitVec 32) (hv : ∀ y, (v y).toNat < 361) (c : FVec Ideal S19x19 .f32)
  (hc : ∀ a b : Fin 19, c (ix2 a b) = ((num v (fun n => n = 19 * a.val + b.val) : ℕ) : EReal))

include hc in
theorem rows_num (r : Fin 19) : rows (F := Ideal) c (ix1 r) = (hN v r : EReal) := by
  rw [rows_eq]
  simp only [hc]
  rw [← Nat.cast_sum]
  exact congrArg Nat.cast (sum_num v (fun (k : Fin 19) n => n = 19 * r.val + k.val) _ fun y => sum_row r _)

include hc hv in
theorem cols_num (r : Fin 19) : cols (F := Ideal) c (ix1 r) = (pN v r : EReal) := by
  rw [cols_eq]
  simp only [hc]
  rw [← Nat.cast_sum]
  exact congrArg Nat.cast (sum_num v (fun (k : Fin 19) n => n = 19 * k.val + r.val) _ fun y => sum_col r _ (hv y))

include hc in
theorem diag_num (r : Fin 19) : diag (F := Ideal) c (ix1 r) = (dN v r : EReal) := by
  rw [diag_eq, hc]
  unfold dN
  have e : 19 * r.val + r.val = 20 * r.val := by omega
  rw [e]

include hc hv in
theorem total_num (i : S_.Idx) : Host.reduceAdd c (constant (F := Ideal) S_ .f32 0x00000000#32) reducesTo_S19x19_S_d0_1 h_S_ i
    = ((2097152 : ℕ) : EReal) := by
  refine (total_eq c i).trans ?_
  have h : ∀ a : Fin 19, (∑ b : Fin 19, c (ix2 a b)) = (hN v a : EReal) := fun a => (rows_eq c a).symm.trans (rows_num v c hc a)
  refine (Finset.sum_congr rfl fun a _ => h a).trans ?_
  rw [← Nat.cast_sum]
  exact congrArg Nat.cast ((sum_num v (fun (k : Fin 19) n => n / 19 = k.val) (fun _ => True) fun y => sum_all _ (hv y)).trans (num_true v))

theorem each_apply (b : BitVec 32) (r : Fin 19) : each (F := Ideal) b (ix1 r) = Ideal.ofBits .f32 b := rfl

theorem smooth_apply (r : Fin 19) : smooth (F := Ideal) (ix1 r) = 1 * eps := by
  have h : smooth (F := Ideal) (ix1 r) = Ideal.ofBits .f32 0x3F800000#32 * eps := rfl
  rw [h, Ideal.ofBits_one_f32]

include hc hv in
theorem tn_apply (r : Fin 19) : tn (F := Ideal) c (rows c) (cols c) (diag c) (ix1 r) = tnV (hN v r) (pN v r) (dN v r) := by
  have h : tn (F := Ideal) c (rows c) (cols c) (diag c) (ix1 r)
    = ((Ideal.ofBits .f32 0x3F800000#32 * broadcastInDim S19 ![] bcast_S_S19 (Host.reduceAdd c (constant (F := Ideal) S_ .f32 0x00000000#32) reducesTo_S19x19_S_d0_1 h_S_) (ix1 r)
        - diag (F := Ideal) c (ix1 r)) - (rows (F := Ideal) c (ix1 r) - diag (F := Ideal) c (ix1 r))) - (cols (F := Ideal) c (ix1 r) - diag (F := Ideal) c (ix1 r)) := rfl
  have hb : broadcastInDim S19 ![] bcast_S_S19 (Host.reduceAdd c (constant (F := Ideal) S_ .f32 0x00000000#32) reducesTo_S19x19_S_d0_1 h_S_) (ix1 r) = ((2097152 : ℕ) : EReal) := by
    unfold broadcastInDim
    exact total_num v hv c hc _
  rw [h, hb, rows_num v c hc, cols_num v hv c hc, diag_num v c hc, Ideal.ofBits_one_f32]
  rfl

include hc hv in
theorem sens_apply (r : Fin 19) : sens (F := Ideal) (cols c) (diag c) (ix1 r) = sensV (pN v r) (dN v r) := by
  have h : sens (F := Ideal) (cols c) (diag c) (ix1 r) = Ideal.div (diag (F := Ideal) c (ix1 r) + smooth (F := Ideal) (ix1 r))
      ((diag (F := Ideal) c (ix1 r) + (cols (F := Ideal) c (ix1 r) - diag (F := Ideal) c (ix1 r))) + smooth (F := Ideal) (ix1 r)) := rfl
  rw [h, smooth_apply, cols_num v hv c hc, diag_num v c hc, sens_den, one_mul]
  rfl

include hc hv in
theorem spec_apply (r : Fin 19) : spec (F := Ideal) c (rows c) (cols c) (diag c) (ix1 r) = specV (hN v r) (pN v r) (dN v r) := by
  have h : spec (F := Ideal) c (rows c) (cols c) (diag c) (ix1 r)
    = Ideal.div (tn (F := Ideal) c (rows c) (cols c) (diag c) (ix1 r) + smooth (F := Ideal) (ix1 r))
      ((tn (F := Ideal) c (rows c) (cols c) (diag c) (ix1 r) + (rows (F := Ideal) c (ix1 r) - diag (F := Ideal) c (ix1 r))) + smooth (F := Ideal) (ix1 r)) := rfl
  rw [h, smooth_apply, tn_apply v hv c hc, rows_num v c hc, diag_num v c hc, spec_num, spec_den]
  rfl

include hc hv in
/-- The reference's loss. -/
theorem loss_eq (i : S_.Idx) : lossOf (F := Ideal) c (rows c) (cols c) (diag c) i = lossV (hN v) (pN v) (dN v) := by
  have h : lossOf (F := Ideal) c (rows c) (cols c) (diag c) i = Ideal.ofBits .f32 0x3F800000#32 - Ideal.div
      (Host.reduceAdd (addf (mulf (each 0x3F000000#32) (sens (F := Ideal) (cols c) (diag c))) (mulf (each 0x3F000000#32) (spec (F := Ideal) c (rows c) (cols c) (diag c))))
        (constant (F := Ideal) S_ .f32 0x00000000#32) reducesTo_S19_S_d0 h_S_ i) classes := rfl
  have hs : Host.reduceAdd (addf (mulf (each 0x3F000000#32) (sens (F := Ideal) (cols c) (diag c))) (mulf (each 0x3F000000#32) (spec (F := Ideal) c (rows c) (cols c) (diag c))))
        (constant (F := Ideal) S_ .f32 0x00000000#32) reducesTo_S19_S_d0 h_S_ i
      = ∑ r : Fin 19, (half * sensV (pN v r) (dN v r) + half * specV (hN v r) (pN v r) (dN v r)) := by
    refine (Ideal.hostReduceAdd_total _ (fun b => b.elim0) _ _ i).trans ?_
    refine (congrArg₂ (· + ·) (zero_const _) ((sum_coord _).trans (Finset.sum_congr rfl fun k _ => ?_))).trans (zero_add _)
    rw [← sens_apply v hv c hc, ← spec_apply v hv c hc]
    rfl
  rw [h, hs, Ideal.ofBits_one_f32]
  rfl

end Loss

end Cert.Proof.RefSum
-- ==== Proof.Algebraic.lean ====
/-
  The idealised kernel and the reference leave the same loss: both leave the number of the same counts of pixels.
-/
module

public import proofs.«01_k».proof.Proof.LossEq
public import proofs.«01_k».proof.Proof.RefSum
public import proofs.«01_k».proof.Proof.Frames
public import proofs.«01_k».proof.Proof.RefRun

@[expose] public section

set_option maxRecDepth 16000
set_option pp.maxSteps 2000

noncomputable section

namespace Cert.Proof.Algebraic

open Idealize.ShloMosaic Idealize.ShloMosaic.StableHlo Idealize.SL.Sem
open Cert.Proof.Fold Cert.Proof.LossVal

/-- A finite logit is a real. -/
theorem real_of_finite (x : EReal)
    (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have ht : FloatOps.ofBits (F := Ideal) .f32 0x7F800000#32 = (⊤ : EReal) := by
    show Ideal.ofBits .f32 0x7F800000#32 = ⊤
    simp [Ideal.ofBits, Ideal.ieee]
  have hl : max x (-x) < (⊤ : EReal) := by
    rw [ht] at h
    by_contra hn
    have h' : BitVec.ofBool (decide (max x (-x) < (⊤ : EReal))) = 1#1 := h
    rw [decide_eq_false hn] at h'
    exact absurd h' (by decide)
  refine (EReal.coe_toReal (fun e => ?_) fun e => ?_).symm
  · rw [e] at hl; simp at hl
  · rw [e] at hl; simp at hl

section Kernel

open Cert.KernelIdeal

/-- The kernel's result. -/
theorem res_eq (m : (ℓ : Loc nD τ sig) → Buf (Elt Ideal) ℓ) (c : Dev nD) (ht : ∀ y, (Values.tgt m c y).toNat < 19) (i : S_.Idx) :
    Hlo.res (F := Ideal) m c i
      = lossV (hN (pr (Values.outp m c) (Values.tgt m c))) (pN (pr (Values.outp m c) (Values.tgt m c))) (dN (pr (Values.outp m c) (Values.tgt m c))) :=
  LossEq.epi_eq (pr (Values.outp m c) (Values.tgt m c)) (pr_lt _ _ ht) _

end Kernel

section Reference

variable [Cert.ReferenceIdeal.Facts]

open Cert.ReferenceIdeal

/-- The reference's result. -/
theorem ref_eq (o : FVec Ideal S8x19x512x512 .f32) (t : IVec S8x512x512 32) (r : S8x19x512x512.Idx → ℝ) (hr : ∀ i, o i = (r i : EReal))
    (ht : ∀ y, (t y).toNat < 19) (i : S_.Idx) :
    (fun c => RefVal.lossOf (F := Ideal) c (RefVal.rows c) (RefVal.cols c) (RefVal.diag c)) (RefVal.conf (RefVal.tally (RefVal.ind (F := Ideal) o t))) i
      = lossV (hN (pr o t)) (pN (pr o t)) (dN (pr o t)) :=
  RefSum.loss_eq (pr o t) (pr_lt o t ht) _ (Scatter.conf_eq o t r hr ht) i

end Reference

variable [Cert.ReferenceIdeal.Facts]

theorem algebraic : Cert.algebraic_KernelIdeal_ReferenceIdeal_pre_drawn := by
  intro m g m' g' hpre hm
  have hp := fun c => Pre.parts _ _ (hpre c)
  refine ⟨fun c => Hlo.res (F := Ideal) m c, ?_, ?_⟩
  · exact (θ_run _ _ _).mono (fun _ hr c => ⟨(hr.1 c).2.2, (hr.1 c).1, (hr.1 c).2.1⟩) (Frames.ideal m g fun c => (hp c).2)
  · refine (θ_run _ _ _).mono (fun r h c => ⟨?_, (h c _).trans (Ref.end_arg0 _), (h c _).trans (Ref.end_arg1 _)⟩) (Ref.run m' g')
    refine (h c Cert.ReferenceIdeal.main_v69).trans ((RefVal.result _).trans ?_)
    funext i
    have e0 : launchContents m' c (Proc.devRef .tc Cert.ReferenceIdeal.main_arg0) = Values.outp m c := (hm c).1
    have e1 : launchContents m' c (Proc.devRef .tc Cert.ReferenceIdeal.main_arg1) = Values.tgt m c := (hm c).2
    rw [e0, e1]
    exact (ref_eq (Values.outp m c) (Values.tgt m c) (fun i => (Values.outp m c i).toReal) (fun i => real_of_finite _ ((hp c).1 i)) (hp c).2 i).trans
      (res_eq m c (hp c).2 i).symm

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_drawn
public import proofs.«01_k».proof.Proof.Gen.Pre_labels
public import proofs.«01_k».proof.Proof.Frames
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_labels.Gen.facts, Cert.Pre_drawn.Gen.facts,
  Frames.frame_Kernel, Frames.frame_KernelIdeal, Frames.frame_KernelIdeal_drawn, Ref.frame, Ref.frame_drawn, trivial, Algebraic.algebraic⟩

end Cert.Proof

end
